-- ==== Defs.lean ====
def Pre_Swa2 (m : (ℓ : Loc Cert.Swa2.nD Cert.Swa2.τ Cert.Swa2.sig) → Buf (Elt Bits) ℓ) : Prop :=
  True

def Pre_Swa2Ideal (m : (ℓ : Loc Cert.Swa2Ideal.nD Cert.Swa2Ideal.τ Cert.Swa2Ideal.sig) → Buf (Elt Ideal) ℓ) : Prop :=
  True

def Pre_Swa2Ideal_finite_queries_keys [hPre_finite_queries_keys : Cert.Pre_finite_queries_keys.Facts] (m : (ℓ : Loc Cert.Swa2Ideal.nD Cert.Swa2Ideal.τ Cert.Swa2Ideal.sig) → Buf (Elt Ideal) ℓ) : Prop :=
  ∀ c : Dev Cert.Swa2Ideal.nD,
    (Cert.Pre_finite_queries_keys.fn (F := Ideal) (m ((c.tc : Thread Cert.Swa2Ideal.nD Cert.Swa2Ideal.τ).loc Cert.Swa2Ideal.main_arg0))).1 = (fun _ => 1#1)
    ∧ (Cert.Pre_finite_queries_keys.fn (F := Ideal) (m ((c.tc : Thread Cert.Swa2Ideal.nD Cert.Swa2Ideal.τ).loc Cert.Swa2Ideal.main_arg0))).2 = (fun _ => 1#1)

def Pre_Ref2Ideal (m : (ℓ : Loc Cert.Ref2Ideal.nD Cert.Ref2Ideal.τ Cert.Ref2Ideal.sig) → Buf (Elt Ideal) ℓ) : Prop :=
  True

def Pre_Ref2Ideal_finite_queries_keys [hPre_finite_queries_keys : Cert.Pre_finite_queries_keys.Facts] (m : (ℓ : Loc Cert.Ref2Ideal.nD Cert.Ref2Ideal.τ Cert.Ref2Ideal.sig) → Buf (Elt Ideal) ℓ) : Prop :=
  ∀ c : Dev Cert.Ref2Ideal.nD,
    (Cert.Pre_finite_queries_keys.fn (F := Ideal) (m ((c.tc : Thread Cert.Ref2Ideal.nD Cert.Ref2Ideal.τ).loc Cert.Ref2Ideal.main_arg0))).1 = (fun _ => 1#1)
    ∧ (Cert.Pre_finite_queries_keys.fn (F := Ideal) (m ((c.tc : Thread Cert.Ref2Ideal.nD Cert.Ref2Ideal.τ).loc Cert.Ref2Ideal.main_arg0))).2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_RefDenseIdeal (m : (ℓ : Loc Cert.RefDenseIdeal.nD Cert.RefDenseIdeal.τ Cert.RefDenseIdeal.sig) → Buf (Elt Ideal) ℓ) : Prop :=
  True

def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_RefExpertsIdeal (m : (ℓ : Loc Cert.RefExpertsIdeal.nD Cert.RefExpertsIdeal.τ Cert.RefExpertsIdeal.sig) → Buf (Elt Ideal) ℓ) : Prop :=
  True

def Pre_RefExpertsIdeal_experts_exist [hPre_experts_exist : Cert.Pre_experts_exist.Facts] (m : (ℓ : Loc Cert.RefExpertsIdeal.nD Cert.RefExpertsIdeal.τ Cert.RefExpertsIdeal.sig) → Buf (Elt Ideal) ℓ) : Prop :=
  ∀ c : Dev Cert.RefExpertsIdeal.nD,
    (Cert.Pre_experts_exist.fn (F := Ideal) (m ((c.tc : Thread Cert.RefExpertsIdeal.nD Cert.RefExpertsIdeal.τ).loc Cert.RefExpertsIdeal.main_arg0)) (m ((c.tc : Thread Cert.RefExpertsIdeal.nD Cert.RefExpertsIdeal.τ).loc Cert.RefExpertsIdeal.main_arg1)) (m ((c.tc : Thread Cert.RefExpertsIdeal.nD Cert.RefExpertsIdeal.τ).loc Cert.RefExpertsIdeal.main_arg2)) (m ((c.tc : Thread Cert.RefExpertsIdeal.nD Cert.RefExpertsIdeal.τ).loc Cert.RefExpertsIdeal.main_arg3)) (m ((c.tc : Thread Cert.RefExpertsIdeal.nD Cert.RefExpertsIdeal.τ).loc Cert.RefExpertsIdeal.main_arg4)) (m ((c.tc : Thread Cert.RefExpertsIdeal.nD Cert.RefExpertsIdeal.τ).loc Cert.RefExpertsIdeal.main_arg5))).1 = (fun _ => 1#1)
    ∧ (Cert.Pre_experts_exist.fn (F := Ideal) (m ((c.tc : Thread Cert.RefExpertsIdeal.nD Cert.RefExpertsIdeal.τ).loc Cert.RefExpertsIdeal.main_arg0)) (m ((c.tc : Thread Cert.RefExpertsIdeal.nD Cert.RefExpertsIdeal.τ).loc Cert.RefExpertsIdeal.main_arg1)) (m ((c.tc : Thread Cert.RefExpertsIdeal.nD Cert.RefExpertsIdeal.τ).loc Cert.RefExpertsIdeal.main_arg2)) (m ((c.tc : Thread Cert.RefExpertsIdeal.nD Cert.RefExpertsIdeal.τ).loc Cert.RefExpertsIdeal.main_arg3)) (m ((c.tc : Thread Cert.RefExpertsIdeal.nD Cert.RefExpertsIdeal.τ).loc Cert.RefExpertsIdeal.main_arg4)) (m ((c.tc : Thread Cert.RefExpertsIdeal.nD Cert.RefExpertsIdeal.τ).loc Cert.RefExpertsIdeal.main_arg5))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_RefInprojIdeal (m : (ℓ : Loc Cert.RefInprojIdeal.nD Cert.RefInprojIdeal.τ Cert.RefInprojIdeal.sig) → Buf (Elt Ideal) ℓ) : Prop :=
  True

def quiescent_Swa2 [hSwa2 : Cert.Swa2.Facts] : Prop :=
  ∀ (m : (ℓ : Loc Cert.Swa2.nD Cert.Swa2.τ Cert.Swa2.sig) → Buf (Elt Bits) ℓ) (g : Dev Cert.Swa2.nD → PrngReg), Pre_Swa2 m →
    θ_run (Cert.Swa2.defs (F := Bits)) (onTc (τ := Cert.Swa2.τ) (Cert.Swa2.main (F := Bits))) ⟨m, fun _ => 0, g⟩ (fun r => (∀ c : Dev Cert.Swa2.nD,
      r.2.mem ((c.tc : Thread Cert.Swa2.nD Cert.Swa2.τ).loc Cert.Swa2.main_arg0) = m ((c.tc : Thread Cert.Swa2.nD Cert.Swa2.τ).loc Cert.Swa2.main_arg0))
      ∧ r.2.sem = fun _ => 0)

def quiescent_Swa2Ideal [hSwa2Ideal : Cert.Swa2Ideal.Facts] : Prop :=
  ∀ (m : (ℓ : Loc Cert.Swa2Ideal.nD Cert.Swa2Ideal.τ Cert.Swa2Ideal.sig) → Buf (Elt Ideal) ℓ) (g : Dev Cert.Swa2Ideal.nD → PrngReg), Pre_Swa2Ideal m →
    θ_run (Cert.Swa2Ideal.defs (F := Ideal)) (onTc (τ := Cert.Swa2Ideal.τ) (Cert.Swa2Ideal.main (F := Ideal))) ⟨m, fun _ => 0, g⟩ (fun r => (∀ c : Dev Cert.Swa2Ideal.nD,
      r.2.mem ((c.tc : Thread Cert.Swa2Ideal.nD Cert.Swa2Ideal.τ).loc Cert.Swa2Ideal.main_arg0) = m ((c.tc : Thread Cert.Swa2Ideal.nD Cert.Swa2Ideal.τ).loc Cert.Swa2Ideal.main_arg0))
      ∧ r.2.sem = fun _ => 0)

def quiescent_Swa2Ideal_pre_finite_queries_keys [hSwa2Ideal : Cert.Swa2Ideal.Facts] [hPre_finite_queries_keys : Cert.Pre_finite_queries_keys.Facts] : Prop :=
  ∀ (m : (ℓ : Loc Cert.Swa2Ideal.nD Cert.Swa2Ideal.τ Cert.Swa2Ideal.sig) → Buf (Elt Ideal) ℓ) (g : Dev Cert.Swa2Ideal.nD → PrngReg), Pre_Swa2Ideal_finite_queries_keys m →
    θ_run (Cert.Swa2Ideal.defs (F := Ideal)) (onTc (τ := Cert.Swa2Ideal.τ) (Cert.Swa2Ideal.main (F := Ideal))) ⟨m, fun _ => 0, g⟩ (fun r => (∀ c : Dev Cert.Swa2Ideal.nD,
      r.2.mem ((c.tc : Thread Cert.Swa2Ideal.nD Cert.Swa2Ideal.τ).loc Cert.Swa2Ideal.main_arg0) = m ((c.tc : Thread Cert.Swa2Ideal.nD Cert.Swa2Ideal.τ).loc Cert.Swa2Ideal.main_arg0))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0))
      ∧ r.2.sem = fun _ => 0)

def quiescent_Ref2Ideal_pre_finite_queries_keys [hRef2Ideal : Cert.Ref2Ideal.Facts] [hPre_finite_queries_keys : Cert.Pre_finite_queries_keys.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal_finite_queries_keys m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_RefDenseIdeal [hRefDenseIdeal : Cert.RefDenseIdeal.Facts] : Prop :=
  ∀ (m : (ℓ : Loc Cert.RefDenseIdeal.nD Cert.RefDenseIdeal.τ Cert.RefDenseIdeal.sig) → Buf (Elt Ideal) ℓ) (g : Dev Cert.RefDenseIdeal.nD → PrngReg), Pre_RefDenseIdeal m →
    θ_run (Cert.RefDenseIdeal.defs (F := Ideal)) (onTc (τ := Cert.RefDenseIdeal.τ) (Cert.RefDenseIdeal.main (F := Ideal))) ⟨m, fun _ => 0, g⟩ (fun r => (∀ c : Dev Cert.RefDenseIdeal.nD,
      r.2.mem ((c.tc : Thread Cert.RefDenseIdeal.nD Cert.RefDenseIdeal.τ).loc Cert.RefDenseIdeal.main_arg0) = m ((c.tc : Thread Cert.RefDenseIdeal.nD Cert.RefDenseIdeal.τ).loc Cert.RefDenseIdeal.main_arg0)
      ∧ r.2.mem ((c.tc : Thread Cert.RefDenseIdeal.nD Cert.RefDenseIdeal.τ).loc Cert.RefDenseIdeal.main_arg1) = m ((c.tc : Thread Cert.RefDenseIdeal.nD Cert.RefDenseIdeal.τ).loc Cert.RefDenseIdeal.main_arg1)
      ∧ r.2.mem ((c.tc : Thread Cert.RefDenseIdeal.nD Cert.RefDenseIdeal.τ).loc Cert.RefDenseIdeal.main_arg2) = m ((c.tc : Thread Cert.RefDenseIdeal.nD Cert.RefDenseIdeal.τ).loc Cert.RefDenseIdeal.main_arg2)
      ∧ r.2.mem ((c.tc : Thread Cert.RefDenseIdeal.nD Cert.RefDenseIdeal.τ).loc Cert.RefDenseIdeal.main_arg3) = m ((c.tc : Thread Cert.RefDenseIdeal.nD Cert.RefDenseIdeal.τ).loc Cert.RefDenseIdeal.main_arg3)
      ∧ r.2.mem ((c.tc : Thread Cert.RefDenseIdeal.nD Cert.RefDenseIdeal.τ).loc Cert.RefDenseIdeal.main_arg4) = m ((c.tc : Thread Cert.RefDenseIdeal.nD Cert.RefDenseIdeal.τ).loc Cert.RefDenseIdeal.main_arg4))
      ∧ r.2.sem = fun _ => 0)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_RefExpertsIdeal [hRefExpertsIdeal : Cert.RefExpertsIdeal.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5))
      ∧ r.2.sem = fun _ => 0)

def quiescent_RefExpertsIdeal_pre_experts_exist [hRefExpertsIdeal : Cert.RefExpertsIdeal.Facts] [hPre_experts_exist : Cert.Pre_experts_exist.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal_experts_exist m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3)
      ∧ r.2.mem ((c.tc : Thread Cert.RefInprojIdeal.nD Cert.RefInprojIdeal.τ).loc Cert.RefInprojIdeal.main_arg4) = m ((c.tc : Thread Cert.RefInprojIdeal.nD Cert.RefInprojIdeal.τ).loc Cert.RefInprojIdeal.main_arg4)
      ∧ r.2.mem ((c.tc : Thread Cert.RefInprojIdeal.nD Cert.RefInprojIdeal.τ).loc Cert.RefInprojIdeal.main_arg5) = m ((c.tc : Thread Cert.RefInprojIdeal.nD Cert.RefInprojIdeal.τ).loc Cert.RefInprojIdeal.main_arg5))
      ∧ r.2.sem = fun _ => 0)

def preserves_Swa2_Swa2Ideal : Prop :=
  IdealRules.named_const.Statement Cert.Swa2Ideal.κ "mask" .f32 0xF149F2CA#32 ⊥

def algebraic_Swa2Ideal_Ref2Ideal_pre_finite_queries_keys [hSwa2Ideal : Cert.Swa2Ideal.Facts] [hRef2Ideal : Cert.Ref2Ideal.Facts] [hPre_finite_queries_keys : Cert.Pre_finite_queries_keys.Facts] : Prop :=
  ∀ (m : (ℓ : Loc Cert.Swa2Ideal.nD Cert.Swa2Ideal.τ Cert.Swa2Ideal.sig) → Buf (Elt Ideal) ℓ) (g : Dev Cert.Swa2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Swa2Ideal_finite_queries_keys m →
    (∀ c : Dev Cert.Swa2Ideal.nD,
      m' ((c.tc : Thread Cert.Ref2Ideal.nD Cert.Ref2Ideal.τ).loc Cert.Ref2Ideal.main_arg0) = m ((c.tc : Thread Cert.Swa2Ideal.nD Cert.Swa2Ideal.τ).loc Cert.Swa2Ideal.main_arg0)) →
    ∃ (v0 : (c : Dev Cert.Swa2Ideal.nD) → Buf (Elt Ideal) ((c.tc : Thread Cert.Swa2Ideal.nD Cert.Swa2Ideal.τ).loc Cert.Swa2Ideal.main_v1_0)) (v1 : (c : Dev Cert.Swa2Ideal.nD) → Buf (Elt Ideal) ((c.tc : Thread Cert.Swa2Ideal.nD Cert.Swa2Ideal.τ).loc Cert.Swa2Ideal.main_v1_1)),
      θ_run (Cert.Swa2Ideal.defs (F := Ideal)) (onTc (τ := Cert.Swa2Ideal.τ) (Cert.Swa2Ideal.main (F := Ideal))) ⟨m, fun _ => 0, g⟩ (fun r => ∀ c : Dev Cert.Swa2Ideal.nD,
          r.2.mem ((c.tc : Thread Cert.Swa2Ideal.nD Cert.Swa2Ideal.τ).loc Cert.Swa2Ideal.main_v1_0) = v0 c
          ∧ r.2.mem ((c.tc : Thread Cert.Swa2Ideal.nD Cert.Swa2Ideal.τ).loc Cert.Swa2Ideal.main_v1_1) = v1 c
          ∧ r.2.mem ((c.tc : Thread Cert.Swa2Ideal.nD Cert.Swa2Ideal.τ).loc Cert.Swa2Ideal.main_arg0) = m ((c.tc : Thread Cert.Swa2Ideal.nD Cert.Swa2Ideal.τ).loc Cert.Swa2Ideal.main_arg0))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v95) = v0 c
          ∧ r.2.mem ((c.tc : Thread Cert.Ref2Ideal.nD Cert.Ref2Ideal.τ).loc Cert.Ref2Ideal.main_v100) = v1 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0))

def preserves_Dense_DenseIdeal : Prop :=
  True

def algebraic_DenseIdeal_RefDenseIdeal [hDenseIdeal : Cert.DenseIdeal.Facts] [hRefDenseIdeal : Cert.RefDenseIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.RefDenseIdeal.nD Cert.RefDenseIdeal.τ Cert.RefDenseIdeal.sig) → Buf (Elt Ideal) ℓ) (g' : Dev Cert.RefDenseIdeal.nD → PrngReg), Pre_DenseIdeal m →
    (∀ c : Dev Cert.DenseIdeal.nD,
      m' ((c.tc : Thread Cert.RefDenseIdeal.nD Cert.RefDenseIdeal.τ).loc Cert.RefDenseIdeal.main_arg0) = m ((c.tc : Thread Cert.DenseIdeal.nD Cert.DenseIdeal.τ).loc Cert.DenseIdeal.main_arg0)
      ∧ m' ((c.tc : Thread Cert.RefDenseIdeal.nD Cert.RefDenseIdeal.τ).loc Cert.RefDenseIdeal.main_arg1) = m ((c.tc : Thread Cert.DenseIdeal.nD Cert.DenseIdeal.τ).loc Cert.DenseIdeal.main_arg1)
      ∧ m' ((c.tc : Thread Cert.RefDenseIdeal.nD Cert.RefDenseIdeal.τ).loc Cert.RefDenseIdeal.main_arg2) = m ((c.tc : Thread Cert.DenseIdeal.nD Cert.DenseIdeal.τ).loc Cert.DenseIdeal.main_arg2)
      ∧ m' ((c.tc : Thread Cert.RefDenseIdeal.nD Cert.RefDenseIdeal.τ).loc Cert.RefDenseIdeal.main_arg3) = m ((c.tc : Thread Cert.DenseIdeal.nD Cert.DenseIdeal.τ).loc Cert.DenseIdeal.main_arg3)
      ∧ m' ((c.tc : Thread Cert.RefDenseIdeal.nD Cert.RefDenseIdeal.τ).loc Cert.RefDenseIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.RefDenseIdeal.defs (F := Ideal)) (onTc (τ := Cert.RefDenseIdeal.τ) (Cert.RefDenseIdeal.main (F := Ideal))) ⟨m', fun _ => 0, g'⟩ (fun r => ∀ c : Dev Cert.RefDenseIdeal.nD,
          r.2.mem ((c.tc : Thread Cert.RefDenseIdeal.nD Cert.RefDenseIdeal.τ).loc Cert.RefDenseIdeal.main_v22) = v0 c
          ∧ r.2.mem ((c.tc : Thread Cert.RefDenseIdeal.nD Cert.RefDenseIdeal.τ).loc Cert.RefDenseIdeal.main_arg0) = m' ((c.tc : Thread Cert.RefDenseIdeal.nD Cert.RefDenseIdeal.τ).loc Cert.RefDenseIdeal.main_arg0)
          ∧ r.2.mem ((c.tc : Thread Cert.RefDenseIdeal.nD Cert.RefDenseIdeal.τ).loc Cert.RefDenseIdeal.main_arg1) = m' ((c.tc : Thread Cert.RefDenseIdeal.nD Cert.RefDenseIdeal.τ).loc Cert.RefDenseIdeal.main_arg1)
          ∧ r.2.mem ((c.tc : Thread Cert.RefDenseIdeal.nD Cert.RefDenseIdeal.τ).loc Cert.RefDenseIdeal.main_arg2) = m' ((c.tc : Thread Cert.RefDenseIdeal.nD Cert.RefDenseIdeal.τ).loc Cert.RefDenseIdeal.main_arg2)
          ∧ r.2.mem ((c.tc : Thread Cert.RefDenseIdeal.nD Cert.RefDenseIdeal.τ).loc Cert.RefDenseIdeal.main_arg3) = m' ((c.tc : Thread Cert.RefDenseIdeal.nD Cert.RefDenseIdeal.τ).loc Cert.RefDenseIdeal.main_arg3)
          ∧ r.2.mem ((c.tc : Thread Cert.RefDenseIdeal.nD Cert.RefDenseIdeal.τ).loc Cert.RefDenseIdeal.main_arg4) = m' ((c.tc : Thread Cert.RefDenseIdeal.nD Cert.RefDenseIdeal.τ).loc Cert.RefDenseIdeal.main_arg4))

def preserves_Experts_ExpertsIdeal : Prop :=
  True

def algebraic_ExpertsIdeal_RefExpertsIdeal [hExpertsIdeal : Cert.ExpertsIdeal.Facts] [hRefExpertsIdeal : Cert.RefExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.RefExpertsIdeal.nD Cert.RefExpertsIdeal.τ Cert.RefExpertsIdeal.sig) → Buf (Elt Ideal) ℓ) (g' : Dev Cert.RefExpertsIdeal.nD → PrngReg), Pre_ExpertsIdeal m →
    (∀ c : Dev Cert.ExpertsIdeal.nD,
      m' ((c.tc : Thread Cert.RefExpertsIdeal.nD Cert.RefExpertsIdeal.τ).loc Cert.RefExpertsIdeal.main_arg0) = m ((c.tc : Thread Cert.ExpertsIdeal.nD Cert.ExpertsIdeal.τ).loc Cert.ExpertsIdeal.main_arg0)
      ∧ m' ((c.tc : Thread Cert.RefExpertsIdeal.nD Cert.RefExpertsIdeal.τ).loc Cert.RefExpertsIdeal.main_arg1) = m ((c.tc : Thread Cert.ExpertsIdeal.nD Cert.ExpertsIdeal.τ).loc Cert.ExpertsIdeal.main_arg1)
      ∧ m' ((c.tc : Thread Cert.RefExpertsIdeal.nD Cert.RefExpertsIdeal.τ).loc Cert.RefExpertsIdeal.main_arg2) = m ((c.tc : Thread Cert.ExpertsIdeal.nD Cert.ExpertsIdeal.τ).loc Cert.ExpertsIdeal.main_arg2)
      ∧ m' ((c.tc : Thread Cert.RefExpertsIdeal.nD Cert.RefExpertsIdeal.τ).loc Cert.RefExpertsIdeal.main_arg3) = m ((c.tc : Thread Cert.ExpertsIdeal.nD Cert.ExpertsIdeal.τ).loc Cert.ExpertsIdeal.main_arg3)
      ∧ m' ((c.tc : Thread Cert.RefExpertsIdeal.nD Cert.RefExpertsIdeal.τ).loc Cert.RefExpertsIdeal.main_arg4) = m ((c.tc : Thread Cert.ExpertsIdeal.nD Cert.ExpertsIdeal.τ).loc Cert.ExpertsIdeal.main_arg4)
      ∧ m' ((c.tc : Thread Cert.RefExpertsIdeal.nD Cert.RefExpertsIdeal.τ).loc Cert.RefExpertsIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.RefExpertsIdeal.defs (F := Ideal)) (onTc (τ := Cert.RefExpertsIdeal.τ) (Cert.RefExpertsIdeal.main (F := Ideal))) ⟨m', fun _ => 0, g'⟩ (fun r => ∀ c : Dev Cert.RefExpertsIdeal.nD,
          r.2.mem ((c.tc : Thread Cert.RefExpertsIdeal.nD Cert.RefExpertsIdeal.τ).loc Cert.RefExpertsIdeal.main_v36) = v0 c
          ∧ r.2.mem ((c.tc : Thread Cert.RefExpertsIdeal.nD Cert.RefExpertsIdeal.τ).loc Cert.RefExpertsIdeal.main_arg0) = m' ((c.tc : Thread Cert.RefExpertsIdeal.nD Cert.RefExpertsIdeal.τ).loc Cert.RefExpertsIdeal.main_arg0)
          ∧ r.2.mem ((c.tc : Thread Cert.RefExpertsIdeal.nD Cert.RefExpertsIdeal.τ).loc Cert.RefExpertsIdeal.main_arg1) = m' ((c.tc : Thread Cert.RefExpertsIdeal.nD Cert.RefExpertsIdeal.τ).loc Cert.RefExpertsIdeal.main_arg1)
          ∧ r.2.mem ((c.tc : Thread Cert.RefExpertsIdeal.nD Cert.RefExpertsIdeal.τ).loc Cert.RefExpertsIdeal.main_arg2) = m' ((c.tc : Thread Cert.RefExpertsIdeal.nD Cert.RefExpertsIdeal.τ).loc Cert.RefExpertsIdeal.main_arg2)
          ∧ r.2.mem ((c.tc : Thread Cert.RefExpertsIdeal.nD Cert.RefExpertsIdeal.τ).loc Cert.RefExpertsIdeal.main_arg3) = m' ((c.tc : Thread Cert.RefExpertsIdeal.nD Cert.RefExpertsIdeal.τ).loc Cert.RefExpertsIdeal.main_arg3)
          ∧ r.2.mem ((c.tc : Thread Cert.RefExpertsIdeal.nD Cert.RefExpertsIdeal.τ).loc Cert.RefExpertsIdeal.main_arg4) = m' ((c.tc : Thread Cert.RefExpertsIdeal.nD Cert.RefExpertsIdeal.τ).loc Cert.RefExpertsIdeal.main_arg4)
          ∧ r.2.mem ((c.tc : Thread Cert.RefExpertsIdeal.nD Cert.RefExpertsIdeal.τ).loc Cert.RefExpertsIdeal.main_arg5) = m' ((c.tc : Thread Cert.RefExpertsIdeal.nD Cert.RefExpertsIdeal.τ).loc Cert.RefExpertsIdeal.main_arg5))

def preserves_Inproj_InprojIdeal : Prop :=
  True

def algebraic_InprojIdeal_RefInprojIdeal [hInprojIdeal : Cert.InprojIdeal.Facts] [hRefInprojIdeal : Cert.RefInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojIdeal m →
    (∀ c : Dev Cert.InprojIdeal.nD,
      m' ((c.tc : Thread Cert.RefInprojIdeal.nD Cert.RefInprojIdeal.τ).loc Cert.RefInprojIdeal.main_arg0) = m ((c.tc : Thread Cert.InprojIdeal.nD Cert.InprojIdeal.τ).loc Cert.InprojIdeal.main_arg0)
      ∧ m' ((c.tc : Thread Cert.RefInprojIdeal.nD Cert.RefInprojIdeal.τ).loc Cert.RefInprojIdeal.main_arg1) = m ((c.tc : Thread Cert.InprojIdeal.nD Cert.InprojIdeal.τ).loc Cert.InprojIdeal.main_arg1)
      ∧ m' ((c.tc : Thread Cert.RefInprojIdeal.nD Cert.RefInprojIdeal.τ).loc Cert.RefInprojIdeal.main_arg2) = m ((c.tc : Thread Cert.InprojIdeal.nD Cert.InprojIdeal.τ).loc Cert.InprojIdeal.main_arg2)
      ∧ m' ((c.tc : Thread Cert.RefInprojIdeal.nD Cert.RefInprojIdeal.τ).loc Cert.RefInprojIdeal.main_arg3) = m ((c.tc : Thread Cert.InprojIdeal.nD Cert.InprojIdeal.τ).loc Cert.InprojIdeal.main_arg3)
      ∧ m' ((c.tc : Thread Cert.RefInprojIdeal.nD Cert.RefInprojIdeal.τ).loc Cert.RefInprojIdeal.main_arg4) = m ((c.tc : Thread Cert.InprojIdeal.nD Cert.InprojIdeal.τ).loc Cert.InprojIdeal.main_arg4)
      ∧ m' ((c.tc : Thread Cert.RefInprojIdeal.nD Cert.RefInprojIdeal.τ).loc Cert.RefInprojIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v105)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v105) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v262) = v0 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2)
          ∧ r.2.mem ((c.tc : Thread Cert.RefInprojIdeal.nD Cert.RefInprojIdeal.τ).loc Cert.RefInprojIdeal.main_arg3) = m' ((c.tc : Thread Cert.RefInprojIdeal.nD Cert.RefInprojIdeal.τ).loc Cert.RefInprojIdeal.main_arg3)
          ∧ r.2.mem ((c.tc : Thread Cert.RefInprojIdeal.nD Cert.RefInprojIdeal.τ).loc Cert.RefInprojIdeal.main_arg4) = m' ((c.tc : Thread Cert.RefInprojIdeal.nD Cert.RefInprojIdeal.τ).loc Cert.RefInprojIdeal.main_arg4)
          ∧ r.2.mem ((c.tc : Thread Cert.RefInprojIdeal.nD Cert.RefInprojIdeal.τ).loc Cert.RefInprojIdeal.main_arg5) = m' ((c.tc : Thread Cert.RefInprojIdeal.nD Cert.RefInprojIdeal.τ).loc Cert.RefInprojIdeal.main_arg5))

def Claim : Prop :=
  ∃ (hSwa2 : Cert.Swa2.Facts) (hSwa2Ideal : Cert.Swa2Ideal.Facts) (hRef2Ideal : Cert.Ref2Ideal.Facts) (hDense : Cert.Dense.Facts) (hDenseIdeal : Cert.DenseIdeal.Facts) (hRefDenseIdeal : Cert.RefDenseIdeal.Facts) (hExperts : Cert.Experts.Facts) (hExpertsIdeal : Cert.ExpertsIdeal.Facts) (hRefExpertsIdeal : Cert.RefExpertsIdeal.Facts) (hInproj : Cert.Inproj.Facts) (hInprojIdeal : Cert.InprojIdeal.Facts) (hRefInprojIdeal : Cert.RefInprojIdeal.Facts) (hPre_finite_queries_keys : Cert.Pre_finite_queries_keys.Facts) (hPre_experts_exist : Cert.Pre_experts_exist.Facts),
    quiescent_Swa2 (hSwa2 := hSwa2)
    ∧ quiescent_Swa2Ideal (hSwa2Ideal := hSwa2Ideal)
    ∧ quiescent_Swa2Ideal_pre_finite_queries_keys (hSwa2Ideal := hSwa2Ideal) (hPre_finite_queries_keys := hPre_finite_queries_keys)
    ∧ quiescent_Ref2Ideal (hRef2Ideal := hRef2Ideal)
    ∧ quiescent_Ref2Ideal_pre_finite_queries_keys (hRef2Ideal := hRef2Ideal) (hPre_finite_queries_keys := hPre_finite_queries_keys)
    ∧ quiescent_Dense (hDense := hDense)
    ∧ quiescent_DenseIdeal (hDenseIdeal := hDenseIdeal)
    ∧ quiescent_RefDenseIdeal (hRefDenseIdeal := hRefDenseIdeal)
    ∧ quiescent_Experts (hExperts := hExperts) (hPre_experts_exist := hPre_experts_exist)
    ∧ quiescent_ExpertsIdeal (hExpertsIdeal := hExpertsIdeal) (hPre_experts_exist := hPre_experts_exist)
    ∧ quiescent_RefExpertsIdeal (hRefExpertsIdeal := hRefExpertsIdeal)
    ∧ quiescent_RefExpertsIdeal_pre_experts_exist (hRefExpertsIdeal := hRefExpertsIdeal) (hPre_experts_exist := hPre_experts_exist)
    ∧ quiescent_Inproj (hInproj := hInproj)
    ∧ quiescent_InprojIdeal (hInprojIdeal := hInprojIdeal)
    ∧ quiescent_RefInprojIdeal (hRefInprojIdeal := hRefInprojIdeal)
    ∧ preserves_Swa2_Swa2Ideal
    ∧ algebraic_Swa2Ideal_Ref2Ideal_pre_finite_queries_keys (hSwa2Ideal := hSwa2Ideal) (hRef2Ideal := hRef2Ideal) (hPre_finite_queries_keys := hPre_finite_queries_keys)
    ∧ preserves_Dense_DenseIdeal
    ∧ algebraic_DenseIdeal_RefDenseIdeal (hDenseIdeal := hDenseIdeal) (hRefDenseIdeal := hRefDenseIdeal)
    ∧ preserves_Experts_ExpertsIdeal
    ∧ algebraic_ExpertsIdeal_RefExpertsIdeal (hExpertsIdeal := hExpertsIdeal) (hRefExpertsIdeal := hRefExpertsIdeal) (hPre_experts_exist := hPre_experts_exist)
    ∧ preserves_Inproj_InprojIdeal
    ∧ algebraic_InprojIdeal_RefInprojIdeal (hInprojIdeal := hInprojIdeal) (hRefInprojIdeal := hRefInprojIdeal)
-- ==== Pre_experts_exist.lean ====
abbrev S152 : Shape := ⟨1, ![152]⟩
abbrev S1 : Shape := ⟨1, ![1]⟩
abbrev S77824x1024 : Shape := ⟨2, ![77824, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S152 : S_.BroadcastsInDim S152 (![] : Fin 0 → Fin S152.rank)

variable [Facts]

def fn {F : FTy → Type} [FloatOps F] (main_arg0 : IVec S152 32) (main_arg1 : IVec S1 32) (main_arg2 : FVec F S77824x1024 .f32) (main_arg3 : FVec F S8x1024x3584 .bf16) (main_arg4 : FVec F S8x1024x3584 .bf16) (main_arg5 : FVec F S8x3584x1024 .bf16) : IVec S152 1 × IVec S152 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 8#32
  let main_v2 : IVec S152 32 := broadcastInDim S152 ![] bcast_S_S152 main_c_0
  let main_v3 : IVec S152 1 := cmpi .slt main_arg0 main_v2
  (main_v1, main_v3)
-- ==== Pre_finite_queries_keys.lean ====
abbrev S33024x10240 : Shape := ⟨2, ![33024, 10240]⟩
abbrev S32768x512 : Shape := ⟨2, ![32768, 512]⟩
abbrev S_ : Shape := ⟨0, ![]⟩

class Facts : Prop where
  slices_S33024x10240_S32768x512_0_2048 : S33024x10240.Slices ![0, 2048] S32768x512
  bitsLt_bf16_f32 : FTy.bits .bf16 < FTy.bits .f32
  slices_S33024x10240_S32768x512_0_3584 : S33024x10240.Slices ![0, 3584] S32768x512
  bcast_S_S32768x512 : S_.BroadcastsInDim S32768x512 (![] : Fin 0 → Fin S32768x512.rank)

variable [Facts]

def fn {F : FTy → Type} [FloatOps F] (main_arg0 : FVec F S33024x10240 .bf16) : IVec S32768x512 1 × IVec S32768x512 1 :=
  let main_v0 : FVec F S32768x512 .bf16 := (extractStridedSlice S32768x512 ![0, 2048] · slices_S33024x10240_S32768x512_0_2048) main_arg0
  let main_v1 : FVec F S32768x512 .f32 := (extf .f32 · bitsLt_bf16_f32) main_v0
  let main_v2 : FVec F S32768x512 .bf16 := (extractStridedSlice S32768x512 ![0, 3584] · slices_S33024x10240_S32768x512_0_3584) main_arg0
  let main_v3 : FVec F S32768x512 .f32 := (extf .f32 · bitsLt_bf16_f32) main_v2
  let main_v4 : FVec F S32768x512 .f32 := Host.absf main_v1
  let main_cst : FVec F S_ .f32 := constant S_ .f32 0x7F800000#32
  let main_v5 : FVec F S32768x512 .f32 := broadcastInDim S32768x512 ![] bcast_S_S32768x512 main_cst
  let main_v6 : IVec S32768x512 1 := cmpf .olt main_v4 main_v5
  let main_v7 : FVec F S32768x512 .f32 := Host.absf main_v3
  let main_cst_0 : FVec F S_ .f32 := constant S_ .f32 0x7F800000#32
  let main_v8 : FVec F S32768x512 .f32 := broadcastInDim S32768x512 ![] bcast_S_S32768x512 main_cst_0
  let main_v9 : IVec S32768x512 1 := cmpf .olt main_v7 main_v8
  (main_v6, main_v9)
-- ==== Swa2.lean ====
abbrev S33024x10240 : Shape := ⟨2, ![33024, 10240]⟩
abbrev S129x16x16x10240 : Shape := ⟨4, ![129, 16, 16, 10240]⟩
abbrev S128x16x16x512 : Shape := ⟨4, ![128, 16, 16, 512]⟩
abbrev S128x16x16x128 : Shape := ⟨4, ![128, 16, 16, 128]⟩
abbrev S32x1x16x512 : Shape := ⟨4, ![32, 1, 16, 512]⟩
abbrev S8x1x16x512 : Shape := ⟨4, ![8, 1, 16, 512]⟩
abbrev S32x1x16x128 : Shape := ⟨4, ![32, 1, 16, 128]⟩
abbrev S640x512 : Shape := ⟨2, ![640, 512]⟩
abbrev S16x128x256 : Shape := ⟨3, ![16, 128, 256]⟩
abbrev S8x16x512 : Shape := ⟨3, ![8, 16, 512]⟩
abbrev S128x512 : Shape := ⟨2, ![128, 512]⟩
abbrev S32x16x512 : Shape := ⟨3, ![32, 16, 512]⟩
abbrev S512x512 : Shape := ⟨2, ![512, 512]⟩
abbrev S128x256 : Shape := ⟨2, ![128, 256]⟩
abbrev S128x128 : Shape := ⟨2, ![128, 128]⟩
abbrev S256x128 : Shape := ⟨2, ![256, 128]⟩
abbrev S1x128x256 : Shape := ⟨3, ![1, 128, 256]⟩
abbrev S16x128 : Shape := ⟨2, ![16, 128]⟩
abbrev S16x128x1 : Shape := ⟨3, ![16, 128, 1]⟩
abbrev S1x128x1 : Shape := ⟨3, ![1, 128, 1]⟩
abbrev S128x1 : Shape := ⟨2, ![128, 1]⟩
abbrev S512x128 : Shape := ⟨2, ![512, 128]⟩
abbrev S32x16x128 : Shape := ⟨3, ![32, 16, 128]⟩

abbrev nBuf : Space → Nat
  | .hbm => 4
  | .vmem => 18
  | .smem => 0
  | _ => 0

abbrev bufTy : (tb : Table) → Fin (tcTables nBuf tb) → BufTy
  | .hbm, ⟨0, _⟩ => ⟨S33024x10240, .bf16⟩
  | .hbm, ⟨1, _⟩ => ⟨S129x16x16x10240, .bf16⟩
  | .hbm, ⟨2, _⟩ => ⟨S128x16x16x512, .bf16⟩
  | .hbm, ⟨3, _⟩ => ⟨S128x16x16x128, .f32⟩
  | .local _ .vmem, ⟨0, _⟩ => ⟨S32x1x16x512, .bf16⟩
  | .local _ .vmem, ⟨1, _⟩ => ⟨S32x1x16x512, .bf16⟩
  | .local _ .vmem, ⟨2, _⟩ => ⟨S8x1x16x512, .bf16⟩
  | .local _ .vmem, ⟨3, _⟩ => ⟨S8x1x16x512, .bf16⟩
  | .local _ .vmem, ⟨4, _⟩ => ⟨S32x1x16x512, .bf16⟩
  | .local _ .vmem, ⟨5, _⟩ => ⟨S32x1x16x512, .bf16⟩
  | .local _ .vmem, ⟨6, _⟩ => ⟨S8x1x16x512, .bf16⟩
  | .local _ .vmem, ⟨7, _⟩ => ⟨S8x1x16x512, .bf16⟩
  | .local _ .vmem, ⟨8, _⟩ => ⟨S32x1x16x512, .bf16⟩
  | .local _ .vmem, ⟨9, _⟩ => ⟨S32x1x16x512, .bf16⟩
  | .local _ .vmem, ⟨10, _⟩ => ⟨S32x1x16x512, .bf16⟩
  | .local _ .vmem, ⟨11, _⟩ => ⟨S32x1x16x512, .bf16⟩
  | .local _ .vmem, ⟨12, _⟩ => ⟨S32x1x16x128, .f32⟩
  | .local _ .vmem, ⟨13, _⟩ => ⟨S32x1x16x128, .f32⟩
  | .local _ .vmem, ⟨14, _⟩ => ⟨S640x512, .bf16⟩
  | .local _ .vmem, ⟨15, _⟩ => ⟨S640x512, .bf16⟩
  | .local _ .vmem, ⟨16, _⟩ => ⟨S16x128x256, .f32⟩
  | .local _ .vmem, ⟨17, _⟩ => ⟨S16x128x256, .bf16⟩
  | _, _ => ⟨S33024x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c4_i32 : BitVec 32 := 4#32
  let c0_i32_0 : BitVec 32 := 0#32
  ![v1.toNat, arg1.toNat, c0_i32.toNat, c4_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.muli arg2 c4_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  let c7_i32 : BitVec 32 := 7#32
  let c0_i32_2 : BitVec 32 := 0#32
  ![v4.toNat, arg1.toNat, c0_i32_1.toNat, c7_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c7_i32 : BitVec 32 := 7#32
  let c0_i32_0 : BitVec 32 := 0#32
  ![v1.toNat, arg1.toNat, c0_i32.toNat, c7_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.muli arg2 c4_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  let c10_i32 : BitVec 32 := 10#32
  let c0_i32_2 : BitVec 32 := 0#32
  ![v4.toNat, arg1.toNat, c0_i32_1.toNat, c10_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c10_i32 : BitVec 32 := 10#32
  let c0_i32_0 : BitVec 32 := 0#32
  ![v1.toNat, arg1.toNat, c0_i32.toNat, c10_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

abbrev stage0_0 : Fin 2 → Memref sig .tc .vmem S32x1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Swa2Ideal.lean ====
variable {F : FTy → Type} [FloatOps F] [Named F]
def κ : String → Option EReal := fun
  | "mask" => some ⊥
  | _ => none
-- ==== Ref2Ideal.lean ====
abbrev S33024x10240 : Shape := ⟨2, ![33024, 10240]⟩
abbrev S32768x512 : Shape := ⟨2, ![32768, 512]⟩
abbrev S4x32x16x16x512 : Shape := ⟨5, ![4, 32, 16, 16, 512]⟩
abbrev S4x8192x4x128 : Shape := ⟨4, ![4, 8192, 4, 128]⟩
abbrev S4x512x16x4x128 : Shape := ⟨5, ![4, 512, 16, 4, 128]⟩
abbrev S4x16x512x4x128 : Shape := ⟨5, ![4, 16, 512, 4, 128]⟩
abbrev S64x512x4x128 : Shape := ⟨4, ![64, 512, 4, 128]⟩
abbrev S64x4x128x4x128 : Shape := ⟨5, ![64, 4, 128, 4, 128]⟩
abbrev S_ : Shape := ⟨0, ![]⟩
abbrev S64x5x128x4x128 : Shape := ⟨5, ![64, 5, 128, 4, 128]⟩
abbrev S64x4x256x4x128 : Shape := ⟨5, ![64, 4, 256, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1 : Shape := ⟨2, ![4, 1]⟩
abbrev S4x256 : Shape := ⟨2, ![4, 256]⟩
abbrev S1x128x256 : Shape := ⟨3, ![1, 128, 256]⟩
abbrev S4x1x256 : Shape := ⟨3, ![4, 1, 256]⟩
abbrev S4x128x256 : Shape := ⟨3, ![4, 128, 256]⟩
abbrev S64x4x4x128x256 : Shape := ⟨5, ![64, 4, 4, 128, 256]⟩
abbrev S1x4x1x128x256 : Shape := ⟨5, ![1, 4, 1, 128, 256]⟩
abbrev S64x4x4x128 : Shape := ⟨4, ![64, 4, 4, 128]⟩
abbrev S64x4x4x128x1 : Shape := ⟨5, ![64, 4, 4, 128, 1]⟩
abbrev S64x4x4x128x128 : Shape := ⟨5, ![64, 4, 4, 128, 128]⟩
abbrev S64x4x128x4 : Shape := ⟨4, ![64, 4, 128, 4]⟩
abbrev S4x16x512x4 : Shape := ⟨4, ![4, 16, 512, 4]⟩
abbrev S4x512x16x4 : Shape := ⟨4, ![4, 512, 16, 4]⟩
abbrev S4x8192x4 : Shape := ⟨3, ![4, 8192, 4]⟩
abbrev S128x16x16x512 : Shape := ⟨4, ![128, 16, 16, 512]⟩
abbrev S4x32x16x16x4 : Shape := ⟨5, ![4, 32, 16, 16, 4]⟩
abbrev S128x16x16x4 : Shape := ⟨4, ![128, 16, 16, 4]⟩
abbrev S128x16x16x4x32 : Shape := ⟨5, ![128, 16, 16, 4, 32]⟩
abbrev S128x16x16x128 : Shape := ⟨4, ![128, 16, 16, 128]⟩

abbrev nBuf : Space → Nat
  | .hbm => 118
  | .vmem => 0
  | .smem => 0
  | _ => 0

abbrev bufTy : (tb : Table) → Fin (tcTables nBuf tb) → BufTy
  | .hbm, ⟨0, _⟩ => ⟨S33024x10240, .bf16⟩
  | .hbm, ⟨1, _⟩ => ⟨S32768x512, .bf16⟩
  | .hbm, ⟨2, _⟩ => ⟨S4x32x16x16x512, .bf16⟩
  | .hbm, ⟨3, _⟩ => ⟨S4x32x16x16x512, .bf16⟩
  | .hbm, ⟨4, _⟩ => ⟨S4x8192x4x128, .bf16⟩
  | .hbm, ⟨5, _⟩ => ⟨S32768x512, .bf16⟩
  | .hbm, ⟨6, _⟩ => ⟨S4x32x16x16x512, .bf16⟩
  | .hbm, ⟨7, _⟩ => ⟨S4x32x16x16x512, .bf16⟩
  | .hbm, ⟨8, _⟩ => ⟨S4x8192x4x128, .bf16⟩
  | .hbm, ⟨9, _⟩ => ⟨S32768x512, .bf16⟩
  | .hbm, ⟨10, _⟩ => ⟨S4x32x16x16x512, .bf16⟩
  | .hbm, ⟨11, _⟩ => ⟨S4x32x16x16x512, .bf16⟩
  | .hbm, ⟨12, _⟩ => ⟨S4x8192x4x128, .bf16⟩
  | .hbm, ⟨13, _⟩ => ⟨S4x512x16x4x128, .bf16⟩
  | .hbm, ⟨14, _⟩ => ⟨S4x16x512x4x128, .bf16⟩
  | .hbm, ⟨15, _⟩ => ⟨S64x512x4x128, .bf16⟩
  | .hbm, ⟨16, _⟩ => ⟨S64x4x128x4x128, .bf16⟩
  | .hbm, ⟨17, _⟩ => ⟨S64x4x128x4x128, .f32⟩
  | .hbm, ⟨18, _⟩ => ⟨S4x512x16x4x128, .bf16⟩
  | .hbm, ⟨19, _⟩ => ⟨S4x16x512x4x128, .bf16⟩
  | .hbm, ⟨20, _⟩ => ⟨S64x512x4x128, .bf16⟩
  | .hbm, ⟨21, _⟩ => ⟨S64x4x128x4x128, .bf16⟩
  | .hbm, ⟨22, _⟩ => ⟨S_, .i32⟩
  | .hbm, ⟨23, _⟩ => ⟨S_, .bf16⟩
  | .hbm, ⟨24, _⟩ => ⟨S64x5x128x4x128, .bf16⟩
  | .hbm, ⟨25, _⟩ => ⟨S64x4x128x4x128, .bf16⟩
  | .hbm, ⟨26, _⟩ => ⟨S64x4x256x4x128, .bf16⟩
  | .hbm, ⟨27, _⟩ => ⟨S64x4x256x4x128, .f32⟩
  | .hbm, ⟨28, _⟩ => ⟨S4x512x16x4x128, .bf16⟩
  | .hbm, ⟨29, _⟩ => ⟨S4x16x512x4x128, .bf16⟩
  | .hbm, ⟨30, _⟩ => ⟨S64x512x4x128, .bf16⟩
  | .hbm, ⟨31, _⟩ => ⟨S64x4x128x4x128, .bf16⟩
  | .hbm, ⟨32, _⟩ => ⟨S_, .i32⟩
  | .hbm, ⟨33, _⟩ => ⟨S_, .bf16⟩
  | .hbm, ⟨34, _⟩ => ⟨S64x5x128x4x128, .bf16⟩
  | .hbm, ⟨35, _⟩ => ⟨S64x4x128x4x128, .bf16⟩
  | .hbm, ⟨36, _⟩ => ⟨S64x4x256x4x128, .bf16⟩
  | .hbm, ⟨37, _⟩ => ⟨S64x4x256x4x128, .f32⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S256, .i32⟩
  | .hbm, ⟨44, _⟩ => ⟨S1x256, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i1⟩
  | .hbm, ⟨58, _⟩ => ⟨S4, .i32⟩
  | .hbm, ⟨59, _⟩ => ⟨S4x1, .i32⟩
  | .hbm, ⟨60, _⟩ => ⟨S_, .i32⟩
  | .hbm, ⟨61, _⟩ => ⟨S4x1, .i32⟩
  | .hbm, ⟨62, _⟩ => ⟨S4x1, .i32⟩
  | .hbm, ⟨63, _⟩ => ⟨S_, .i32⟩
  | .hbm, ⟨64, _⟩ => ⟨S4x1, .i32⟩
  | .hbm, ⟨65, _⟩ => ⟨S4x1, .i32⟩
  | .hbm, ⟨66, _⟩ => ⟨S256, .i32⟩
  | .hbm, ⟨67, _⟩ => ⟨S1x256, .i32⟩
  | .hbm, ⟨68, _⟩ => ⟨S4x256, .i32⟩
  | .hbm, ⟨69, _⟩ => ⟨S4x256, .i32⟩
  | .hbm, ⟨70, _⟩ => ⟨S4x256, .i32⟩
  | .hbm, ⟨71, _⟩ => ⟨S1x128x256, .i1⟩
  | .hbm, ⟨72, _⟩ => ⟨S_, .i32⟩
  | .hbm, ⟨73, _⟩ => ⟨S4x256, .i32⟩
  | .hbm, ⟨74, _⟩ => ⟨S4x256, .i1⟩
  | .hbm, ⟨75, _⟩ => ⟨S4x1x256, .i1⟩
  | .hbm, ⟨76, _⟩ => ⟨S4x128x256, .i1⟩
  | .hbm, ⟨77, _⟩ => ⟨S4x128x256, .i1⟩
  | .hbm, ⟨78, _⟩ => ⟨S4x128x256, .i1⟩
  | .hbm, ⟨79, _⟩ => ⟨S64x4x4x128x256, .f32⟩
  | .hbm, ⟨80, _⟩ => ⟨S1x4x1x128x256, .i1⟩
  | .hbm, ⟨81, _⟩ => ⟨S_, .f32⟩
  | .hbm, ⟨82, _⟩ => ⟨S_, .f32⟩
  | .hbm, ⟨83, _⟩ => ⟨S64x4x4x128x256, .i1⟩
  | .hbm, ⟨84, _⟩ => ⟨S64x4x4x128x256, .f32⟩
  | .hbm, ⟨85, _⟩ => ⟨S64x4x4x128x256, .f32⟩
  | .hbm, ⟨86, _⟩ => ⟨S_, .f32⟩
  | .hbm, ⟨87, _⟩ => ⟨S64x4x4x128, .f32⟩
  | .hbm, ⟨88, _⟩ => ⟨S64x4x4x128x1, .f32⟩
  | .hbm, ⟨89, _⟩ => ⟨S64x4x4x128x256, .f32⟩
  | .hbm, ⟨90, _⟩ => ⟨S64x4x4x128x256, .f32⟩
  | .hbm, ⟨91, _⟩ => ⟨S64x4x4x128x256, .f32⟩
  | .hbm, ⟨92, _⟩ => ⟨S_, .f32⟩
  | .hbm, ⟨93, _⟩ => ⟨S64x4x4x128, .f32⟩
  | .hbm, ⟨94, _⟩ => ⟨S64x4x4x128, .f32⟩
  | .hbm, ⟨95, _⟩ => ⟨S64x4x4x128, .f32⟩
  | .hbm, ⟨96, _⟩ => ⟨S64x4x4x128x1, .f32⟩
  | .hbm, ⟨97, _⟩ => ⟨S64x4x4x128x256, .f32⟩
  | .hbm, ⟨98, _⟩ => ⟨S64x4x4x128x256, .f32⟩
  | .hbm, ⟨99, _⟩ => ⟨S64x4x4x128x256, .f32⟩
  | .hbm, ⟨100, _⟩ => ⟨S64x4x4x128x128, .f32⟩
  | .hbm, ⟨101, _⟩ => ⟨S64x4x128x4x128, .f32⟩
  | .hbm, ⟨102, _⟩ => ⟨S4x16x512x4x128, .f32⟩
  | .hbm, ⟨103, _⟩ => ⟨S4x512x16x4x128, .f32⟩
  | .hbm, ⟨104, _⟩ => ⟨S4x8192x4x128, .f32⟩
  | .hbm, ⟨105, _⟩ => ⟨S64x4x128x4, .f32⟩
  | .hbm, ⟨106, _⟩ => ⟨S4x16x512x4, .f32⟩
  | .hbm, ⟨107, _⟩ => ⟨S4x512x16x4, .f32⟩
  | .hbm, ⟨108, _⟩ => ⟨S4x8192x4, .f32⟩
  | .hbm, ⟨109, _⟩ => ⟨S4x32x16x16x512, .f32⟩
  | .hbm, ⟨110, _⟩ => ⟨S4x32x16x16x512, .f32⟩
  | .hbm, ⟨111, _⟩ => ⟨S128x16x16x512, .f32⟩
  | .hbm, ⟨112, _⟩ => ⟨S128x16x16x512, .bf16⟩
  | .hbm, ⟨113, _⟩ => ⟨S4x32x16x16x4, .f32⟩
  | .hbm, ⟨114, _⟩ => ⟨S4x32x16x16x4, .f32⟩
  | .hbm, ⟨115, _⟩ => ⟨S128x16x16x4, .f32⟩
  | .hbm, ⟨116, _⟩ => ⟨S128x16x16x4x32, .f32⟩
  | .hbm, ⟨117, _⟩ => ⟨S128x16x16x128, .f32⟩
  | _, _ => ⟨S33024x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_c : Ref sig .tc := ⟨.hbm, 22, rfl⟩
abbrev main_call0_v0 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_c_0 : Ref sig .tc := ⟨.hbm, 32, rfl⟩
abbrev main_call1_v0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_c_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c_3 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_c_4 : Ref sig .tc := ⟨.hbm, 60, rfl⟩
abbrev main_v52 : Ref sig .tc := ⟨.hbm, 61, rfl⟩
abbrev main_v53 : Ref sig .tc := ⟨.hbm, 62, rfl⟩
abbrev main_c_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_c_6 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩

abbrev nD : Nat := 1
abbrev τ : Topo := Topo.v7x

variable {F : FTy → Type} [FloatOps F]
-- ==== Dense.lean ====
abbrev S33024x1024 : Shape := ⟨2, ![33024, 1024]⟩
abbrev S1x1024 : Shape := ⟨2, ![1, 1024]⟩
abbrev S1024x2816 : Shape := ⟨2, ![1024, 2816]⟩
abbrev S2816x1024 : Shape := ⟨2, ![2816, 1024]⟩
abbrev S768x1024 : Shape := ⟨2, ![768, 1024]⟩
abbrev S768 : Shape := ⟨1, ![768]⟩
abbrev S768x1 : Shape := ⟨2, ![768, 1]⟩
abbrev S1024x256 : Shape := ⟨2, ![1024, 256]⟩
abbrev S768x256 : Shape := ⟨2, ![768, 256]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S33024x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S33024x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDenseIdeal.lean ====
abbrev S33024x1024 : Shape := ⟨2, ![33024, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S33024 : Shape := ⟨1, ![33024]⟩
abbrev S33024x1 : Shape := ⟨2, ![33024, 1]⟩
abbrev S33024x2816 : Shape := ⟨2, ![33024, 2816]⟩

abbrev nBuf : Space → Nat
  | .hbm => 39
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S33024x1024, .f32⟩
  | .hbm, ⟨7, _⟩ => ⟨S_, .f32⟩
  | .hbm, ⟨8, _⟩ => ⟨S33024, .f32⟩
  | .hbm, ⟨9, _⟩ => ⟨S33024x1, .f32⟩
  | .hbm, ⟨10, _⟩ => ⟨S_, .f32⟩
  | .hbm, ⟨11, _⟩ => ⟨S33024x1, .f32⟩
  | .hbm, ⟨12, _⟩ => ⟨S33024x1, .f32⟩
  | .hbm, ⟨13, _⟩ => ⟨S_, .f32⟩
  | .hbm, ⟨14, _⟩ => ⟨S33024x1, .f32⟩
  | .hbm, ⟨15, _⟩ => ⟨S33024x1, .f32⟩
  | .hbm, ⟨16, _⟩ => ⟨S33024x1, .f32⟩
  | .hbm, ⟨17, _⟩ => ⟨S33024x1024, .f32⟩
  | .hbm, ⟨18, _⟩ => ⟨S33024x1024, .f32⟩
  | .hbm, ⟨19, _⟩ => ⟨S1x1024, .f32⟩
  | .hbm, ⟨20, _⟩ => ⟨S33024x1024, .f32⟩
  | .hbm, ⟨21, _⟩ => ⟨S33024x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S33024x2816, .f32⟩
  | .hbm, ⟨26, _⟩ => ⟨S33024x2816, .f32⟩
  | .hbm, ⟨27, _⟩ => ⟨S33024x2816, .f32⟩
  | .hbm, ⟨28, _⟩ => ⟨S_, .f32⟩
  | .hbm, ⟨29, _⟩ => ⟨S33024x2816, .f32⟩
  | .hbm, ⟨30, _⟩ => ⟨S33024x2816, .f32⟩
  | .hbm, ⟨31, _⟩ => ⟨S_, .f32⟩
  | .hbm, ⟨32, _⟩ => ⟨S33024x2816, .f32⟩
  | .hbm, ⟨33, _⟩ => ⟨S33024x2816, .f32⟩
  | .hbm, ⟨34, _⟩ => ⟨S33024x2816, .f32⟩
  | .hbm, ⟨35, _⟩ => ⟨S33024x2816, .f32⟩
  | .hbm, ⟨36, _⟩ => ⟨S33024x2816, .f32⟩
  | .hbm, ⟨37, _⟩ => ⟨S33024x1024, .f32⟩
  | .hbm, ⟨38, _⟩ => ⟨S33024x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Experts.lean ====
abbrev S152 : Shape := ⟨1, ![152]⟩
abbrev S1 : Shape := ⟨1, ![1]⟩
abbrev S77824x1024 : Shape := ⟨2, ![77824, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S77824x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S77824x1024, .f32⟩
  | .local _ .vmem, ⟨0, _⟩ => ⟨S512x1024, .f32⟩
  | .local _ .vmem, ⟨1, _⟩ => ⟨S512x1024, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S152, .i32⟩
  | .local _ .smem, ⟨1, _⟩ => ⟨S1, .i32⟩
  | _, _ => ⟨S77824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![152], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.maxsi v0 c1_i32
  let c1_i32_0 : BitVec 32 := 1#32
  let v2 : BitVec 32 := Scalar.subi v1 c1_i32_0
  let v3 : BitVec 32 := Scalar.minsi arg0 v2
  let c0_i32 : BitVec 32 := 0#32
  let c0_i32_1 : BitVec 32 := 0#32
  ![v3.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefExpertsIdeal.lean ====
abbrev S152 : Shape := ⟨1, ![152]⟩
abbrev S1 : Shape := ⟨1, ![1]⟩
abbrev S77824x1024 : Shape := ⟨2, ![77824, 1024]⟩
abbrev S8x1024x3584 : Shape := ⟨3, ![8, 1024, 3584]⟩
abbrev S8x3584x1024 : Shape := ⟨3, ![8, 3584, 1024]⟩
abbrev S152x512x1024 : Shape := ⟨3, ![152, 512, 1024]⟩
abbrev S_ : Shape := ⟨0, ![]⟩
abbrev S152x1 : Shape := ⟨2, ![152, 1]⟩
abbrev S152x1024x3584 : Shape := ⟨3, ![152, 1024, 3584]⟩
abbrev S152x3584x1024 : Shape := ⟨3, ![152, 3584, 1024]⟩
abbrev S152x512x3584 : Shape := ⟨3, ![152, 512, 3584]⟩
abbrev S152x1x1 : Shape := ⟨3, ![152, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S152, .i32⟩
  | .hbm, ⟨1, _⟩ => ⟨S1, .i32⟩
  | .hbm, ⟨2, _⟩ => ⟨S77824x1024, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S152x512x1024, .f32⟩
  | .hbm, ⟨7, _⟩ => ⟨S_, .i32⟩
  | .hbm, ⟨8, _⟩ => ⟨S152, .i32⟩
  | .hbm, ⟨9, _⟩ => ⟨S152, .i1⟩
  | .hbm, ⟨10, _⟩ => ⟨S_, .i32⟩
  | .hbm, ⟨11, _⟩ => ⟨S152, .i32⟩
  | .hbm, ⟨12, _⟩ => ⟨S152, .i32⟩
  | .hbm, ⟨13, _⟩ => ⟨S152, .i32⟩
  | .hbm, ⟨14, _⟩ => ⟨S152x1, .i32⟩
  | .hbm, ⟨15, _⟩ => ⟨S152x1024x3584, .bf16⟩
  | .hbm, ⟨16, _⟩ => ⟨S_, .i32⟩
  | .hbm, ⟨17, _⟩ => ⟨S152, .i32⟩
  | .hbm, ⟨18, _⟩ => ⟨S152, .i1⟩
  | .hbm, ⟨19, _⟩ => ⟨S_, .i32⟩
  | .hbm, ⟨20, _⟩ => ⟨S152, .i32⟩
  | .hbm, ⟨21, _⟩ => ⟨S152, .i32⟩
  | .hbm, ⟨22, _⟩ => ⟨S152, .i32⟩
  | .hbm, ⟨23, _⟩ => ⟨S152x1, .i32⟩
  | .hbm, ⟨24, _⟩ => ⟨S152x1024x3584, .bf16⟩
  | .hbm, ⟨25, _⟩ => ⟨S_, .i32⟩
  | .hbm, ⟨26, _⟩ => ⟨S152, .i32⟩
  | .hbm, ⟨27, _⟩ => ⟨S152, .i1⟩
  | .hbm, ⟨28, _⟩ => ⟨S_, .i32⟩
  | .hbm, ⟨29, _⟩ => ⟨S152, .i32⟩
  | .hbm, ⟨30, _⟩ => ⟨S152, .i32⟩
  | .hbm, ⟨31, _⟩ => ⟨S152, .i32⟩
  | .hbm, ⟨32, _⟩ => ⟨S152x1, .i32⟩
  | .hbm, ⟨33, _⟩ => ⟨S152x3584x1024, .bf16⟩
  | .hbm, ⟨34, _⟩ => ⟨S152x1024x3584, .f32⟩
  | .hbm, ⟨35, _⟩ => ⟨S152x1024x3584, .f32⟩
  | .hbm, ⟨36, _⟩ => ⟨S152x3584x1024, .f32⟩
  | .hbm, ⟨37, _⟩ => ⟨S152x512x3584, .f32⟩
  | .hbm, ⟨38, _⟩ => ⟨S152x512x3584, .f32⟩
  | .hbm, ⟨39, _⟩ => ⟨S152x512x3584, .f32⟩
  | .hbm, ⟨40, _⟩ => ⟨S_, .f32⟩
  | .hbm, ⟨41, _⟩ => ⟨S152x512x3584, .f32⟩
  | .hbm, ⟨42, _⟩ => ⟨S152x512x3584, .f32⟩
  | .hbm, ⟨43, _⟩ => ⟨S_, .f32⟩
  | .hbm, ⟨44, _⟩ => ⟨S152x512x3584, .f32⟩
  | .hbm, ⟨45, _⟩ => ⟨S152x512x3584, .f32⟩
  | .hbm, ⟨46, _⟩ => ⟨S152x512x3584, .f32⟩
  | .hbm, ⟨47, _⟩ => ⟨S152x512x3584, .f32⟩
  | .hbm, ⟨48, _⟩ => ⟨S152x512x3584, .f32⟩
  | .hbm, ⟨49, _⟩ => ⟨S152x512x1024, .f32⟩
  | .hbm, ⟨50, _⟩ => ⟨S152, .i32⟩
  | .hbm, ⟨51, _⟩ => ⟨S_, .i32⟩
  | .hbm, ⟨52, _⟩ => ⟨S152, .i32⟩
  | .hbm, ⟨53, _⟩ => ⟨S152, .i1⟩
  | .hbm, ⟨54, _⟩ => ⟨S152x1x1, .i1⟩
  | .hbm, ⟨55, _⟩ => ⟨S_, .f32⟩
  | .hbm, ⟨56, _⟩ => ⟨S_, .f32⟩
  | .hbm, ⟨57, _⟩ => ⟨S152x512x1024, .i1⟩
  | .hbm, ⟨58, _⟩ => ⟨S152x512x1024, .f32⟩
  | .hbm, ⟨59, _⟩ => ⟨S152x512x1024, .f32⟩
  | .hbm, ⟨60, _⟩ => ⟨S77824x1024, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Inproj.lean ====
abbrev S33024x1024 : Shape := ⟨2, ![33024, 1024]⟩
abbrev S1x1024 : Shape := ⟨2, ![1, 1024]⟩
abbrev S1024x10240 : Shape := ⟨2, ![1024, 10240]⟩
abbrev S1x512 : Shape := ⟨2, ![1, 512]⟩
abbrev S1x128 : Shape := ⟨2, ![1, 128]⟩
abbrev S8192 : Shape := ⟨1, ![8192]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S8448 : Shape := ⟨1, ![8448]⟩
abbrev S256x256 : Shape := ⟨2, ![256, 256]⟩
abbrev S1x64x4x256 : Shape := ⟨4, ![1, 64, 4, 256]⟩
abbrev S1x4x64x256 : Shape := ⟨4, ![1, 4, 64, 256]⟩
abbrev S1x16x16x256 : Shape := ⟨4, ![1, 16, 16, 256]⟩
abbrev S1x256x256 : Shape := ⟨3, ![1, 256, 256]⟩
abbrev S2x256x256 : Shape := ⟨3, ![2, 256, 256]⟩
abbrev S64 : Shape := ⟨1, ![64]⟩
abbrev S31 : Shape := ⟨1, ![31]⟩
abbrev S1 : Shape := ⟨1, ![1]⟩
abbrev S32 : Shape := ⟨1, ![32]⟩
abbrev S8448x1 : Shape := ⟨2, ![8448, 1]⟩
abbrev S1x64 : Shape := ⟨2, ![1, 64]⟩
abbrev S8448x64 : Shape := ⟨2, ![8448, 64]⟩
abbrev S8448x128 : Shape := ⟨2, ![8448, 128]⟩
abbrev S8192x128 : Shape := ⟨2, ![8192, 128]⟩
abbrev S32x256x1x128 : Shape := ⟨4, ![32, 256, 1, 128]⟩
abbrev S32x1x256x128 : Shape := ⟨4, ![32, 1, 256, 128]⟩
abbrev S256x128 : Shape := ⟨2, ![256, 128]⟩
abbrev S32x64x4x128 : Shape := ⟨4, ![32, 64, 4, 128]⟩
abbrev S32x4x64x128 : Shape := ⟨4, ![32, 4, 64, 128]⟩
abbrev S32x16x16x128 : Shape := ⟨4, ![32, 16, 16, 128]⟩
abbrev S1x8448x128 : Shape := ⟨3, ![1, 8448, 128]⟩
abbrev S3x8448x128 : Shape := ⟨3, ![3, 8448, 128]⟩
abbrev S1x32 : Shape := ⟨2, ![1, 32]⟩
abbrev S8448x32 : Shape := ⟨2, ![8448, 32]⟩
abbrev S33024x10240 : Shape := ⟨2, ![33024, 10240]⟩
abbrev S256x1024 : Shape := ⟨2, ![256, 1024]⟩
abbrev S3x256x128 : Shape := ⟨3, ![3, 256, 128]⟩
abbrev S256x10240 : Shape := ⟨2, ![256, 10240]⟩
abbrev S3x256x1024 : Shape := ⟨3, ![3, 256, 1024]⟩
abbrev S256x1 : Shape := ⟨2, ![256, 1]⟩
abbrev S1x256x1024 : Shape := ⟨3, ![1, 256, 1024]⟩
abbrev S1024x512 : Shape := ⟨2, ![1024, 512]⟩
abbrev S256x512 : Shape := ⟨2, ![256, 512]⟩
abbrev S1x256x128 : Shape := ⟨3, ![1, 256, 128]⟩

abbrev nBuf : Space → Nat
  | .hbm => 142
  | .vmem => 20
  | .smem => 0
  | _ => 0

abbrev hbmTy0_0 (i : Nat) : BufTy := match i % 128 with
  | 0 => ⟨S33024x1024, .f32⟩
  | 1 => ⟨S1x1024, .f32⟩
  | 2 => ⟨S1024x10240, .bf16⟩
  | 3 => ⟨S1x512, .f32⟩
  | 4 => ⟨S1x128, .f32⟩
  | 5 => ⟨S1x128, .f32⟩
  | 6 => ⟨S8192, .i32⟩
  | 7 => ⟨S8, .i32⟩
  | 8 => ⟨S_, .i32⟩
  | 9 => ⟨S8, .i32⟩
  | 10 => ⟨S8, .i32⟩
  | 11 => ⟨S1x8, .i32⟩
  | 12 => ⟨S32x8, .i32⟩
  | 13 => ⟨S256, .i32⟩
  | 14 => ⟨S8448, .i32⟩
  | 15 => ⟨S256x256, .i32⟩
  | 16 => ⟨S256x256, .i32⟩
  | 17 => ⟨S_, .i32⟩
  | 18 => ⟨S256x256, .i32⟩
  | 19 => ⟨S256x256, .i32⟩
  | 20 => ⟨S256x256, .i1⟩
  | 21 => ⟨S256x256, .bf16⟩
  | 22 => ⟨S1x64x4x256, .bf16⟩
  | 23 => ⟨S1x4x64x256, .bf16⟩
  | 24 => ⟨S256x256, .bf16⟩
  | 25 => ⟨S1x16x16x256, .bf16⟩
  | 26 => ⟨S1x16x16x256, .bf16⟩
  | 27 => ⟨S256x256, .bf16⟩
  | 28 => ⟨S1x256x256, .bf16⟩
  | 29 => ⟨S1x256x256, .bf16⟩
  | 30 => ⟨S2x256x256, .bf16⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S31, .f32⟩
  | 53 => ⟨S_, .f32⟩
  | 54 => ⟨S31, .f32⟩
  | 55 => ⟨S31, .f32⟩
  | 56 => ⟨S1, .f32⟩
  | 57 => ⟨S_, .f32⟩
  | 58 => ⟨S31, .f32⟩
  | 59 => ⟨S31, .f32⟩
  | 60 => ⟨S31, .f32⟩
  | 61 => ⟨S31, .f32⟩
  | 62 => ⟨S1, .f32⟩
  | 63 => ⟨S31, .f32⟩
  | 64 => ⟨S31, .f32⟩
  | 65 => ⟨S31, .f32⟩
  | 66 => ⟨S1, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S8448, .f32⟩
  | 75 => ⟨S8448x1, .f32⟩
  | 76 => ⟨S1x64, .f32⟩
  | 77 => ⟨S8448x64, .f32⟩
  | 78 => ⟨S8448x64, .f32⟩
  | 79 => ⟨S8448x64, .f32⟩
  | 80 => ⟨S8448x64, .f32⟩
  | 81 => ⟨S8448x64, .f32⟩
  | 82 => ⟨S8448x128, .f32⟩
  | 83 => ⟨S8448x64, .f32⟩
  | 84 => ⟨S8448x128, .f32⟩
  | 85 => ⟨S8192x128, .f32⟩
  | 86 => ⟨S32x256x1x128, .f32⟩
  | 87 => ⟨S32x1x256x128, .f32⟩
  | 88 => ⟨S8192x128, .f32⟩
  | 89 => ⟨S256x128, .f32⟩
  | 90 => ⟨S8448x128, .f32⟩
  | 91 => ⟨S8192x128, .f32⟩
  | 92 => ⟨S32x64x4x128, .f32⟩
  | 93 => ⟨S32x4x64x128, .f32⟩
  | 94 => ⟨S8192x128, .f32⟩
  | 95 => ⟨S256x128, .f32⟩
  | 96 => ⟨S8448x128, .f32⟩
  | 97 => ⟨S8192x128, .f32⟩
  | 98 => ⟨S32x16x16x128, .f32⟩
  | 99 => ⟨S32x16x16x128, .f32⟩
  | 100 => ⟨S8192x128, .f32⟩
  | 101 => ⟨S256x128, .f32⟩
  | 102 => ⟨S8448x128, .f32⟩
  | 103 => ⟨S1x8448x128, .f32⟩
  | 104 => ⟨S1x8448x128, .f32⟩
  | 105 => ⟨S1x8448x128, .f32⟩
  | 106 => ⟨S3x8448x128, .f32⟩
  | 107 => ⟨S8192x128, .f32⟩
  | 108 => ⟨S32x256x1x128, .f32⟩
  | 109 => ⟨S32x1x256x128, .f32⟩
  | 110 => ⟨S8192x128, .f32⟩
  | 111 => ⟨S256x128, .f32⟩
  | 112 => ⟨S8448x128, .f32⟩
  | 113 => ⟨S8192x128, .f32⟩
  | 114 => ⟨S32x64x4x128, .f32⟩
  | 115 => ⟨S32x4x64x128, .f32⟩
  | 116 => ⟨S8192x128, .f32⟩
  | 117 => ⟨S256x128, .f32⟩
  | 118 => ⟨S8448x128, .f32⟩
  | 119 => ⟨S8192x128, .f32⟩
  | 120 => ⟨S32x16x16x128, .f32⟩
  | 121 => ⟨S32x16x16x128, .f32⟩
  | 122 => ⟨S8192x128, .f32⟩
  | 123 => ⟨S256x128, .f32⟩
  | 124 => ⟨S8448x128, .f32⟩
  | 125 => ⟨S1x8448x128, .f32⟩
  | 126 => ⟨S1x8448x128, .f32⟩
  | 127 => ⟨S1x8448x128, .f32⟩
  | _ => ⟨S33024x1024, .f32⟩

abbrev hbmTy0_1 (i : Nat) : BufTy := match i % 128 with
  | 0 => ⟨S3x8448x128, .f32⟩
  | 1 => ⟨S8448, .f32⟩
  | 2 => ⟨S8448x1, .f32⟩
  | 3 => ⟨S1x32, .f32⟩
  | 4 => ⟨S8448x32, .f32⟩
  | 5 => ⟨S8448x32, .f32⟩
  | 6 => ⟨S8448x32, .f32⟩
  | 7 => ⟨S8448x32, .f32⟩
  | 8 => ⟨S8448x32, .f32⟩
  | 9 => ⟨S8448x128, .f32⟩
  | 10 => ⟨S8448x32, .f32⟩
  | 11 => ⟨S8448x32, .f32⟩
  | 12 => ⟨S8448x128, .f32⟩
  | 13 => ⟨S33024x10240, .bf16⟩
  | _ => ⟨S33024x1024, .f32⟩

abbrev hbmTy (i : Nat) : BufTy := match i / 128 with
  | 0 => hbmTy0_0 i
  | 1 => hbmTy0_1 i
  | _ => ⟨S33024x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1024x10240, .bf16⟩
  | .local _ .vmem, ⟨5, _⟩ => ⟨S2x256x256, .bf16⟩
  | .local _ .vmem, ⟨6, _⟩ => ⟨S3x256x128, .f32⟩
  | .local _ .vmem, ⟨7, _⟩ => ⟨S3x256x128, .f32⟩
  | .local _ .vmem, ⟨8, _⟩ => ⟨S3x256x128, .f32⟩
  | .local _ .vmem, ⟨9, _⟩ => ⟨S3x256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x512, .f32⟩
  | .local _ .vmem, ⟨15, _⟩ => ⟨S1x128, .f32⟩
  | .local _ .vmem, ⟨16, _⟩ => ⟨S1x128, .f32⟩
  | .local _ .vmem, ⟨17, _⟩ => ⟨S256x10240, .bf16⟩
  | .local _ .vmem, ⟨18, _⟩ => ⟨S256x10240, .bf16⟩
  | .local _ .vmem, ⟨19, _⟩ => ⟨S3x256x1024, .bf16⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_cst : Ref sig .tc := ⟨.hbm, 50, rfl⟩
abbrev main_call0_v3 : Ref sig .tc := ⟨.hbm, 51, rfl⟩
abbrev main_call0_v4 : Ref sig .tc := ⟨.hbm, 52, rfl⟩
abbrev main_call0_cst_0 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_v15 : Ref sig .tc := ⟨.hbm, 65, rfl⟩
abbrev main_call0_v16 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c128_i32 : BitVec 32 := 128#32
  let v0 : BitVec 32 := Scalar.minsi arg0 c128_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let c0_i32 : BitVec 32 := 0#32
  let c0_i32_0 : BitVec 32 := 0#32
  ![c128_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  let c0_i32_6 : BitVec 32 := 0#32
  ![c0_i32_4.toNat, v11.toNat, c0_i32_5.toNat]

def cc0_transform_6 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  let c0_i32_6 : BitVec 32 := 0#32
  ![c0_i32_4.toNat, v11.toNat, c0_i32_5.toNat]

def cc0_transform_7 (i : grid0.Coords) : Fin 2 → Nat :=
  let arg0 : BitVec 32 := BitVec.ofNat 32 (i 0).val
  let c128_i32 : BitVec 32 := 128#32
  let v0 : BitVec 1 := Scalar.cmpi .slt arg0 c128_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c128_i32 : BitVec 32 := 128#32
  let v0 : BitVec 1 := Scalar.cmpi .slt arg0 c128_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x10240 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefInprojIdeal.lean ====
abbrev S33024x1024 : Shape := ⟨2, ![33024, 1024]⟩
abbrev S1x1024 : Shape := ⟨2, ![1, 1024]⟩
abbrev S1024x10240 : Shape := ⟨2, ![1024, 10240]⟩
abbrev S1x512 : Shape := ⟨2, ![1, 512]⟩
abbrev S1x128 : Shape := ⟨2, ![1, 128]⟩
abbrev S8192 : Shape := ⟨1, ![8192]⟩
abbrev S1x8192 : Shape := ⟨2, ![1, 8192]⟩
abbrev S4x8192 : Shape := ⟨2, ![4, 8192]⟩
abbrev S32768 : Shape := ⟨1, ![32768]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S33024 : Shape := ⟨1, ![33024]⟩
abbrev S1024 : Shape := ⟨1, ![1024]⟩
abbrev S33024x1 : Shape := ⟨2, ![33024, 1]⟩
abbrev S33024x10240 : Shape := ⟨2, ![33024, 10240]⟩
abbrev S33024x512 : Shape := ⟨2, ![33024, 512]⟩
abbrev S33024x1536 : Shape := ⟨2, ![33024, 1536]⟩
abbrev S33024x256 : Shape := ⟨2, ![33024, 256]⟩
abbrev S33024x3072 : Shape := ⟨2, ![33024, 3072]⟩
abbrev S512 : Shape := ⟨1, ![512]⟩
abbrev S64 : Shape := ⟨1, ![64]⟩
abbrev S1x64 : Shape := ⟨2, ![1, 64]⟩
abbrev S33024x64 : Shape := ⟨2, ![33024, 64]⟩
abbrev S33024x3x4x128 : Shape := ⟨4, ![33024, 3, 4, 128]⟩
abbrev S128 : Shape := ⟨1, ![128]⟩
abbrev S33024x3x4 : Shape := ⟨3, ![33024, 3, 4]⟩
abbrev S33024x3x4x1 : Shape := ⟨4, ![33024, 3, 4, 1]⟩
abbrev S1x1x1x128 : Shape := ⟨4, ![1, 1, 1, 128]⟩
abbrev S33024x1x1x64 : Shape := ⟨4, ![33024, 1, 1, 64]⟩
abbrev S33024x3x4x64 : Shape := ⟨4, ![33024, 3, 4, 64]⟩
abbrev S31 : Shape := ⟨1, ![31]⟩
abbrev S1 : Shape := ⟨1, ![1]⟩
abbrev S32 : Shape := ⟨1, ![32]⟩
abbrev S1x32 : Shape := ⟨2, ![1, 32]⟩
abbrev S33024x32 : Shape := ⟨2, ![33024, 32]⟩
abbrev S33024x1x4x64 : Shape := ⟨4, ![33024, 1, 4, 64]⟩
abbrev S33024x1x1x32 : Shape := ⟨4, ![33024, 1, 1, 32]⟩
abbrev S33024x1x4x32 : Shape := ⟨4, ![33024, 1, 4, 32]⟩
abbrev S33024x3x512 : Shape := ⟨3, ![33024, 3, 512]⟩
abbrev S33024x1x512 : Shape := ⟨3, ![33024, 1, 512]⟩
abbrev S32768x512 : Shape := ⟨2, ![32768, 512]⟩
abbrev S128x64x4x512 : Shape := ⟨4, ![128, 64, 4, 512]⟩
abbrev S128x4x64x512 : Shape := ⟨4, ![128, 4, 64, 512]⟩
abbrev S256x512 : Shape := ⟨2, ![256, 512]⟩
abbrev S128x16x16x512 : Shape := ⟨4, ![128, 16, 16, 512]⟩

abbrev nBuf : Space → Nat
  | .hbm => 326
  | .vmem => 0
  | .smem => 0
  | _ => 0

abbrev hbmTy0_0 (i : Nat) : BufTy := match i % 128 with
  | 0 => ⟨S33024x1024, .f32⟩
  | 1 => ⟨S1x1024, .f32⟩
  | 2 => ⟨S1024x10240, .bf16⟩
  | 3 => ⟨S1x512, .f32⟩
  | 4 => ⟨S1x128, .f32⟩
  | 5 => ⟨S1x128, .f32⟩
  | 6 => ⟨S8192, .i32⟩
  | 7 => ⟨S1x8192, .i32⟩
  | 8 => ⟨S4x8192, .i32⟩
  | 9 => ⟨S32768, .i32⟩
  | 10 => ⟨S8, .i32⟩
  | 11 => ⟨S_, .i32⟩
  | 12 => ⟨S8, .i32⟩
  | 13 => ⟨S8, .i32⟩
  | 14 => ⟨S1x8, .i32⟩
  | 15 => ⟨S32x8, .i32⟩
  | 16 => ⟨S256, .i32⟩
  | 17 => ⟨S33024, .i32⟩
  | 18 => ⟨S33024, .f32⟩
  | 19 => ⟨S1024, .f32⟩
  | 20 => ⟨S33024x1024, .f32⟩
  | 21 => ⟨S_, .f32⟩
  | 22 => ⟨S33024, .f32⟩
  | 23 => ⟨S33024x1, .f32⟩
  | 24 => ⟨S_, .f32⟩
  | 25 => ⟨S33024x1, .f32⟩
  | 26 => ⟨S33024x1, .f32⟩
  | 27 => ⟨S_, .f32⟩
  | 28 => ⟨S33024x1, .f32⟩
  | 29 => ⟨S33024x1, .f32⟩
  | 30 => ⟨S33024x1, .f32⟩
  | 31 => ⟨S33024x1024, .f32⟩
  | 32 => ⟨S33024x1024, .f32⟩
  | 33 => ⟨S1x1024, .f32⟩
  | 34 => ⟨S33024x1024, .f32⟩
  | 35 => ⟨S33024x1024, .f32⟩
  | 36 => ⟨S1024x10240, .f32⟩
  | 37 => ⟨S33024x10240, .f32⟩
  | 38 => ⟨S33024x512, .f32⟩
  | 39 => ⟨S33024x512, .f32⟩
  | 40 => ⟨S33024x1536, .f32⟩
  | 41 => ⟨S33024x1536, .f32⟩
  | 42 => ⟨S33024x1536, .f32⟩
  | 43 => ⟨S33024x256, .f32⟩
  | 44 => ⟨S33024x256, .f32⟩
  | 45 => ⟨S33024x512, .f32⟩
  | 46 => ⟨S33024x512, .f32⟩
  | 47 => ⟨S33024x3072, .f32⟩
  | 48 => ⟨S_, .f32⟩
  | 49 => ⟨S33024x512, .f32⟩
  | 50 => ⟨S33024x512, .f32⟩
  | 51 => ⟨S33024x512, .f32⟩
  | 52 => ⟨S_, .f32⟩
  | 53 => ⟨S33024x512, .f32⟩
  | 54 => ⟨S33024x512, .f32⟩
  | 55 => ⟨S33024x512, .f32⟩
  | 56 => ⟨S33024x512, .f32⟩
  | 57 => ⟨S_, .f32⟩
  | 58 => ⟨S33024x512, .f32⟩
  | 59 => ⟨S33024x512, .f32⟩
  | 60 => ⟨S33024x512, .f32⟩
  | 61 => ⟨S_, .f32⟩
  | 62 => ⟨S33024x512, .f32⟩
  | 63 => ⟨S33024x512, .f32⟩
  | 64 => ⟨S33024x512, .f32⟩
  | 65 => ⟨S33024x512, .f32⟩
  | 66 => ⟨S512, .f32⟩
  | 67 => ⟨S33024x512, .f32⟩
  | 68 => ⟨S_, .f32⟩
  | 69 => ⟨S33024, .f32⟩
  | 70 => ⟨S33024x1, .f32⟩
  | 71 => ⟨S_, .f32⟩
  | 72 => ⟨S33024x1, .f32⟩
  | 73 => ⟨S33024x1, .f32⟩
  | 74 => ⟨S_, .f32⟩
  | 75 => ⟨S33024x1, .f32⟩
  | 76 => ⟨S33024x1, .f32⟩
  | 77 => ⟨S33024x1, .f32⟩
  | 78 => ⟨S33024x512, .f32⟩
  | 79 => ⟨S33024x512, .f32⟩
  | 80 => ⟨S1x512, .f32⟩
  | 81 => ⟨S33024x512, .f32⟩
  | 82 => ⟨S33024x512, .f32⟩
  | 83 => ⟨S33024x1, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S1x64, .f32⟩
  | 99 => ⟨S33024x64, .f32⟩
  | 100 => ⟨S33024x64, .f32⟩
  | 101 => ⟨S33024x64, .f32⟩
  | 102 => ⟨S33024x3x4x128, .f32⟩
  | 103 => ⟨S128, .f32⟩
  | 104 => ⟨S33024x3x4x128, .f32⟩
  | 105 => ⟨S_, .f32⟩
  | 106 => ⟨S33024x3x4, .f32⟩
  | 107 => ⟨S33024x3x4x1, .f32⟩
  | 108 => ⟨S_, .f32⟩
  | 109 => ⟨S33024x3x4x1, .f32⟩
  | 110 => ⟨S33024x3x4x1, .f32⟩
  | 111 => ⟨S_, .f32⟩
  | 112 => ⟨S33024x3x4x1, .f32⟩
  | 113 => ⟨S33024x3x4x1, .f32⟩
  | 114 => ⟨S33024x3x4x1, .f32⟩
  | 115 => ⟨S33024x3x4x128, .f32⟩
  | 116 => ⟨S33024x3x4x128, .f32⟩
  | 117 => ⟨S1x1x1x128, .f32⟩
  | 118 => ⟨S33024x3x4x128, .f32⟩
  | 119 => ⟨S33024x3x4x128, .f32⟩
  | 120 => ⟨S33024x64, .f32⟩
  | 121 => ⟨S33024x1x1x64, .f32⟩
  | 122 => ⟨S33024x64, .f32⟩
  | 123 => ⟨S33024x1x1x64, .f32⟩
  | 124 => ⟨S33024x3x4x64, .f32⟩
  | 125 => ⟨S33024x3x4x64, .f32⟩
  | 126 => ⟨S33024x3x4x64, .f32⟩
  | 127 => ⟨S33024x3x4x64, .f32⟩
  | _ => ⟨S33024x1024, .f32⟩

abbrev hbmTy0_1 (i : Nat) : BufTy := match i % 128 with
  | 0 => ⟨S33024x3x4x64, .f32⟩
  | 1 => ⟨S33024x3x4x64, .f32⟩
  | 2 => ⟨S33024x3x4x64, .f32⟩
  | 3 => ⟨S33024x3x4x64, .f32⟩
  | 4 => ⟨S33024x3x4x64, .f32⟩
  | 5 => ⟨S33024x3x4x64, .f32⟩
  | 6 => ⟨S33024x3x4x64, .f32⟩
  | 7 => ⟨S33024x3x4x64, .f32⟩
  | 8 => ⟨S33024x3x4x128, .f32⟩
  | 9 => ⟨S_, .f32⟩
  | 10 => ⟨S33024x3x4x128, .f32⟩
  | 11 => ⟨S33024x3x4x128, .f32⟩
  | 12 => ⟨S33024x3x4x128, .f32⟩
  | 13 => ⟨S128, .f32⟩
  | 14 => ⟨S33024x3x4x128, .f32⟩
  | 15 => ⟨S_, .f32⟩
  | 16 => ⟨S33024x3x4, .f32⟩
  | 17 => ⟨S33024x3x4x1, .f32⟩
  | 18 => ⟨S_, .f32⟩
  | 19 => ⟨S33024x3x4x1, .f32⟩
  | 20 => ⟨S33024x3x4x1, .f32⟩
  | 21 => ⟨S_, .f32⟩
  | 22 => ⟨S33024x3x4x1, .f32⟩
  | 23 => ⟨S33024x3x4x1, .f32⟩
  | 24 => ⟨S33024x3x4x1, .f32⟩
  | 25 => ⟨S33024x3x4x128, .f32⟩
  | 26 => ⟨S33024x3x4x128, .f32⟩
  | 27 => ⟨S1x1x1x128, .f32⟩
  | 28 => ⟨S33024x3x4x128, .f32⟩
  | 29 => ⟨S33024x3x4x128, .f32⟩
  | 30 => ⟨S33024x64, .f32⟩
  | 31 => ⟨S33024x1x1x64, .f32⟩
  | 32 => ⟨S33024x64, .f32⟩
  | 33 => ⟨S33024x1x1x64, .f32⟩
  | 34 => ⟨S33024x3x4x64, .f32⟩
  | 35 => ⟨S33024x3x4x64, .f32⟩
  | 36 => ⟨S33024x3x4x64, .f32⟩
  | 37 => ⟨S33024x3x4x64, .f32⟩
  | 38 => ⟨S33024x3x4x64, .f32⟩
  | 39 => ⟨S33024x3x4x64, .f32⟩
  | 40 => ⟨S33024x3x4x64, .f32⟩
  | 41 => ⟨S33024x3x4x64, .f32⟩
  | 42 => ⟨S33024x3x4x64, .f32⟩
  | 43 => ⟨S33024x3x4x64, .f32⟩
  | 44 => ⟨S33024x3x4x64, .f32⟩
  | 45 => ⟨S33024x3x4x64, .f32⟩
  | 46 => ⟨S33024x3x4x128, .f32⟩
  | 47 => ⟨S33024x1, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S31, .f32⟩
  | 56 => ⟨S_, .f32⟩
  | 57 => ⟨S31, .f32⟩
  | 58 => ⟨S31, .f32⟩
  | 59 => ⟨S1, .f32⟩
  | 60 => ⟨S_, .f32⟩
  | 61 => ⟨S31, .f32⟩
  | 62 => ⟨S31, .f32⟩
  | 63 => ⟨S31, .f32⟩
  | 64 => ⟨S31, .f32⟩
  | 65 => ⟨S1, .f32⟩
  | 66 => ⟨S31, .f32⟩
  | 67 => ⟨S31, .f32⟩
  | 68 => ⟨S31, .f32⟩
  | 69 => ⟨S1, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S1x32, .f32⟩
  | 78 => ⟨S33024x32, .f32⟩
  | 79 => ⟨S33024x32, .f32⟩
  | 80 => ⟨S33024x32, .f32⟩
  | 81 => ⟨S33024x1x4x64, .f32⟩
  | 82 => ⟨S33024x32, .f32⟩
  | 83 => ⟨S33024x1x1x32, .f32⟩
  | 84 => ⟨S33024x32, .f32⟩
  | 85 => ⟨S33024x1x1x32, .f32⟩
  | 86 => ⟨S33024x1x4x32, .f32⟩
  | 87 => ⟨S33024x1x4x32, .f32⟩
  | 88 => ⟨S33024x1x4x32, .f32⟩
  | 89 => ⟨S33024x1x4x32, .f32⟩
  | 90 => ⟨S33024x1x4x32, .f32⟩
  | 91 => ⟨S33024x1x4x32, .f32⟩
  | 92 => ⟨S33024x1x4x32, .f32⟩
  | 93 => ⟨S33024x1x4x32, .f32⟩
  | 94 => ⟨S33024x1x4x32, .f32⟩
  | 95 => ⟨S33024x1x4x32, .f32⟩
  | 96 => ⟨S33024x1x4x32, .f32⟩
  | 97 => ⟨S33024x1x4x32, .f32⟩
  | 98 => ⟨S33024x1x4x64, .f32⟩
  | 99 => ⟨S33024x1x4x64, .f32⟩
  | 100 => ⟨S33024x32, .f32⟩
  | 101 => ⟨S33024x1x1x32, .f32⟩
  | 102 => ⟨S33024x32, .f32⟩
  | 103 => ⟨S33024x1x1x32, .f32⟩
  | 104 => ⟨S33024x1x4x32, .f32⟩
  | 105 => ⟨S33024x1x4x32, .f32⟩
  | 106 => ⟨S33024x1x4x32, .f32⟩
  | 107 => ⟨S33024x1x4x32, .f32⟩
  | 108 => ⟨S33024x1x4x32, .f32⟩
  | 109 => ⟨S33024x1x4x32, .f32⟩
  | 110 => ⟨S33024x1x4x32, .f32⟩
  | 111 => ⟨S33024x1x4x32, .f32⟩
  | 112 => ⟨S33024x1x4x32, .f32⟩
  | 113 => ⟨S33024x1x4x32, .f32⟩
  | 114 => ⟨S33024x1x4x32, .f32⟩
  | 115 => ⟨S33024x1x4x32, .f32⟩
  | 116 => ⟨S33024x1x4x64, .f32⟩
  | 117 => ⟨S_, .f32⟩
  | 118 => ⟨S33024x1x4x64, .f32⟩
  | 119 => ⟨S33024x1x4x64, .f32⟩
  | 120 => ⟨S33024x3x512, .f32⟩
  | 121 => ⟨S33024x1x512, .f32⟩
  | 122 => ⟨S33024x512, .f32⟩
  | 123 => ⟨S33024x1x512, .f32⟩
  | 124 => ⟨S33024x512, .f32⟩
  | 125 => ⟨S32768x512, .f32⟩
  | 126 => ⟨S128x64x4x512, .f32⟩
  | 127 => ⟨S128x4x64x512, .f32⟩
  | _ => ⟨S33024x1024, .f32⟩

abbrev hbmTy0_2 (i : Nat) : BufTy := match i % 128 with
  | 0 => ⟨S32768x512, .f32⟩
  | 1 => ⟨S256x512, .f32⟩
  | 2 => ⟨S33024x512, .f32⟩
  | 3 => ⟨S33024x1x512, .f32⟩
  | 4 => ⟨S33024x512, .f32⟩
  | 5 => ⟨S32768x512, .f32⟩
  | 6 => ⟨S128x16x16x512, .f32⟩
  | 7 => ⟨S128x16x16x512, .f32⟩
  | 8 => ⟨S32768x512, .f32⟩
  | 9 => ⟨S256x512, .f32⟩
  | 10 => ⟨S33024x512, .f32⟩
  | 11 => ⟨S33024x3x512, .f32⟩
  | 12 => ⟨S33024x1x512, .f32⟩
  | 13 => ⟨S33024x512, .f32⟩
  | 14 => ⟨S33024x1x512, .f32⟩
  | 15 => ⟨S33024x512, .f32⟩
  | 16 => ⟨S32768x512, .f32⟩
  | 17 => ⟨S128x64x4x512, .f32⟩
  | 18 => ⟨S128x4x64x512, .f32⟩
  | 19 => ⟨S32768x512, .f32⟩
  | 20 => ⟨S256x512, .f32⟩
  | 21 => ⟨S33024x512, .f32⟩
  | 22 => ⟨S33024x1x512, .f32⟩
  | 23 => ⟨S33024x512, .f32⟩
  | 24 => ⟨S32768x512, .f32⟩
  | 25 => ⟨S128x16x16x512, .f32⟩
  | 26 => ⟨S128x16x16x512, .f32⟩
  | 27 => ⟨S32768x512, .f32⟩
  | 28 => ⟨S256x512, .f32⟩
  | 29 => ⟨S33024x512, .f32⟩
  | 30 => ⟨S33024x3x512, .f32⟩
  | 31 => ⟨S33024x1x512, .f32⟩
  | 32 => ⟨S33024x512, .f32⟩
  | 33 => ⟨S33024x1x512, .f32⟩
  | 34 => ⟨S33024x512, .f32⟩
  | 35 => ⟨S32768x512, .f32⟩
  | 36 => ⟨S128x64x4x512, .f32⟩
  | 37 => ⟨S128x4x64x512, .f32⟩
  | 38 => ⟨S32768x512, .f32⟩
  | 39 => ⟨S256x512, .f32⟩
  | 40 => ⟨S33024x512, .f32⟩
  | 41 => ⟨S33024x1x512, .f32⟩
  | 42 => ⟨S33024x512, .f32⟩
  | 43 => ⟨S32768x512, .f32⟩
  | 44 => ⟨S128x16x16x512, .f32⟩
  | 45 => ⟨S128x16x16x512, .f32⟩
  | 46 => ⟨S32768x512, .f32⟩
  | 47 => ⟨S256x512, .f32⟩
  | 48 => ⟨S33024x512, .f32⟩
  | 49 => ⟨S33024x256, .f32⟩
  | 50 => ⟨S33024x256, .f32⟩
  | 51 => ⟨S33024x512, .f32⟩
  | 52 => ⟨S33024x512, .f32⟩
  | 53 => ⟨S_, .f32⟩
  | 54 => ⟨S33024x512, .f32⟩
  | 55 => ⟨S33024x512, .f32⟩
  | 56 => ⟨S_, .f32⟩
  | 57 => ⟨S33024x512, .f32⟩
  | 58 => ⟨S33024x512, .f32⟩
  | 59 => ⟨S33024x512, .f32⟩
  | 60 => ⟨S33024x3072, .f32⟩
  | 61 => ⟨S33024x3072, .f32⟩
  | 62 => ⟨S_, .f32⟩
  | 63 => ⟨S33024x3072, .f32⟩
  | 64 => ⟨S33024x3072, .f32⟩
  | 65 => ⟨S_, .f32⟩
  | 66 => ⟨S33024x3072, .f32⟩
  | 67 => ⟨S33024x3072, .f32⟩
  | 68 => ⟨S33024x10240, .f32⟩
  | 69 => ⟨S33024x10240, .bf16⟩
  | _ => ⟨S33024x1024, .f32⟩

abbrev hbmTy (i : Nat) : BufTy := match i / 128 with
  | 0 => hbmTy0_0 i
  | 1 => hbmTy0_1 i
  | 2 => hbmTy0_2 i
  | _ => ⟨S33024x1024, .f32⟩

abbrev bufTy : (tb : Table) → Fin (tcTables nBuf tb) → BufTy
  | .hbm, ⟨i, _⟩ => hbmTy i
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_16 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_17 : Ref sig .tc := ⟨.hbm, 143, rfl⟩
abbrev main_v118 : Ref sig .tc := ⟨.hbm, 144, rfl⟩
abbrev main_v119 : Ref sig .tc := ⟨.hbm, 145, rfl⟩
abbrev main_cst_18 : Ref sig .tc := ⟨.hbm, 146, rfl⟩
abbrev main_v120 : Ref sig .tc := ⟨.hbm, 147, rfl⟩
abbrev main_v121 : Ref sig .tc := ⟨.hbm, 148, rfl⟩
abbrev main_cst_19 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_20 : Ref sig .tc := ⟨.hbm, 176, rfl⟩
abbrev main_cst_21 : Ref sig .tc := ⟨.hbm, 177, rfl⟩
abbrev main_call0_v0 : Ref sig .tc := ⟨.hbm, 178, rfl⟩
abbrev main_call0_v1 : Ref sig .tc := ⟨.hbm, 179, rfl⟩
abbrev main_call0_v2 : Ref sig .tc := ⟨.hbm, 180, rfl⟩
abbrev main_call0_cst : Ref sig .tc := ⟨.hbm, 181, rfl⟩
abbrev main_call0_v3 : Ref sig .tc := ⟨.hbm, 182, rfl⟩
abbrev main_call0_v4 : Ref sig .tc := ⟨.hbm, 183, rfl⟩
abbrev main_call0_cst_0 : Ref sig .tc := ⟨.hbm, 184, rfl⟩
abbrev main_call0_v5 : Ref sig .tc := ⟨.hbm, 185, rfl⟩
abbrev main_call0_v6 : Ref sig .tc := ⟨.hbm, 186, rfl⟩
abbrev main_call0_v7 : Ref sig .tc := ⟨.hbm, 187, rfl⟩
abbrev main_call0_cst_1 : Ref sig .tc := ⟨.hbm, 188, rfl⟩
abbrev main_call0_v8 : Ref sig .tc := ⟨.hbm, 189, rfl⟩
abbrev main_call0_v9 : Ref sig .tc := ⟨.hbm, 190, rfl⟩
abbrev main_call0_v10 : Ref sig .tc := ⟨.hbm, 191, rfl⟩
abbrev main_call0_v11 : Ref sig .tc := ⟨.hbm, 192, rfl⟩
abbrev main_call0_v12 : Ref sig .tc := ⟨.hbm, 193, rfl⟩
abbrev main_call0_v13 : Ref sig .tc := ⟨.hbm, 194, rfl⟩
abbrev main_call0_v14 : Ref sig .tc := ⟨.hbm, 195, rfl⟩
abbrev main_call0_v15 : Ref sig .tc := ⟨.hbm, 196, rfl⟩
abbrev main_call0_v16 : Ref sig .tc := ⟨.hbm, 197, rfl⟩
abbrev main_v148 : Ref sig .tc := ⟨.hbm, 198, rfl⟩
abbrev main_cst_22 : Ref sig .tc := ⟨.hbm, 199, rfl⟩
abbrev main_v149 : Ref sig .tc := ⟨.hbm, 200, rfl⟩
abbrev main_v150 : Ref sig .tc := ⟨.hbm, 201, rfl⟩
abbrev main_cst_23 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_24 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_call1_v0 : Ref sig .tc := ⟨.hbm, 307, rfl⟩
abbrev main_call1_v1 : Ref sig .tc := ⟨.hbm, 308, rfl⟩
abbrev main_call1_cst : Ref sig .tc := ⟨.hbm, 309, rfl⟩
abbrev main_call1_v2 : Ref sig .tc := ⟨.hbm, 310, rfl⟩
abbrev main_call1_v3 : Ref sig .tc := ⟨.hbm, 311, rfl⟩
abbrev main_call1_cst_0 : Ref sig .tc := ⟨.hbm, 312, rfl⟩
abbrev main_call1_v4 : Ref sig .tc := ⟨.hbm, 313, rfl⟩
abbrev main_call1_v5 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_cst_25 : Ref sig .tc := ⟨.hbm, 318, rfl⟩
abbrev main_v257 : Ref sig .tc := ⟨.hbm, 319, rfl⟩
abbrev main_v258 : Ref sig .tc := ⟨.hbm, 320, rfl⟩
abbrev main_cst_26 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩

abbrev nD : Nat := 1
abbrev τ : Topo := Topo.v7x

variable {F : FTy → Type} [FloatOps F]
-- ==== Proof.Body.lean ====
module

public import proofs.«01_k».proof.Proof.Gen.Swa2Ideal.Value

/-! What one grid point of the attention kernel stores, written as a family over the four row chunks `j` and the
four heads `h`: the run's piece lists are these families by computation. -/

@[expose] public section

set_option maxRecDepth 16384

noncomputable section

namespace Cert.Proof.Body

open Cert.Swa2Ideal Cert.Swa2Ideal.Gen Idealize.ShloMosaic Idealize.ShloMosaic.TcCoe Idealize.ShloMosaic.Tactic Idealize.SL.Sem

/-- The block of queries, of own keys and of own values: 512 rows as 32 tiles of 16. -/
abbrev Own := Vec Ideal S32x1x16x512 .bf16
/-- The block of the 128 rows before it. -/
abbrev Before := Vec Ideal S8x1x16x512 .bf16

theorem inb_kv : ∀ (j h : Fin 4) (a : Fin 2), (![128 * j.val, 128 * h.val] : Fin 2 → Nat) a + S256x128.size a ≤ S640x512.size a := by
  decide
theorem inb_sc : ∀ (j h : Fin 4) (a : Fin 3), (![4 * j.val + h.val, 0, 0] : Fin 3 → Nat) a + S1x128x256.size a ≤ S16x128x256.size a := by
  decide
theorem inb_out : ∀ (h : Fin 4) (a : Fin 4), (![0, 0, 0, 128 * h.val] : Fin 4 → Nat) a + S32x1x16x128.size a ≤ S32x1x16x512.size a := by
  decide
theorem sl_q (j h : Fin 4) : S512x512.Slices ![128 * j.val, 128 * h.val] S128x128 := by
  revert j h; decide
theorem sl_den (j h : Fin 4) : S16x128x1.Slices ![4 * j.val + h.val, 0, 0] S1x128x1 := by
  revert j h; decide

/-- The two stores that fill the buffer of keys: the own block below the rows before it. -/
def kPieces (y1 : Before) (y2 : Own) : List (View.Piece (Elt Ideal) S640x512 .bf16) :=
  [⟨Rect.unit ![128, 0] ![512, 512] inb_S640x512_S512x512_128_0, k0_pay3 y2⟩,
   ⟨Rect.unit ![0, 0] ![128, 512] inb_S640x512_S128x512_0_0, k0_pay2 y1⟩]

/-- The same for the values. -/
def vPieces (y3 : Before) (y4 : Own) : List (View.Piece (Elt Ideal) S640x512 .bf16) :=
  [⟨Rect.unit ![128, 0] ![512, 512] inb_S640x512_S512x512_128_0, k0_pay5 y4⟩,
   ⟨Rect.unit ![0, 0] ![128, 512] inb_S640x512_S128x512_0_0, k0_pay4 y3⟩]

/-- The keys that chunk `j` and head `h` see. -/
def kSlice (y1 : Before) (y2 : Own) (j h : Fin 4) : Vec Ideal S256x128 .bf16 :=
  scM0_0.view.readCov (kPieces y1 y2)
    (Rect.unit ![128 * j.val, 128 * h.val] ![256, 128] (inb_kv j h) : Rect S640x512).toLoadRect

/-- The values that chunk `j` and head `h` see. -/
def vSlice (y3 : Before) (y4 : Own) (j h : Fin 4) : Vec Ideal S256x128 .bf16 :=
  scM0_1.view.readCov (vPieces y3 y4)
    (Rect.unit ![128 * j.val, 128 * h.val] ![256, 128] (inb_kv j h) : Rect S640x512).toLoadRect

/-- The mask of a chunk: the band, and for the first chunk the band without the rows before (`w` is the number of
    the block in its sequence). -/
def maskOf (w : BitVec 32) (j : Fin 4) : IVec S128x256 1 :=
  if j.val = 0 then
    k0_pay9 w (iota .tc S128x256 32 [0] iota_S128x256_d0_w32) (iota .tc S128x256 32 [1] iota_S128x256_d1_w32) k0_pay6
  else
    k0_pay8 (iota .tc S128x256 32 [0] iota_S128x256_d0_w32) (iota .tc S128x256 32 [1] iota_S128x256_d1_w32) k0_pay6

/-- The masked scores of chunk `j` and head `h`. -/
def sVal (w : BitVec 32) (y0 : Own) (y1 : Before) (y2 : Own) (j h : Fin 4) : FVec Ideal S1x128x256 .f32 :=
  shapeCast S1x128x256
    (select (maskOf w j)
      (matmul (φ₁ := .bf16) (φ₂ := .bf16) dot_S128x128_S256x128_S128x256_1_1_0_0_n_n none
        (extractStridedSlice S128x128 ![128 * j.val, 128 * h.val] (k0_pay10 y0) (sl_q j h)) (kSlice y1 y2 j h)
        (constant S128x256 .f32 0x00000000#32))
      (broadcast S128x256 (Named.named (F := Ideal) κ "mask" 0xF149F2CA#32)))
    shapeCasts_S128x256_S1x128x256

def sPiece (w : BitVec 32) (y0 : Own) (y1 : Before) (y2 : Own) (j h : Fin 4) :
    View.Piece (Elt Ideal) S16x128x256 .f32 :=
  ⟨Rect.unit ![4 * j.val + h.val, 0, 0] ![1, 128, 256] (inb_sc j h), sVal w y0 y1 y2 j h⟩

/-- All sixteen score tiles, the last stored first. -/
def sPieces (w : BitVec 32) (y0 : Own) (y1 : Before) (y2 : Own) : List (View.Piece (Elt Ideal) S16x128x256 .f32) :=
  [sPiece w y0 y1 y2 3 3, sPiece w y0 y1 y2 3 2, sPiece w y0 y1 y2 3 1, sPiece w y0 y1 y2 3 0,
   sPiece w y0 y1 y2 2 3, sPiece w y0 y1 y2 2 2, sPiece w y0 y1 y2 2 1, sPiece w y0 y1 y2 2 0,
   sPiece w y0 y1 y2 1 3, sPiece w y0 y1 y2 1 2, sPiece w y0 y1 y2 1 1, sPiece w y0 y1 y2 1 0,
   sPiece w y0 y1 y2 0 3, sPiece w y0 y1 y2 0 2, sPiece w y0 y1 y2 0 1, sPiece w y0 y1 y2 0 0]

/-- The scores read back, all at once. -/
def sAll (w : BitVec 32) (y0 : Own) (y1 : Before) (y2 : Own) : Vec Ideal S16x128x256 .f32 :=
  scM0_2.view.readCov (sPieces w y0 y1 y2)
    (Rect.unit ![0, 0, 0] ![16, 128, 256] inb_S16x128x256_S16x128x256_0_0_0 : Rect S16x128x256).toLoadRect

/-- The weights of chunk `j` and head `h`, before the division. -/
def pSlice (s : Vec Ideal S16x128x256 .f32) (j h : Fin 4) : Vec Ideal S1x128x256 .bf16 :=
  scM0_3.view.readCov
    [⟨Rect.unit ![0, 0, 0] ![16, 128, 256] inb_S16x128x256_S16x128x256_0_0_0, k0_pay35 (k0_pay34 s)⟩]
    (Rect.unit ![4 * j.val + h.val, 0, 0] ![1, 128, 256] (inb_sc j h)).toLoadRect

/-- The output of chunk `j` and head `h`. -/
def oBlk (s : Vec Ideal S16x128x256 .f32) (y3 : Before) (y4 : Own) (j h : Fin 4) : FVec Ideal S128x128 .f32 :=
  divf
    (matmul (φ₁ := .bf16) (φ₂ := .bf16) dot_S128x256_S256x128_S128x128_1_0_0_1_n_n none
      (shapeCast (α := Ideal .bf16) S128x256 (pSlice s j h) shapeCasts_S1x128x256_S128x256 : FVec Ideal S128x256 .bf16) (vSlice y3 y4 j h)
      (constant S128x128 .f32 0x00000000#32))
    (broadcastTo S128x128
      (shapeCast S128x1 (extractStridedSlice S1x128x1 ![4 * j.val + h.val, 0, 0] (k0_pay33 s) (sl_den j h))
        shapeCasts_S1x128x1_S128x1)
      broadcasts_S128x1_S128x128)

/-- The output of head `h`: its four chunks one below the other, laid out in tiles. -/
def oVal (s : Vec Ideal S16x128x256 .f32) (y3 : Before) (y4 : Own) (h : Fin 4) : FVec Ideal S32x1x16x128 .bf16 :=
  shapeCast S32x1x16x128
    (shapeCast S32x16x128
      (truncf .bf16
        (concatenate S512x128 0
          [⟨S128x128, oBlk s y3 y4 0 h⟩, ⟨S128x128, oBlk s y3 y4 1 h⟩, ⟨S128x128, oBlk s y3 y4 2 h⟩,
           ⟨S128x128, oBlk s y3 y4 3 h⟩]
          concatenates_S128x128_S128x128_S128x128_S128x128_S512x128_d0)
        bitsLt_bf16_f32)
      shapeCasts_S512x128_S32x16x128)
    shapeCasts_S32x16x128_S32x1x16x128

def oPiece (s : Vec Ideal S16x128x256 .f32) (y3 : Before) (y4 : Own) (h : Fin 4) :
    View.Piece (Elt Ideal) S32x1x16x512 .bf16 :=
  ⟨Rect.unit ![0, 0, 0, 128 * h.val] ![32, 1, 16, 128] (inb_out h), oVal s y3 y4 h⟩

def oPieces (s : Vec Ideal S16x128x256 .f32) (y3 : Before) (y4 : Own) :
    List (View.Piece (Elt Ideal) S32x1x16x512 .bf16) :=
  [oPiece s y3 y4 3, oPiece s y3 y4 2, oPiece s y3 y4 1, oPiece s y3 y4 0]

/-- The log-sum-exp of chunk `j`: lane `l` holds that of head `l / 32`. -/
def lBlk (s : Vec Ideal S16x128x256 .f32) (j : Fin 4) : FVec Ideal S128x128 .f32 :=
  let l : FVec Ideal S16x128x1 .f32 := k0_pay36 (k0_pay31 s) (k0_pay33 s)
  let head : IVec S128x128 32 := k0_pay56
  let row (h : Fin 4) : FVec Ideal S128x128 .f32 :=
    broadcastTo S128x128
      (shapeCast S128x1
        (shapeCast S128x1 (extractStridedSlice S1x128x1 ![4 * j.val + h.val, 0, 0] l (sl_den j h))
          shapeCasts_S1x128x1_S128x1)
        shapeCasts_S128x1_S128x1)
      broadcasts_S128x1_S128x128
  select (cmpi .eq head (broadcast S128x128 0#32)) (row 0)
    (select (cmpi .eq head (broadcast S128x128 1#32)) (row 1)
      (select (cmpi .eq head (broadcast S128x128 2#32)) (row 2) (row 3)))

/-- The log-sum-exp block: the four chunks one below the other, laid out in tiles. -/
def lVal (s : Vec Ideal S16x128x256 .f32) : FVec Ideal S32x1x16x128 .f32 :=
  shapeCast S32x1x16x128
    (shapeCast S32x16x128
      (concatenate S512x128 0
        [⟨S128x128, lBlk s 0⟩, ⟨S128x128, lBlk s 1⟩, ⟨S128x128, lBlk s 2⟩, ⟨S128x128, lBlk s 3⟩]
        concatenates_S128x128_S128x128_S128x128_S128x128_S512x128_d0)
      shapeCasts_S512x128_S32x16x128)
    shapeCasts_S32x16x128_S32x1x16x128

variable (c : Dev nD) (i : grid0.Coords) (arg3 : Memref sig .tc .vmem S32x1x16x512 .bf16) (harg3 : arg3.IsWhole)
  (arg4 : Memref sig .tc .vmem S8x1x16x512 .bf16) (harg4 : arg4.IsWhole)
  (arg5 : Memref sig .tc .vmem S32x1x16x512 .bf16) (harg5 : arg5.IsWhole)
  (arg6 : Memref sig .tc .vmem S8x1x16x512 .bf16) (harg6 : arg6.IsWhole)
  (arg7 : Memref sig .tc .vmem S32x1x16x512 .bf16) (harg7 : arg7.IsWhole)
  (arg8 : Memref sig .tc .vmem S32x1x16x512 .bf16) (harg8 : arg8.IsWhole)
  (arg9 : Memref sig .tc .vmem S32x1x16x128 .f32) (harg9 : arg9.IsWhole)
  (x0 : Own) (x1 : Before) (x2 : Own) (x3 : Before) (x4 : Own)

/-- A block read whole through a whole buffer that holds it. -/
abbrev own (arg : Memref sig .tc .vmem S32x1x16x512 .bf16) (harg : arg.IsWhole) (x : Own) : Own :=
  View.ld (View.read (Elt Ideal) arg.view (harg.unread x)) (Rect.unit ![0, 0, 0, 0] ![32, 1, 16, 512] inb_S32x1x16x512_S32x1x16x512_0_0_0_0)
abbrev before (arg : Memref sig .tc .vmem S8x1x16x512 .bf16) (harg : arg.IsWhole) (x : Before) : Before :=
  View.ld (View.read (Elt Ideal) arg.view (harg.unread x)) (Rect.unit ![0, 0, 0, 0] ![8, 1, 16, 512] inb_S8x1x16x512_S8x1x16x512_0_0_0_0)

theorem own_eq (arg : Memref sig .tc .vmem S32x1x16x512 .bf16) (harg : arg.IsWhole) (x : Own) : own arg harg x = x := by
  unfold own
  rw [harg.read_unread]
  exact View.ld_unit_zero (by funext a; fin_cases a <;> rfl) _ x
theorem before_eq (arg : Memref sig .tc .vmem S8x1x16x512 .bf16) (harg : arg.IsWhole) (x : Before) : before arg harg x = x := by
  unfold before
  rw [harg.read_unread]
  exact View.ld_unit_zero (by funext a; fin_cases a <;> rfl) _ x

set_option maxHeartbeats 4000000 in
theorem run_out :
    (kernelRun0_A (F := Ideal) c i arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) x0 x1 x2 x3 x4).1
      = oPieces (sAll (BitVec.ofNat 32 (i 2).val) (own arg3 harg3 x0) (before arg4 harg4 x1) (own arg5 harg5 x2))
          (before arg6 harg6 x3) (own arg7 harg7 x4) := by
  unfold kernelRun0_A; dsimp only
  sl_kernel_rfl

set_option maxHeartbeats 4000000 in
theorem run_lse :
    (kernelRun0_A (F := Ideal) c i arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) x0 x1 x2 x3 x4).2.1
      = [⟨Rect.unit ![0, 0, 0, 0] ![32, 1, 16, 128] inb_S32x1x16x128_S32x1x16x128_0_0_0_0,
          lVal (sAll (BitVec.ofNat 32 (i 2).val) (own arg3 harg3 x0) (before arg4 harg4 x1) (own arg5 harg5 x2))⟩] := by
  unfold kernelRun0_A; dsimp only
  sl_kernel_rfl

/-- What the point leaves in the output's block. -/
theorem out_eq (y : S32x1x16x512.Idx) :
    out0_A_5 (F := Ideal) c i arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) x0 x1 x2 x3 x4 y
      = View.canon (oPieces (sAll (BitVec.ofNat 32 (i 2).val) x0 x1 x2) x3 x4) y := by
  unfold out0_A_5
  rw [View.read_writes_eq_canon _ _ _ (cover0_A_5 c _ _ _ _ _ _ _ _ _ _ _ _ _ _ _ _ _ _ _ _ _ _ _ _ _ _ _ _), run_out,
    own_eq, own_eq, own_eq, before_eq, before_eq]

/-- What the point leaves in the log-sum-exp's block. -/
theorem lse_eq :
    out0_A_6 (F := Ideal) c i arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) x0 x1 x2 x3 x4
      = lVal (sAll (BitVec.ofNat 32 (i 2).val) x0 x1 x2) := by
  unfold out0_A_6
  rw [View.read_writes_eq_canon _ _ _ (cover0_A_6 c _ _ _ _ _ _ _ _ _ _ _ _ _ _ _ _ _ _ _ _ _ _ _ _ _ _ _ _), run_lse,
    own_eq, own_eq, before_eq]
  exact View.canon_unit_zero (by funext a; fin_cases a <;> rfl) _ _

end Cert.Proof.Body
end
-- ==== Proof.Softmax.lean ====
module

public import Idealize.ShloMosaic.Lib.Pointwise

/-! A row of attention over the extended reals: dividing the weighted sum by the weights' sum, and weighting by the
exponential of the score less the log-sum-exp, are the same when the scores are real numbers or `−∞`. -/

@[expose] public section

noncomputable section

namespace Cert.Proof.Softmax

open Idealize.ShloMosaic

variable {n : Nat}

/-- The greatest score. -/
@[irreducible] def top (s : Fin n → EReal) : EReal := Finset.univ.fold max ⊥ s

/-- The sum of the weights. -/
@[irreducible] def den (s : Fin n → EReal) : EReal := ∑ b, Ideal.exp (s b - top s)

theorem coe_sum {ι : Type} (S : Finset ι) (f : ι → ℝ) : ((∑ b ∈ S, f b : ℝ) : EReal) = ∑ b ∈ S, (f b : EReal) := by
  classical
  induction S using Finset.induction_on with
  | empty => simp
  | insert a S ha ih => rw [Finset.sum_insert ha, Finset.sum_insert ha, EReal.coe_add, ih]

/-- A sum times a real that is not negative, term by term. -/
theorem sum_mul_coe {ι : Type} (S : Finset ι) (f : ι → EReal) (r : ℝ) (hr : 0 ≤ r) :
    (∑ b ∈ S, f b) * (r : EReal) = ∑ b ∈ S, f b * (r : EReal) := by
  classical
  induction S using Finset.induction_on with
  | empty => simp
  | insert a S ha ih =>
    rw [Finset.sum_insert ha, Finset.sum_insert ha, ← ih, mul_comm _ (r : EReal), mul_comm _ (r : EReal), mul_comm _ (r : EReal)]
    exact EReal.left_distrib_of_nonneg_of_ne_top (by exact_mod_cast hr) (EReal.coe_ne_top r) _ _

theorem top_le (s : Fin n → EReal) (b : Fin n) : s b ≤ top s := by
  unfold top
  exact (Finset.le_fold_max _).2 (Or.inr ⟨b, Finset.mem_univ b, le_rfl⟩)

/-- With real scores or `−∞`, one of them real, the greatest is real. -/
theorem top_real (s : Fin n → EReal) (hs : ∀ b, s b ≠ ⊤) (b0 : Fin n) (h0 : s b0 ≠ ⊥) : ∃ r : ℝ, top s = r := by
  have hb : top s ≠ ⊥ := fun h => h0 (le_bot_iff.1 (h ▸ top_le s b0))
  have ht : top s ≠ ⊤ := by
    have : top s < ⊤ := by
      unfold top
      exact (Finset.fold_max_lt _).2 ⟨bot_lt_top, fun b _ => lt_top_iff_ne_top.2 (hs b)⟩
    exact this.ne
  exact ⟨(top s).toReal, (EReal.coe_toReal ht hb).symm⟩

/-- A weight is a real number that is not negative. -/
theorem weight_real (x : EReal) (hx : x ≠ ⊤) (r : ℝ) : ∃ w : ℝ, 0 ≤ w ∧ Ideal.exp (x - r) = w := by
  induction x using EReal.rec with
  | bot => exact ⟨0, le_rfl, by rw [EReal.bot_sub]; rfl⟩
  | coe x => exact ⟨Real.exp (x - r), (Real.exp_pos _).le, by rw [← EReal.coe_sub]; rfl⟩
  | top => exact absurd rfl hx

/-- The weights' sum is a real number at least 0, and positive. -/
theorem den_real (s : Fin n → EReal) (hs : ∀ b, s b ≠ ⊤) (b0 : Fin n) (h0 : s b0 ≠ ⊥) :
    ∃ r : ℝ, 0 < r ∧ den s = r := by
  obtain ⟨m, hm⟩ := top_real s hs b0 h0
  choose w hw0 hw using fun b => weight_real (s b) (hs b) m
  refine ⟨∑ b, w b, ?_, ?_⟩
  · refine Finset.sum_pos' (fun b _ => hw0 b) ⟨b0, Finset.mem_univ _, ?_⟩
    have h := hw b0
    obtain ⟨x, hx⟩ : ∃ x : ℝ, s b0 = x := ⟨(s b0).toReal, (EReal.coe_toReal (hs b0) h0).symm⟩
    rw [hx, ← EReal.coe_sub] at h
    have h' : Real.exp (x - m) = w b0 := EReal.coe_eq_coe_iff.1 h
    rw [← h']
    exact Real.exp_pos _
  · unfold den
    rw [hm, coe_sum]
    exact Finset.sum_congr rfl fun b _ => hw b

/-- A weight over the sum of the weights is the exponential of the score less the log-sum-exp. -/
theorem exp_sub_lse (x : EReal) (hx : x ≠ ⊤) (m d : ℝ) (hd : 0 < d) :
    Ideal.exp (x - m) * ((d : EReal))⁻¹ = Ideal.exp (x - ((m : EReal) + Ideal.log d)) := by
  have hl : Ideal.log (d : EReal) = (Real.log d : ℝ) := by
    show (if d ≤ 0 then (⊥ : EReal) else (Real.log d : ℝ)) = _
    rw [if_neg (not_le.2 hd)]
  rw [hl, ← EReal.coe_add, ← EReal.coe_inv]
  induction x using EReal.rec with
  | bot => rw [EReal.bot_sub, EReal.bot_sub]; exact zero_mul _
  | coe x =>
    rw [← EReal.coe_sub, ← EReal.coe_sub]
    show ((Real.exp (x - m) : ℝ) : EReal) * _ = ((Real.exp (x - (m + Real.log d)) : ℝ) : EReal)
    rw [← EReal.coe_mul, ← sub_sub, Real.exp_sub _ (Real.log d), Real.exp_log hd, div_eq_mul_inv]
  | top => exact absurd rfl hx

/-- The two forms of a row of attention: the values may be any extended reals, and where a score is `−∞` they may differ. -/
theorem row_eq (s : Fin n → EReal) (hs : ∀ b, s b ≠ ⊤) (b0 : Fin n) (h0 : s b0 ≠ ⊥) (v w : Fin n → EReal)
    (hv : ∀ b, s b ≠ ⊥ → v b = w b) :
    Ideal.div (∑ b, Ideal.exp (s b - top s) * v b) (den s)
      = ∑ b, w b * Ideal.exp (s b - (top s + Ideal.log (den s))) := by
  obtain ⟨m, hm⟩ := top_real s hs b0 h0
  obtain ⟨d, hd, hden⟩ := den_real s hs b0 h0
  have hne : (d : EReal) ≠ 0 := by exact_mod_cast hd.ne'
  rw [hden, hm]
  unfold Ideal.div
  rw [if_neg hne, ← EReal.coe_inv, sum_mul_coe _ _ _ (inv_nonneg.2 hd.le)]
  refine Finset.sum_congr rfl fun b _ => ?_
  rw [← exp_sub_lse (s b) (hs b) m d hd, ← EReal.coe_inv, mul_right_comm, mul_comm]
  by_cases h : s b = ⊥
  · rw [h, EReal.bot_sub]
    show _ * (0 * _) = _ * (0 * _)
    rw [zero_mul, mul_zero, mul_zero]
  · rw [hv b h]

end Cert.Proof.Softmax
end
-- ==== Proof.Attention.lean ====
module

public import proofs.«01_k».proof.Proof.Softmax

/-! The group's attention as numbers: which key a query sees, where a token's row lies, and the score of a query
against a key. -/

@[expose] public section

noncomputable section

namespace Cert.Proof.Attention

open Idealize.ShloMosaic Idealize.ShloMosaic.Tactic

/-- Query `a` of chunk `j` sees key `b` of the 256 before and in its chunk: no later one, none further back than 128,
    and for the first chunk of a sequence none before it. -/
def seen (j : Fin 4) (a : Fin 128) (b : Fin 256) : Prop :=
  (128 ≤ b.val ∧ b.val ≤ a.val + 128) ∨ (b.val < 128 ∧ a.val ≤ b.val ∧ j.val ≠ 0)

instance (j : Fin 4) (a : Fin 128) (b : Fin 256) : Decidable (seen j a b) := by unfold seen; infer_instance

theorem andi_ofBool (p q : Bool) : IntOp.andi (BitVec.ofBool p) (BitVec.ofBool q) = BitVec.ofBool (p && q) := by
  revert p q; decide
theorem ori_ofBool (p q : Bool) : IntOp.ori (BitVec.ofBool p) (BitVec.ofBool q) = BitVec.ofBool (p || q) := by
  revert p q; decide
theorem toInt_small (n : Nat) (h : n < 1024) : (BitVec.ofNat 32 n).toInt = n := by
  rw [BitVec.toInt_ofNat']; exact Int.bmod_eq_of_le (by omega) (by omega)
theorem toInt_sub (n : Nat) (h : n < 1024) : (IntOp.subi (BitVec.ofNat 32 n) 128#32).toInt = (n : Int) - 128 := by
  show (BitVec.ofNat 32 n - 128#32).toInt = _
  rw [BitVec.toInt_sub, toInt_small n h]
  exact Int.bmod_eq_of_le (by show (-4294967296 : Int) / 2 ≤ n - 128; omega) (by show (n : Int) - 128 < (4294967296 + 1) / 2; omega)

/-- The argument: the rows of all tokens, with the projections of queries, keys and values side by side. -/
abbrev Arg := (⟨2, ![33024, 10240]⟩ : Shape).Idx → EReal

/-- The row of the argument that holds token `i` of sequence `n`: class `n % 16` of batch entry `n / 16`. -/
def row (n : Fin 64) (i : Fin 512) : Fin 33024 :=
  ⟨8192 * (n.val / 16) + 256 * (i.val / 16) + 16 * (n.val % 16) + i.val % 16, by omega⟩

/-- Head `h`'s feature `d` of the 512 columns from `c0`. -/
def feat (c0 : Nat) (hc : c0 + 512 ≤ 10240) (h : Fin 4) (d : Fin 128) : Fin 10240 :=
  ⟨c0 + (128 * h.val + d.val), by omega⟩

/-- Token `a` of chunk `j` of a sequence. -/
def tok (j : Fin 4) (a : Fin 128) : Fin 512 := ⟨128 * j.val + a.val, by omega⟩

/-- Token `b` of the 256 before and in chunk `j` (of the first chunk only those in it are tokens). -/
def tokBefore (j : Fin 4) (b : Fin 256) : Fin 512 := ⟨128 * j.val + b.val - 128, by omega⟩

/-- The score of query `a` of chunk `j` of sequence `n` in head `h` against key `b`. -/
def logit (P : Arg) (n : Fin 64) (j h : Fin 4) (a : Fin 128) (b : Fin 256) : EReal :=
  if seen j a b then
    ∑ d : Fin 128, P (ix2 (row n (tok j a)) (feat 2048 (by decide) h d))
      * P (ix2 (row n (tokBefore j b)) (feat 3584 (by decide) h d))
  else ⊥

/-- The value of key `b`. -/
def val (P : Arg) (n : Fin 64) (j h : Fin 4) (d : Fin 128) (b : Fin 256) : EReal :=
  P (ix2 (row n (tokBefore j b)) (feat 5120 (by decide) h d))

end Cert.Proof.Attention
end
-- ==== Proof.BlockValue.lean ====
module

public import proofs.«01_k».proof.Proof.Body
public import proofs.«01_k».proof.Proof.Attention
public import Idealize.ShloMosaic.Lib.Pointwise

/-! The numbers one grid point stores, read at an index: the scores, the weights' sums, the output and the
log-sum-exp, each from the blocks of queries, keys and values. -/

@[expose] public section

set_option maxRecDepth 16384

noncomputable section

namespace Cert.Proof.BlockValue

open Cert.Swa2Ideal Cert.Swa2Ideal.Gen Cert.Proof.Body Cert.Proof.Attention Idealize.ShloMosaic Idealize.ShloMosaic.Tactic Idealize.SL.Sem

/-- Row `r`, column `d` of a block of 512 rows stored as 32 tiles of 16. -/
def ownAt (y : Own) (r d : Fin 512) : EReal :=
  y (ix4 ⟨r.val / 16, by omega⟩ 0 ⟨r.val % 16, by omega⟩ d)

/-- Row `r`, column `d` of the 640 rows that a point holds: the 128 before the block, then the block. -/
def bufAt (y1 : Before) (y2 : Own) (r : Fin 640) (d : Fin 512) : EReal :=
  if h : r.val < 128 then y1 (ix4 ⟨r.val / 16, by omega⟩ 0 ⟨r.val % 16, by omega⟩ d)
  else ownAt y2 ⟨r.val - 128, by omega⟩ d

/-- The same as an array. -/
def buf (y1 : Before) (y2 : Own) : S640x512.Idx → Elt Ideal .bf16 := fun i => bufAt y1 y2 (i 0) (i 1)

theorem kPieces_mem (y1 : Before) (y2 : Own) :
    ∀ p ∈ kPieces y1 y2, ∀ x : p.1.shape.Idx, p.2 x = buf y1 y2 (p.1.emb x) := by
  intro p hp
  simp only [kPieces, List.mem_cons, List.not_mem_nil, or_false] at hp
  rcases hp with rfl | rfl <;> intro x
  · obtain ⟨a, b, rfl⟩ : ∃ (a : Fin 512) (b : Fin 512), x = ix2 a b := ⟨x 0, x 1, eq_ix2 x⟩
    show k0_pay3 y2 (ix2 a b) = bufAt y1 y2 ⟨128 + 1 * a.val, _⟩ ⟨0 + 1 * b.val, _⟩
    unfold bufAt ownAt
    pointwise [k0_pay3]
  · obtain ⟨a, b, rfl⟩ : ∃ (a : Fin 128) (b : Fin 512), x = ix2 a b := ⟨x 0, x 1, eq_ix2 x⟩
    show k0_pay2 y1 (ix2 a b) = bufAt y1 y2 ⟨0 + 1 * a.val, _⟩ ⟨0 + 1 * b.val, _⟩
    unfold bufAt ownAt
    pointwise [k0_pay2]

theorem vPieces_eq (y3 : Before) (y4 : Own) : vPieces y3 y4 = kPieces y3 y4 := rfl

theorem kPieces_cover (y1 : Before) (y2 : Own) (y : S640x512.Idx) : ∃ p ∈ kPieces y1 y2, y ∈ p.1.set := by
  have h0 : (y 0).val < 640 := (y 0).isLt
  have h1 : (y 1).val < 512 := (y 1).isLt
  by_cases h : (y 0).val < 128
  · refine ⟨⟨Rect.unit ![0, 0] ![128, 512] inb_S640x512_S128x512_0_0, k0_pay2 y1⟩, by simp [kPieces], ?_⟩
    rw [Rect.mem_set_unit]
    intro a
    match a with
    | ⟨0, _⟩ => exact ⟨Nat.zero_le _, by show (y 0).val < 0 + 128; omega⟩
    | ⟨1, _⟩ => exact ⟨Nat.zero_le _, by show (y 1).val < 0 + 512; omega⟩
  · refine ⟨⟨Rect.unit ![128, 0] ![512, 512] inb_S640x512_S512x512_128_0, k0_pay3 y2⟩, by simp [kPieces], ?_⟩
    rw [Rect.mem_set_unit]
    intro a
    match a with
    | ⟨0, _⟩ => exact ⟨by show 128 ≤ (y 0).val; omega, by show (y 0).val < 128 + 512; omega⟩
    | ⟨1, _⟩ => exact ⟨Nat.zero_le _, by show (y 1).val < 0 + 512; omega⟩

/-- The keys that chunk `j` and head `h` see are rows `128 j` to `128 j + 255` of the buffer, columns from `128 h`. -/
theorem kSlice_apply (y1 : Before) (y2 : Own) (j h : Fin 4) (b : Fin 256) (d : Fin 128) :
    kSlice y1 y2 j h (ix2 b d) = bufAt y1 y2 ⟨128 * j.val + b.val, by omega⟩ ⟨128 * h.val + d.val, by omega⟩ := by
  unfold kSlice
  rw [View.readCov_eq_canon']
  show View.canon (kPieces y1 y2) _ = _
  rw [View.canon_apply_of_pieces (buf y1 y2) _ (kPieces_mem y1 y2) _ (kPieces_cover y1 y2 _)]
  show bufAt y1 y2 ⟨128 * j.val + 1 * b.val, _⟩ ⟨128 * h.val + 1 * d.val, _⟩ = _
  simp only [Nat.one_mul]

theorem vSlice_apply (y3 : Before) (y4 : Own) (j h : Fin 4) (b : Fin 256) (d : Fin 128) :
    vSlice y3 y4 j h (ix2 b d) = bufAt y3 y4 ⟨128 * j.val + b.val, by omega⟩ ⟨128 * h.val + d.val, by omega⟩ := by
  unfold vSlice
  rw [View.readCov_eq_canon', vPieces_eq]
  show View.canon (kPieces y3 y4) _ = _
  rw [View.canon_apply_of_pieces (buf y3 y4) _ (kPieces_mem y3 y4) _ (kPieces_cover y3 y4 _)]
  show bufAt y3 y4 ⟨128 * j.val + 1 * b.val, _⟩ ⟨128 * h.val + 1 * d.val, _⟩ = _
  simp only [Nat.one_mul]

theorem maskOf_apply (j : Fin 4) (a : Fin 128) (b : Fin 256) :
    maskOf 0#32 j (ix2 a b) = BitVec.ofBool (decide (seen j a b)) := by
  have ha := toInt_small a.val (by omega)
  have hb := toInt_small b.val (by omega)
  have hs := toInt_sub b.val (by omega)
  have h128 : (128#32 : BitVec 32).toInt = 128 := rfl
  have h0 : Scalar.cmpi .sgt 0#32 0#32 = BitVec.ofBool false := rfl
  unfold maskOf
  split
  · pointwise [k0_pay9, k0_pay7, k0_pay6]
    rw [WordCmp.cmpi_sge_eq, WordCmp.cmpi_sge_eq, WordCmp.cmpi_sle_eq, WordCmp.cmpi_slt_eq, h0, ha, hb, hs, h128]
    simp only [andi_ofBool, ori_ofBool]
    congr 1
    rw [Bool.eq_iff_iff]
    simp only [Bool.or_eq_true, Bool.and_eq_true, decide_eq_true_eq, Bool.false_eq_true, and_false, or_false]
    unfold seen
    omega
  · pointwise [k0_pay8, k0_pay7, k0_pay6]
    rw [WordCmp.cmpi_sge_eq, WordCmp.cmpi_sge_eq, WordCmp.cmpi_sle_eq, WordCmp.cmpi_slt_eq, ha, hb, hs, h128]
    simp only [andi_ofBool, ori_ofBool]
    congr 1
    rw [Bool.eq_iff_iff]
    simp only [Bool.or_eq_true, Bool.and_eq_true, decide_eq_true_eq, Bool.false_eq_true, and_false, or_false]
    unfold seen
    omega

/-- The score of query `a` of chunk `j` in head `h` against key `b`. -/
def score (y0 : Own) (y1 : Before) (y2 : Own) (j h : Fin 4) (a : Fin 128) (b : Fin 256) : EReal :=
  if seen j a b then
    ∑ d : Fin 128, ownAt y0 ⟨128 * j.val + a.val, by omega⟩ ⟨128 * h.val + d.val, by omega⟩
      * bufAt y1 y2 ⟨128 * j.val + b.val, by omega⟩ ⟨128 * h.val + d.val, by omega⟩
  else ⊥

theorem sVal_apply (y0 : Own) (y1 : Before) (y2 : Own) (j h : Fin 4) (a : Fin 128) (b : Fin 256) (z : Fin 1) :
    sVal 0#32 y0 y1 y2 j h (ix3 z a b) = score y0 y1 y2 j h a b := by
  unfold sVal
  pointwise [k0_pay10]
  rw [maskOf_apply]
  unfold score
  by_cases hs : seen j a b
  · rw [if_pos hs, decide_eq_true hs]
    simp only [kSlice_apply]
    rfl
  · rw [if_neg hs, decide_eq_false hs]
    rfl

/-- All the scores of a point as one array: tile `4 j + h` belongs to chunk `j` and head `h`. -/
def scores (y0 : Own) (y1 : Before) (y2 : Own) : S16x128x256.Idx → Elt Ideal .f32 := fun i =>
  score y0 y1 y2 ⟨(i 0).val / 4, by have : (i 0).val < 16 := (i 0).isLt; omega⟩ ⟨(i 0).val % 4, by omega⟩ (i 1) (i 2)

theorem sPiece_agrees (y0 : Own) (y1 : Before) (y2 : Own) (j h : Fin 4) (x : (sPiece 0#32 y0 y1 y2 j h).1.shape.Idx) :
    (sPiece 0#32 y0 y1 y2 j h).2 x = scores y0 y1 y2 ((sPiece 0#32 y0 y1 y2 j h).1.emb x) := by
  obtain ⟨z, a, b, rfl⟩ : ∃ (z : Fin 1) (a : Fin 128) (b : Fin 256), x = ix3 z a b := ⟨x 0, x 1, x 2, eq_ix3 x⟩
  show sVal 0#32 y0 y1 y2 j h (ix3 z a b) = score y0 y1 y2 ⟨(4 * j.val + h.val + 1 * z.val) / 4, _⟩
    ⟨(4 * j.val + h.val + 1 * z.val) % 4, _⟩ ⟨0 + 1 * a.val, _⟩ ⟨0 + 1 * b.val, _⟩
  rw [sVal_apply]
  congr 1 <;> apply Fin.ext <;> dsimp only <;> omega

theorem mem_sPieces (y0 : Own) (y1 : Before) (y2 : Own) (j h : Fin 4) :
    sPiece 0#32 y0 y1 y2 j h ∈ sPieces 0#32 y0 y1 y2 := by
  unfold sPieces
  fin_cases j <;> fin_cases h <;> simp

/-- The scores read back are the scores. -/
theorem sAll_eq (y0 : Own) (y1 : Before) (y2 : Own) : sAll 0#32 y0 y1 y2 = scores y0 y1 y2 := by
  unfold sAll
  rw [View.readCov_eq_canon']
  funext x
  have hx : (x 0).val < 16 := (x 0).isLt
  have e : (Rect.unit ![0, 0, 0] ![16, 128, 256] inb_S16x128x256_S16x128x256_0_0_0 : Rect S16x128x256).toLoadRect.idx x = x := by
    funext a
    match a with
    | ⟨0, _⟩ => exact Fin.ext (by show 0 + 1 * (x 0).val = (x 0).val; omega)
    | ⟨1, _⟩ => exact Fin.ext (by show 0 + 1 * (x 1).val = (x 1).val; omega)
    | ⟨2, _⟩ => exact Fin.ext (by show 0 + 1 * (x 2).val = (x 2).val; omega)
  show View.canon (sPieces 0#32 y0 y1 y2) _ = _
  rw [e]
  refine View.canon_apply_of_pieces (scores y0 y1 y2) _ (fun p hp => ?_) x ?_
  · simp only [sPieces, List.mem_cons, List.not_mem_nil, or_false] at hp
    rcases hp with rfl | rfl | rfl | rfl | rfl | rfl | rfl | rfl | rfl | rfl | rfl | rfl | rfl | rfl | rfl | rfl <;>
      exact sPiece_agrees y0 y1 y2 _ _
  · refine ⟨_, mem_sPieces y0 y1 y2 ⟨(x 0).val / 4, by omega⟩ ⟨(x 0).val % 4, by omega⟩, ?_⟩
    unfold sPiece
    rw [Rect.mem_set_unit]
    intro a
    match a with
    | ⟨0, _⟩ =>
      show 4 * ((x 0).val / 4) + (x 0).val % 4 ≤ (x 0).val ∧ (x 0).val < 4 * ((x 0).val / 4) + (x 0).val % 4 + 1
      omega
    | ⟨1, _⟩ => exact ⟨Nat.zero_le _, by show (x 1).val < 0 + 128; have : (x 1).val < 128 := (x 1).isLt; omega⟩
    | ⟨2, _⟩ => exact ⟨Nat.zero_le _, by show (x 2).val < 0 + 256; have : (x 2).val < 256 := (x 2).isLt; omega⟩

/-- A row's greatest score. -/
def top (s : S16x128x256.Idx → EReal) (g : Fin 16) (a : Fin 128) : EReal :=
  (Finset.univ : Finset (Fin 256)).fold max ⊥ fun b => s (ix3 g a b)

/-- The sum of a row's weights. -/
def den (s : S16x128x256.Idx → EReal) (g : Fin 16) (a : Fin 128) : EReal :=
  ∑ b : Fin 256, Ideal.exp (s (ix3 g a b) - top s g a)

theorem top_apply (s : Vec Ideal S16x128x256 .f32) (g : Fin 16) (a : Fin 128) (z : Fin 1) :
    k0_pay31 s (ix3 g a z) = top s g a := by
  unfold top
  pointwise [k0_pay31]
  rw [show Ideal.ofBits FTy.f32 0xFF800000#32 = ⊥ from by simp [Ideal.ofBits, Ideal.ieee]]

theorem den_apply (s : Vec Ideal S16x128x256 .f32) (g : Fin 16) (a : Fin 128) (z : Fin 1) :
    k0_pay33 s (ix3 g a z) = den s g a := by
  unfold den
  pointwise [k0_pay33, k0_pay32, top_apply]

theorem pSlice_apply (s : Vec Ideal S16x128x256 .f32) (j h : Fin 4) (z : Fin 1) (a : Fin 128) (b : Fin 256) :
    pSlice s j h (ix3 z a b) = Ideal.exp (s (ix3 ⟨4 * j.val + h.val, by omega⟩ a b) - top s ⟨4 * j.val + h.val, by omega⟩ a) := by
  unfold pSlice
  rw [View.readCov_eq_canon', View.canon_unit_zero (by funext a; fin_cases a <;> rfl)]
  pointwise [k0_pay35, k0_pay34, k0_pay32, top_apply]

/-- Row `a` of chunk `j` in head `h`, column `d` of the output: the weighted sum of the values over the sum of the
    weights. -/
def oRow (s : S16x128x256.Idx → EReal) (y3 : Before) (y4 : Own) (j h : Fin 4) (a d : Fin 128) : EReal :=
  Ideal.div
    (∑ b : Fin 256, Ideal.exp (s (ix3 ⟨4 * j.val + h.val, by omega⟩ a b) - top s ⟨4 * j.val + h.val, by omega⟩ a)
      * bufAt y3 y4 ⟨128 * j.val + b.val, by omega⟩ ⟨128 * h.val + d.val, by omega⟩)
    (den s ⟨4 * j.val + h.val, by omega⟩ a)

/-- The log-sum-exp of that row. -/
def lRow (s : S16x128x256.Idx → EReal) (j h : Fin 4) (a : Fin 128) : EReal :=
  top s ⟨4 * j.val + h.val, by omega⟩ a + Ideal.log (den s ⟨4 * j.val + h.val, by omega⟩ a)

theorem oBlk_apply (s : Vec Ideal S16x128x256 .f32) (y3 : Before) (y4 : Own) (j h : Fin 4) (a d : Fin 128) :
    oBlk s y3 y4 j h (ix2 a d) = oRow s y3 y4 j h a d := by
  unfold oBlk oRow
  pointwise [den_apply, pSlice_apply, vSlice_apply]

theorem oVal_apply (s : Vec Ideal S16x128x256 .f32) (y3 : Before) (y4 : Own) (h : Fin 4) (u : Fin 32) (z : Fin 1) (r : Fin 16) (d : Fin 128) :
    oVal s y3 y4 h (ix4 u z r d)
      = oRow s y3 y4 ⟨(16 * u.val + r.val) / 128, by omega⟩ h ⟨(16 * u.val + r.val) % 128, by omega⟩ d := by
  unfold oVal
  pointwise []
  split_ifs <;> rw [oBlk_apply] <;> congr 1 <;> apply Fin.ext <;> dsimp only [Fin.isValue] <;> omega

theorem head_of_lane : ∀ l : Fin 128,
    IntOp.shrsi ArithUnit.vector (BitVec.ofNat 32 l.val) 5#32 = BitVec.ofNat 32 (l.val / 32) := by
  decide +kernel

theorem lBlk_apply (s : Vec Ideal S16x128x256 .f32) (j : Fin 4) (a l : Fin 128) :
    lBlk s j (ix2 a l) = lRow s j ⟨l.val / 32, by omega⟩ a := by
  unfold lBlk
  pointwise [top_apply, k0_pay36, den_apply, k0_pay56]
  rw [head_of_lane]
  obtain h | h | h | h : l.val / 32 = 0 ∨ l.val / 32 = 1 ∨ l.val / 32 = 2 ∨ l.val / 32 = 3 := by omega
  all_goals (simp only [h]; rfl)

theorem lVal_apply (s : Vec Ideal S16x128x256 .f32) (u : Fin 32) (z : Fin 1) (r : Fin 16) (l : Fin 128) :
    lVal s (ix4 u z r l)
      = lRow s ⟨(16 * u.val + r.val) / 128, by omega⟩ ⟨l.val / 32, by omega⟩ ⟨(16 * u.val + r.val) % 128, by omega⟩ := by
  unfold lVal
  pointwise []
  split_ifs <;> rw [lBlk_apply] <;> congr 1 <;> apply Fin.ext <;> dsimp only [Fin.isValue] <;> omega

/-- The output's block as an array. -/
def oArr (s : Vec Ideal S16x128x256 .f32) (y3 : Before) (y4 : Own) : S32x1x16x512.Idx → Elt Ideal .bf16 := fun i =>
  oRow s y3 y4 ⟨(16 * (i 0).val + (i 2).val) / 128, by have : (i 0).val < 32 := (i 0).isLt; have : (i 2).val < 16 := (i 2).isLt; omega⟩
    ⟨(i 3).val / 128, by have : (i 3).val < 512 := (i 3).isLt; omega⟩ ⟨(16 * (i 0).val + (i 2).val) % 128, by omega⟩
    ⟨(i 3).val % 128, by omega⟩

/-- The four stores of a point's output, read back. -/
theorem oPieces_apply (s : Vec Ideal S16x128x256 .f32) (y3 : Before) (y4 : Own) (y : S32x1x16x512.Idx) :
    View.canon (oPieces s y3 y4) y = oArr s y3 y4 y := by
  have e : ∀ h : Fin 4, ∀ x : (oPiece s y3 y4 h).1.shape.Idx, (oPiece s y3 y4 h).2 x = oArr s y3 y4 ((oPiece s y3 y4 h).1.emb x) := by
    intro h x
    obtain ⟨u, z, r, d, rfl⟩ : ∃ (u : Fin 32) (z : Fin 1) (r : Fin 16) (d : Fin 128), x = ix4 u z r d :=
      ⟨x 0, x 1, x 2, x 3, eq_ix4 x⟩
    show oVal s y3 y4 h (ix4 u z r d) = oRow s y3 y4 ⟨(16 * (0 + 1 * u.val) + (0 + 1 * r.val)) / 128, _⟩
      ⟨(128 * h.val + 1 * d.val) / 128, _⟩ ⟨(16 * (0 + 1 * u.val) + (0 + 1 * r.val)) % 128, _⟩ ⟨(128 * h.val + 1 * d.val) % 128, _⟩
    rw [oVal_apply]
    congr 1 <;> apply Fin.ext <;> dsimp only <;> omega
  have h3 : (y 3).val < 512 := (y 3).isLt
  refine View.canon_apply_of_pieces (oArr s y3 y4) _ (fun p hp => ?_) y ?_
  · simp only [oPieces, List.mem_cons, List.not_mem_nil, or_false] at hp
    rcases hp with rfl | rfl | rfl | rfl <;> exact e _
  · have hm : ∀ h : Fin 4, oPiece s y3 y4 h ∈ oPieces s y3 y4 := by
      intro h; unfold oPieces; fin_cases h <;> simp
    refine ⟨_, hm ⟨(y 3).val / 128, by omega⟩, ?_⟩
    unfold oPiece
    rw [Rect.mem_set_unit]
    intro a
    match a with
    | ⟨0, _⟩ => exact ⟨Nat.zero_le _, by show (y 0).val < 0 + 32; have : (y 0).val < 32 := (y 0).isLt; omega⟩
    | ⟨1, _⟩ => exact ⟨Nat.zero_le _, by show (y 1).val < 0 + 1; have : (y 1).val < 1 := (y 1).isLt; omega⟩
    | ⟨2, _⟩ => exact ⟨Nat.zero_le _, by show (y 2).val < 0 + 16; have : (y 2).val < 16 := (y 2).isLt; omega⟩
    | ⟨3, _⟩ =>
      show 128 * ((y 3).val / 128) ≤ (y 3).val ∧ (y 3).val < 128 * ((y 3).val / 128) + 128
      omega

end Cert.Proof.BlockValue
end
-- ==== Proof.ArrayValue.lean ====
module

public import proofs.«01_k».proof.Proof.BlockValue
public import proofs.«01_k».proof.Proof.Gen.Swa2Ideal.Value
public import Idealize.ShloMosaic.Lib.Pipeline.ValueKit

/-! The kernel's two result arrays, element by element, as functions of the argument array. -/

@[expose] public section

set_option maxRecDepth 16384

noncomputable section

namespace Cert.Proof.ArrayValue

open Cert.Swa2Ideal Cert.Swa2Ideal.Gen Cert.Swa2Ideal.Value Cert.Proof.Body Cert.Proof.BlockValue Idealize.ShloMosaic
open Idealize.ShloMosaic.TcCoe Idealize.ShloMosaic.Tactic Idealize.SL.Sem

/-- The argument: the rows of all tokens, with the projections of queries, keys and values side by side. -/
abbrev Arg := S33024x10240.Idx → EReal

/-- 32 tiles from tile `32 b`, class `z` of each, 512 columns from column `c0`. -/
def ownOf (P : Arg) (c0 : Nat) (hc : c0 + 512 ≤ 10240) (b : Fin 4) (z : Fin 16) : Own := fun i =>
  P (ix2 ⟨256 * (32 * b.val + (i 0).val) + 16 * z.val + (i 2).val,
      by have : (i 0).val < 32 := (i 0).isLt; have : (i 2).val < 16 := (i 2).isLt; omega⟩
    ⟨c0 + (i 3).val, by have : (i 3).val < 512 := (i 3).isLt; omega⟩)

/-- The 8 tiles that the point fetches beside them. -/
def beforeOf (P : Arg) (c0 : Nat) (hc : c0 + 512 ≤ 10240) (b : Fin 4) (z : Fin 16) : Before := fun i =>
  P (ix2 ⟨256 * (32 * b.val + (i 0).val) + 16 * z.val + (i 2).val,
      by have : (i 0).val < 8 := (i 0).isLt; have : (i 2).val < 16 := (i 2).isLt; omega⟩
    ⟨c0 + (i 3).val, by have : (i 3).val < 512 := (i 3).isLt; omega⟩)

variable (m : (ℓ : Loc nD τ sig) → Buf (Elt Ideal) ℓ)

/-- The argument on a core. -/
abbrev arg (c : Dev nD) : Arg := m ((c : Thread nD τ).loc main_arg0)

/-- The array the windows read is the argument's rows as tiles of 16 classes of 16 rows. -/
theorem V_v0 (c : Dev nD) : V m c main_v0 = shapeCast S129x16x16x10240 (α := EReal) (s := S33024x10240) (arg m c) (by decide) := by
  unfold_abbrev_sides
  after_results
  rfl

theorem V_apply (c : Dev nD) (t : Fin 129) (z r : Fin 16) (d : Fin 10240) :
    V m c main_v0 (ix4 t z r d) = arg m c (ix2 ⟨256 * t.val + 16 * z.val + r.val, by omega⟩ d) := by
  rw [V_v0]
  pointwise []
  exact congrArg _ (congrArg (ix2 · d) (Fin.ext (by show _ = _; dsimp only; omega)))

/-- Which block of its array a window holds at a grid point, by kind of window. -/
theorem index0 : ∀ t : Fin cfg0.N, win0_0.index t = ![t.val / 16, t.val % 16, 0, 4] :=
  (by decide +kernel : ∀ t : Fin grid0.N, win0_0.index t = ![t.val / 16, t.val % 16, 0, 4])

theorem index1 : ∀ t : Fin cfg0.N, win0_1.index t = ![4 * (t.val / 16), t.val % 16, 0, 7] :=
  (by decide +kernel : ∀ t : Fin grid0.N, win0_1.index t = ![4 * (t.val / 16), t.val % 16, 0, 7])

theorem index2 : ∀ t : Fin cfg0.N, win0_2.index t = ![t.val / 16, t.val % 16, 0, 7] :=
  (by decide +kernel : ∀ t : Fin grid0.N, win0_2.index t = ![t.val / 16, t.val % 16, 0, 7])

theorem index3 : ∀ t : Fin cfg0.N, win0_3.index t = ![4 * (t.val / 16), t.val % 16, 0, 10] :=
  (by decide +kernel : ∀ t : Fin grid0.N, win0_3.index t = ![4 * (t.val / 16), t.val % 16, 0, 10])

theorem index4 : ∀ t : Fin cfg0.N, win0_4.index t = ![t.val / 16, t.val % 16, 0, 10] :=
  (by decide +kernel : ∀ t : Fin grid0.N, win0_4.index t = ![t.val / 16, t.val % 16, 0, 10])

theorem index5 : ∀ t : Fin cfg0.N, win0_5.index t = ![t.val / 16, t.val % 16, 0, 0] :=
  (by decide +kernel : ∀ t : Fin grid0.N, win0_5.index t = ![t.val / 16, t.val % 16, 0, 0])

theorem index6 : ∀ t : Fin cfg0.N, win0_6.index t = ![t.val / 16, t.val % 16, 0, 0] :=
  (by decide +kernel : ∀ t : Fin grid0.N, win0_6.index t = ![t.val / 16, t.val % 16, 0, 0])

theorem coord2 : ∀ t : Fin cfg0.N, (grid0.coords t 2).val = 0 :=
  (by decide +kernel : ∀ t : Fin grid0.N, (grid0.coords t 2).val = 0)

/-- The batch entry and the class of a grid point. -/
abbrev entryOf (t : Fin cfg0.N) : Fin 4 := ⟨t.val / 16, by have : t.val < 64 := t.isLt; omega⟩
abbrev classOf (t : Fin cfg0.N) : Fin 16 := ⟨t.val % 16, by omega⟩

/-- The tiled array at a place of an entry's block of 32 tiles. -/
theorem V_own (c : Dev nD) (c0 : Nat) (hc : c0 + 512 ≤ 10240) (b : Fin 4) (z : Fin 16) (j : S32x1x16x512.Idx)
    (i : S129x16x16x10240.Idx) (h0 : (i 0).val = 32 * b.val + (j 0).val) (h1 : (i 1).val = z.val)
    (h2 : (i 2).val = (j 2).val) (h3 : (i 3).val = c0 + (j 3).val) : V m c main_v0 i = ownOf (arg m c) c0 hc b z j := by
  refine (congrArg (V m c main_v0) (eq_ix4 i)).trans ((V_apply m c (i 0) (i 1) (i 2) (i 3)).trans (congrArg (arg m c) ?_))
  congr 1 <;> apply Fin.ext <;> dsimp only <;> omega

/-- The same at a place of the 8 tiles beside it. -/
theorem V_before (c : Dev nD) (c0 : Nat) (hc : c0 + 512 ≤ 10240) (b : Fin 4) (z : Fin 16) (j : S8x1x16x512.Idx)
    (i : S129x16x16x10240.Idx) (h0 : (i 0).val = 32 * b.val + (j 0).val) (h1 : (i 1).val = z.val)
    (h2 : (i 2).val = (j 2).val) (h3 : (i 3).val = c0 + (j 3).val) : V m c main_v0 i = beforeOf (arg m c) c0 hc b z j := by
  refine (congrArg (V m c main_v0) (eq_ix4 i)).trans ((V_apply m c (i 0) (i 1) (i 2) (i 3)).trans (congrArg (arg m c) ?_))
  congr 1 <;> apply Fin.ext <;> dsimp only <;> omega

/-- The block of queries. -/
theorem X0_apply (c : Dev nD) (t : Fin cfg0.N) :
    X0_0 m c t = ownOf (arg m c) 2048 (by decide) (entryOf t) (classOf t) := by
  funext j
  unfold X0_0 Pipeline.Window.fill
  rw [dif_pos (moved0_0 t j)]
  unfold iblk
  rw [View.read_apply]
  refine V_own m c 2048 _ _ _ j _ ?_ ?_ ?_ ?_ <;> blk_simp [index0]
  · show t.val / 16 * 32 + (j 0).val = 32 * (t.val / 16) + (j 0).val
    omega
  · rfl

/-- The block of keys before. -/
theorem X1_apply (c : Dev nD) (t : Fin cfg0.N) :
    X0_1 m c t = beforeOf (arg m c) 3584 (by decide) (entryOf t) (classOf t) := by
  funext j
  unfold X0_1 Pipeline.Window.fill
  rw [dif_pos (moved0_1 t j)]
  unfold iblk
  rw [View.read_apply]
  refine V_before m c 3584 _ _ _ j _ ?_ ?_ ?_ ?_ <;> blk_simp [index1]
  · show 4 * (t.val / 16) * 8 + (j 0).val = 32 * (t.val / 16) + (j 0).val
    omega
  · rfl

/-- The block of keys. -/
theorem X2_apply (c : Dev nD) (t : Fin cfg0.N) :
    X0_2 m c t = ownOf (arg m c) 3584 (by decide) (entryOf t) (classOf t) := by
  funext j
  unfold X0_2 Pipeline.Window.fill
  rw [dif_pos (moved0_2 t j)]
  unfold iblk
  rw [View.read_apply]
  refine V_own m c 3584 _ _ _ j _ ?_ ?_ ?_ ?_ <;> blk_simp [index2]
  · show t.val / 16 * 32 + (j 0).val = 32 * (t.val / 16) + (j 0).val
    omega
  · rfl

/-- The block of values before. -/
theorem X3_apply (c : Dev nD) (t : Fin cfg0.N) :
    X0_3 m c t = beforeOf (arg m c) 5120 (by decide) (entryOf t) (classOf t) := by
  funext j
  unfold X0_3 Pipeline.Window.fill
  rw [dif_pos (moved0_3 t j)]
  unfold iblk
  rw [View.read_apply]
  refine V_before m c 5120 _ _ _ j _ ?_ ?_ ?_ ?_ <;> blk_simp [index3]
  · show 4 * (t.val / 16) * 8 + (j 0).val = 32 * (t.val / 16) + (j 0).val
    omega
  · rfl

/-- The block of values. -/
theorem X4_apply (c : Dev nD) (t : Fin cfg0.N) :
    X0_4 m c t = ownOf (arg m c) 5120 (by decide) (entryOf t) (classOf t) := by
  funext j
  unfold X0_4 Pipeline.Window.fill
  rw [dif_pos (moved0_4 t j)]
  unfold iblk
  rw [View.read_apply]
  refine V_own m c 5120 _ _ _ j _ ?_ ?_ ?_ ?_ <;> blk_simp [index4]
  · show t.val / 16 * 32 + (j 0).val = 32 * (t.val / 16) + (j 0).val
    omega
  · rfl

/-- The scores of class `z` of batch entry `b`. -/
def scoresOf (P : Arg) (b : Fin 4) (z : Fin 16) : S16x128x256.Idx → EReal :=
  scores (ownOf P 2048 (by decide) b z) (beforeOf P 3584 (by decide) b z) (ownOf P 3584 (by decide) b z)

/-- The attention's result: tile, class, row of the tile, column of the four heads. -/
def outArr (P : Arg) : S128x16x16x512.Idx → EReal := fun i =>
  have h0 : (i 0).val < 128 := (i 0).isLt
  oArr (scoresOf P ⟨(i 0).val / 32, by omega⟩ (i 1)) (beforeOf P 5120 (by decide) ⟨(i 0).val / 32, by omega⟩ (i 1))
    (ownOf P 5120 (by decide) ⟨(i 0).val / 32, by omega⟩ (i 1)) (ix4 ⟨(i 0).val % 32, by omega⟩ 0 (i 2) (i 3))

/-- The log-sum-exps: a head's value fills its 32 lanes. -/
def lseArr (P : Arg) : S128x16x16x128.Idx → EReal := fun i =>
  have h0 : (i 0).val < 128 := (i 0).isLt
  have h2 : (i 2).val < 16 := (i 2).isLt
  have h3 : (i 3).val < 128 := (i 3).isLt
  lRow (scoresOf P ⟨(i 0).val / 32, by omega⟩ (i 1)) ⟨(16 * ((i 0).val % 32) + (i 2).val) / 128, by omega⟩
    ⟨(i 3).val / 32, by omega⟩ ⟨(16 * ((i 0).val % 32) + (i 2).val) % 128, by omega⟩

/-- The result's place `i` that is place `y` of the block of a batch entry and class. -/
theorem outArr_block (P : Arg) (b : Fin 4) (z : Fin 16) (y : S32x1x16x512.Idx) (i : S128x16x16x512.Idx)
    (h0 : (i 0).val = 32 * b.val + (y 0).val) (h1 : (i 1).val = z.val) (h2 : (i 2).val = (y 2).val)
    (h3 : (i 3).val = (y 3).val) :
    oArr (scoresOf P b z) (beforeOf P 5120 (by decide) b z) (ownOf P 5120 (by decide) b z) y = outArr P i := by
  have y0 : (y 0).val < 32 := (y 0).isLt
  have i0 : (i 0).val < 128 := (i 0).isLt
  have eb : (⟨(i 0).val / 32, by omega⟩ : Fin 4) = b := Fin.ext (by dsimp only; omega)
  have ez : (i 1 : Fin 16) = z := Fin.ext h1
  have ey : (ix4 ⟨(i 0).val % 32, by omega⟩ 0 (i 2) (i 3) : S32x1x16x512.Idx) = y := by
    refine Eq.trans ?_ (eq_ix4 y).symm
    have e0 : (⟨(i 0).val % 32, by omega⟩ : Fin 32) = y 0 := Fin.ext (by dsimp only; omega)
    have e1 : (0 : Fin 1) = y 1 := Subsingleton.elim _ _
    have e2 : (i 2 : Fin 16) = y 2 := Fin.ext h2
    have e3 : (i 3 : Fin 512) = y 3 := Fin.ext h3
    exact congr (congr (congr (congrArg ix4 e0) e1) e2) e3
  unfold outArr
  dsimp only
  rw [ey]
  rw [eb]
  subst ez
  rfl

theorem lseArr_block (P : Arg) (b : Fin 4) (z : Fin 16) (y : S32x1x16x128.Idx) (i : S128x16x16x128.Idx)
    (h0 : (i 0).val = 32 * b.val + (y 0).val) (h1 : (i 1).val = z.val) (h2 : (i 2).val = (y 2).val)
    (h3 : (i 3).val = (y 3).val) : lVal (scoresOf P b z) y = lseArr P i := by
  have y0 : (y 0).val < 32 := (y 0).isLt
  have y2 : (y 2).val < 16 := (y 2).isLt
  have y3 : (y 3).val < 128 := (y 3).isLt
  have i0 : (i 0).val < 128 := (i 0).isLt
  have eb : (⟨(i 0).val / 32, by omega⟩ : Fin 4) = b := Fin.ext (by dsimp only; omega)
  have ez : (i 1 : Fin 16) = z := Fin.ext h1
  refine (congrArg _ (eq_ix4 y)).trans ((lVal_apply _ _ _ _ _).trans ?_)
  unfold lseArr
  dsimp only
  rw [eb]
  subst ez
  congr 1 <;> apply Fin.ext <;> dsimp only <;> omega

/-- The kernel's first result. -/
theorem out_final (c : Dev nD) : (dats m 0 c).arrAt 5 cfg0.N = outArr (arg m c) := by
  refine (dats m 0 c).arrAt_eq_of_covers 5 _ (by decide +kernel) fun t hf y => ?_
  refine (congrFun (flushed5_A m c t) y).trans ?_
  unfold Pipeline.Window.cut
  refine (out_eq ..).trans ?_
  rw [coord2, sAll_eq, oPieces_apply, X0_apply, X1_apply, X2_apply, X3_apply, X4_apply]
  refine outArr_block (arg m c) (entryOf t) (classOf t) _ _ ?_ ?_ ?_ ?_ <;> blk_simp [index5]
  show t.val / 16 * 32 + (y 0).val = 32 * (t.val / 16) + (y 0).val
  omega

/-- The kernel's second result. -/
theorem lse_final (c : Dev nD) : (dats m 0 c).arrAt 6 cfg0.N = lseArr (arg m c) := by
  refine (dats m 0 c).arrAt_eq_of_covers 6 _ (by decide +kernel) fun t hf y => ?_
  refine (congrFun (flushed6_A m c t) y).trans ?_
  unfold Pipeline.Window.cut
  refine (congrFun (lse_eq ..) _).trans ?_
  rw [coord2, sAll_eq, X0_apply, X1_apply, X2_apply]
  refine lseArr_block (arg m c) (entryOf t) (classOf t) _ _ ?_ ?_ ?_ ?_ <;> blk_simp [index6]
  show t.val / 16 * 32 + (y 0).val = 32 * (t.val / 16) + (y 0).val
  omega

end Cert.Proof.ArrayValue
end
-- ==== Proof.RefValue.lean ====
module

public import proofs.«01_k».proof.Proof.Attention
public import Idealize.ShloMosaic.Lib.WordCmp
public import proofs.«01_k».proof.Proof.Gen.Ref2Ideal.Read

/-! The reference's two result arrays, element by element. -/

@[expose] public section

set_option maxRecDepth 16384

noncomputable section

namespace Cert.Proof.RefValue

open Cert.Proof.Attention Cert.Proof.Softmax Cert.Ref2Ideal Cert.Ref2Ideal.Gen Cert.Ref2Ideal.Read Idealize.ShloMosaic
open Idealize.ShloMosaic.TcCoe Idealize.ShloMosaic.Tactic Idealize.SL.Sem

variable (P : Arg)

/-- The queries, by sequence, chunk, token, head and feature. -/
theorem queries (n : Fin 64) (j : Fin 4) (a : Fin 128) (h : Fin 4) (d : Fin 128) :
    val_main_v16 (F := Ideal) P (ix5 n j a h d) = P (ix2 (row n (tok j a)) (feat 2048 (by decide) h d)) := by
  pointwise [val_main_v16, val_main_v15, val_main_v14, val_main_v13, val_main_v12, val_main_v3, val_main_v2, val_main_v1, val_main_v0]
  refine congrArg P (congrArg₂ ix2 (Fin.ext ?_) (Fin.ext ?_)) <;> dsimp only [row, tok, feat] <;> omega

/-- The keys. -/
theorem keys (n : Fin 64) (j : Fin 4) (a : Fin 128) (h : Fin 4) (d : Fin 128) :
    val_main_v20 (F := Ideal) P (ix5 n j a h d) = P (ix2 (row n (tok j a)) (feat 3584 (by decide) h d)) := by
  pointwise [val_main_v20, val_main_v19, val_main_v18, val_main_v17, val_main_v7, val_main_v6, val_main_v5, val_main_v4]
  refine congrArg P (congrArg₂ ix2 (Fin.ext ?_) (Fin.ext ?_)) <;> dsimp only [row, tok, feat] <;> omega

/-- The values. -/
theorem values (n : Fin 64) (j : Fin 4) (a : Fin 128) (h : Fin 4) (d : Fin 128) :
    val_main_v28 (F := Ideal) P (ix5 n j a h d) = P (ix2 (row n (tok j a)) (feat 5120 (by decide) h d)) := by
  pointwise [val_main_v28, val_main_v27, val_main_v26, val_main_v25, val_main_v11, val_main_v10, val_main_v9, val_main_v8]
  refine congrArg P (congrArg₂ ix2 (Fin.ext ?_) (Fin.ext ?_)) <;> dsimp only [row, tok, feat] <;> omega

/-- The keys of a chunk and of the chunk before it, where there is one. -/
theorem keys2 (n : Fin 64) (j : Fin 4) (b : Fin 256) (h : Fin 4) (d : Fin 128) (hb : 128 ≤ b.val ∨ j.val ≠ 0) :
    val_main_v24 (F := Ideal) P (ix5 n j b h d) = P (ix2 (row n (tokBefore j b)) (feat 3584 (by decide) h d)) := by
  pointwise [val_main_v24, val_main_v23, val_main_v22, val_main_v21, val_main_call0_v0, val_main_c]
  by_cases h1 : b.val < 128
  · rw [dif_pos h1, dif_pos (by omega), keys]
    exact congrArg P (congrArg₂ ix2 (congrArg (row n) (Fin.ext (by dsimp only [tok, tokBefore]; omega))) rfl)
  · rw [dif_neg h1, keys]
    exact congrArg P (congrArg₂ ix2 (congrArg (row n) (Fin.ext (by dsimp only [tok, tokBefore]; omega))) rfl)

/-- The values likewise. -/
theorem values2 (n : Fin 64) (j : Fin 4) (b : Fin 256) (h : Fin 4) (d : Fin 128) (hb : 128 ≤ b.val ∨ j.val ≠ 0) :
    val_main_v32 (F := Ideal) P (ix5 n j b h d) = val P n j h d b := by
  unfold val
  pointwise [val_main_v32, val_main_v31, val_main_v30, val_main_v29, val_main_call1_v0, val_main_c_0]
  by_cases h1 : b.val < 128
  · rw [dif_pos h1, dif_pos (by omega), values]
    exact congrArg P (congrArg₂ ix2 (congrArg (row n) (Fin.ext (by dsimp only [tok, tokBefore]; omega))) rfl)
  · rw [dif_neg h1, values]
    exact congrArg P (congrArg₂ ix2 (congrArg (row n) (Fin.ext (by dsimp only [tok, tokBefore]; omega))) rfl)

theorem toInt_chunk : ∀ j : Fin 4, ∀ b : Fin 256,
    (IntOp.addi (IntOp.subi (IntOp.muli (BitVec.ofNat 32 j.val) 128#32) 128#32) (BitVec.ofNat 32 b.val)).toInt
      = 128 * (j.val : Int) - 128 + b.val := by decide +kernel

theorem toInt_diff (a : Fin 128) (b : Fin 256) :
    (IntOp.subi (IntOp.addi (BitVec.ofNat 32 a.val) 128#32) (BitVec.ofNat 32 b.val)).toInt = (a.val : Int) + 128 - b.val := by
  show (BitVec.ofNat 32 a.val + BitVec.ofNat 32 128 - BitVec.ofNat 32 b.val).toInt = _
  rw [← BitVec.ofNat_add, BitVec.toInt_sub, toInt_small _ (by omega), toInt_small _ (by omega)]
  push_cast
  exact Int.bmod_eq_of_le (by show (-4294967296 : Int) / 2 ≤ a.val + 128 - b.val; omega)
    (by show (a.val : Int) + 128 - b.val < (4294967296 + 1) / 2; omega)

/-- The mask says which keys are seen. -/
theorem mask (j : Fin 4) (a : Fin 128) (b : Fin 256) :
    val_main_v67 (F := Ideal) (ix3 j a b) = BitVec.ofBool (decide (seen j a b)) := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40, val_main_v39, val_main_v38, val_main_v37, val_main_v36, val_main_v35, val_main_v34, val_main_v33,
    val_main_c_1, val_main_c_2, val_main_c_3, val_main_c_4, val_main_c_5, val_main_c_6]
  rw [WordCmp.cmpi_sge_eq, WordCmp.cmpi_sge_eq, WordCmp.cmpi_sle_eq, toInt_chunk, toInt_diff,
    show (128#32 : BitVec 32).toInt = 128 from rfl, show (0#32 : BitVec 32).toInt = 0 from rfl]
  simp only [andi_ofBool]
  congr 1
  rw [Bool.eq_iff_iff]
  simp only [Bool.and_eq_true, decide_eq_true_eq]
  unfold seen
  omega

end Cert.Proof.RefValue
end
-- ==== Proof.RefRows.lean ====
module

public import proofs.«01_k».proof.Proof.RefValue

/-! The reference's rows of attention: scores, log-sum-exp and weighted values. -/

@[expose] public section

set_option maxRecDepth 16384

noncomputable section

namespace Cert.Proof.RefValue

open Cert.Proof.Attention Cert.Proof.Softmax Cert.Ref2Ideal Cert.Ref2Ideal.Gen Cert.Ref2Ideal.Read Idealize.ShloMosaic
open Idealize.ShloMosaic.TcCoe Idealize.ShloMosaic.Tactic Idealize.SL.Sem

variable (P : Arg)

/-- The scores. -/
theorem scores (n : Fin 64) (j h : Fin 4) (a : Fin 128) (b : Fin 256) :
    val_main_v70 (F := Ideal) P (ix5 n j h a b) = logit P n j h a b := by
  pointwise [val_main_v70, val_main_v69, val_main_v68, val_main_call2_v0, val_main_call2_v1, val_main_call2_v2, val_main_cst, queries]
  rw [mask]
  unfold logit
  by_cases hs : seen j a b
  · rw [if_pos hs, decide_eq_true hs]
    simp only [keys2 P n j b h _ (show 128 ≤ b.val ∨ j.val ≠ 0 by unfold seen at hs; omega)]
    rfl
  · rw [if_neg hs, decide_eq_false hs]
    show Ideal.ofBits .f32 0xFF800000#32 = ⊥
    simp [Ideal.ofBits, Ideal.ieee]

theorem top_apply (n : Fin 64) (j h : Fin 4) (a : Fin 128) :
    val_main_v71 (F := Ideal) P (ix4 n j h a) = top (logit P n j h a) := by
  unfold top
  pointwise [val_main_v71, val_main_cst_7, scores]
  rw [show Ideal.ofBits FTy.f32 0xFF800000#32 = ⊥ from by simp [Ideal.ofBits, Ideal.ieee]]

theorem weight_apply (n : Fin 64) (j h : Fin 4) (a : Fin 128) (b : Fin 256) :
    val_main_v75 (F := Ideal) P (ix5 n j h a b) = Ideal.exp (logit P n j h a b - top (logit P n j h a)) := by
  pointwise [val_main_v75, val_main_v74, val_main_v73, val_main_v72, top_apply, scores]

theorem den_apply (n : Fin 64) (j h : Fin 4) (a : Fin 128) :
    val_main_v76 (F := Ideal) P (ix4 n j h a) = den (logit P n j h a) := by
  rw [val_main_v76_apply]
  have e : ∀ b : Fin 256, idx_main_v76 (ix4 n j h a) b = ix5 n j h a b := fun b => eq_ix5 _
  simp only [e, weight_apply]
  show Ideal.ofBits .f32 0x00000000#32 + _ = _
  rw [Ideal.ofBits_zero_f32, zero_add]
  unfold den
  rfl

/-- The log-sum-exp of a row. -/
theorem lse (n : Fin 64) (j h : Fin 4) (a : Fin 128) :
    val_main_v78 (F := Ideal) P (ix4 n j h a) = top (logit P n j h a) + Ideal.log (den (logit P n j h a)) := by
  rw [val_main_v78_apply, val_main_v77_apply, top_apply, den_apply, Ideal.addf_def, Ideal.hostUnary_log_def]

theorem prob_apply (n : Fin 64) (j h : Fin 4) (a : Fin 128) (b : Fin 256) :
    val_main_v82 (F := Ideal) P (ix5 n j h a b)
      = Ideal.exp (logit P n j h a b - (top (logit P n j h a) + Ideal.log (den (logit P n j h a)))) := by
  pointwise [val_main_v82, val_main_v81, val_main_v80, val_main_v79, lse, scores]

/-- A row of the attention. -/
theorem weighted (n : Fin 64) (j h : Fin 4) (d a : Fin 128) :
    val_main_v83 (F := Ideal) P (ix5 n j h d a)
      = ∑ b : Fin 256, val_main_v32 (F := Ideal) P (ix5 n j b h d)
          * Ideal.exp (logit P n j h a b - (top (logit P n j h a) + Ideal.log (den (logit P n j h a)))) := by
  rw [val_main_v83_apply]
  have e1 : ∀ b : Fin 256, lidx_main_v83 (ix5 n j h d a) b = ix5 n j b h d := fun b => eq_ix5 _
  have e2 : ∀ b : Fin 256, ridx_main_v83 (ix5 n j h d a) b = ix5 n j h a b := fun b => eq_ix5 _
  simp only [e1, e2, prob_apply]

/-- The sequence of a tile's class, and the chunk and token of a tile's row. -/
def seqOf (t : Fin 128) (z : Fin 16) : Fin 64 := ⟨16 * (t.val / 32) + z.val, by omega⟩
def chunkOf (t : Fin 128) (r : Fin 16) : Fin 4 := ⟨(16 * (t.val % 32) + r.val) / 128, by omega⟩
def tokenOf (t : Fin 128) (r : Fin 16) : Fin 128 := ⟨(16 * (t.val % 32) + r.val) % 128, by omega⟩

theorem out_natural (b : Fin 4) (i : Fin 8192) (h : Fin 4) (d : Fin 128) :
    val_main_v87 (F := Ideal) P (ix4 b i h d)
      = val_main_v84 (F := Ideal) P (ix5 ⟨16 * b.val + i.val % 16, by omega⟩ ⟨i.val / 16 / 128, by omega⟩ ⟨i.val / 16 % 128, by omega⟩ h d) := by
  pointwise [val_main_v87, val_main_v86, val_main_v85]
  exact congrArg _ (congr (congr (congr (congr (congrArg ix5 (Fin.ext (by dsimp only; omega))) rfl) rfl) rfl) rfl)

theorem out_split (t : Fin 128) (z r : Fin 16) (e : Fin 512) :
    val_main_v94 (F := Ideal) P (ix4 t z r e)
      = val_main_v92 (F := Ideal) P (ix5 ⟨t.val / 32, by omega⟩ ⟨t.val % 32, by omega⟩ r z e) := by
  rw [val_main_v94_apply, val_main_v93_apply]
  refine congrArg _ ((eq_ix5 _).trans ?_)
  refine congr (congr (congr (congr (congrArg ix5 (Fin.ext ?_)) (Fin.ext ?_)) (Fin.ext ?_)) (Fin.ext ?_)) (Fin.ext ?_)
  · show (((t.val * 16 + z.val) * 16 + r.val) * 512 + e.val) / 4194304 = t.val / 32
    omega
  · show (((t.val * 16 + z.val) * 16 + r.val) * 512 + e.val) / 131072 % 32 = t.val % 32
    omega
  · show (((t.val * 16 + z.val) * 16 + r.val) * 512 + e.val) / 512 % 16 = r.val
    omega
  · show (((t.val * 16 + z.val) * 16 + r.val) * 512 + e.val) / 8192 % 16 = z.val
    omega
  · show (((t.val * 16 + z.val) * 16 + r.val) * 512 + e.val) % 512 = e.val
    omega

theorem out_tiled (b : Fin 4) (t : Fin 32) (r z : Fin 16) (e : Fin 512) :
    val_main_v92 (F := Ideal) P (ix5 b t r z e)
      = val_main_v87 (F := Ideal) P (ix4 b ⟨256 * t.val + 16 * r.val + z.val, by omega⟩ ⟨e.val / 128, by omega⟩ ⟨e.val % 128, by omega⟩) := by
  rw [val_main_v92_apply]
  refine congrArg _ (eq_ix4 _ |>.trans ?_)
  refine congr (congr (congr (congrArg ix4 (Fin.ext ?_)) (Fin.ext ?_)) (Fin.ext ?_)) (Fin.ext ?_)
  · show ((((b.val * 32 + t.val) * 16 + r.val) * 16 + z.val) * 512 + e.val) / 4194304 = b.val
    omega
  · show ((((b.val * 32 + t.val) * 16 + r.val) * 16 + z.val) * 512 + e.val) / 512 % 8192 = 256 * t.val + 16 * r.val + z.val
    omega
  · show ((((b.val * 32 + t.val) * 16 + r.val) * 16 + z.val) * 512 + e.val) / 128 % 4 = e.val / 128
    omega
  · show ((((b.val * 32 + t.val) * 16 + r.val) * 16 + z.val) * 512 + e.val) % 128 = e.val % 128
    omega

/-- The first result, by tile, class, row of the tile and column. -/
theorem out_apply (t : Fin 128) (z r : Fin 16) (e : Fin 512) :
    val_main_v95 (F := Ideal) P (ix4 t z r e)
      = ∑ b : Fin 256, val_main_v32 (F := Ideal) P (ix5 (seqOf t z) (chunkOf t r) b ⟨e.val / 128, by omega⟩ ⟨e.val % 128, by omega⟩)
          * Ideal.exp (logit P (seqOf t z) (chunkOf t r) ⟨e.val / 128, by omega⟩ (tokenOf t r) b
            - (top (logit P (seqOf t z) (chunkOf t r) ⟨e.val / 128, by omega⟩ (tokenOf t r))
              + Ideal.log (den (logit P (seqOf t z) (chunkOf t r) ⟨e.val / 128, by omega⟩ (tokenOf t r))))) := by
  rw [val_main_v95_apply]
  refine (out_split P t z r e).trans ?_
  rw [out_tiled, out_natural, val_main_v84_apply, ← weighted]
  refine congrArg _ ((eq_ix5 _).trans ?_)
  refine congr (congr (congr (congr (congrArg ix5 (Fin.ext ?_)) (Fin.ext ?_)) (Fin.ext ?_)) (Fin.ext ?_)) (Fin.ext ?_)
  · show 16 * (t.val / 32) + (256 * (t.val % 32) + 16 * r.val + z.val) % 16 = 16 * (t.val / 32) + z.val
    omega
  · show (256 * (t.val % 32) + 16 * r.val + z.val) / 16 / 128 = (16 * (t.val % 32) + r.val) / 128
    omega
  · rfl
  · rfl
  · show (256 * (t.val % 32) + 16 * r.val + z.val) / 16 % 128 = (16 * (t.val % 32) + r.val) % 128
    omega

theorem lse_place (t : Fin 128) (z r : Fin 16) (l : Fin 128) :
    val_main_v100 (F := Ideal) P (ix4 t z r l)
      = val_main_v78 (F := Ideal) P (ix4 (seqOf t z) (chunkOf t r) ⟨l.val / 32, by omega⟩ (tokenOf t r)) := by
  pointwise [val_main_v100, val_main_v99, val_main_v98, val_main_v97, val_main_v96, val_main_v91, val_main_v90, val_main_v89, val_main_v88]
  refine congrArg _ (congr (congr (congr (congrArg ix4 (Fin.ext ?_)) (Fin.ext ?_)) rfl) (Fin.ext ?_)) <;> dsimp only [seqOf, chunkOf, tokenOf] <;> omega

end Cert.Proof.RefValue
end
-- ==== Proof.Equation.lean ====
module

public import proofs.«01_k».proof.Proof.ArrayValue
public import proofs.«01_k».proof.Proof.RefRows

/-! The kernel's arrays and the reference's are the same where the queries and keys are finite. -/

@[expose] public section

set_option maxRecDepth 16384

noncomputable section

namespace Cert.Proof.Equation

open Cert.Proof.Attention Cert.Proof.Softmax Cert.Proof.ArrayValue Cert.Proof.RefValue Idealize.ShloMosaic
open Idealize.ShloMosaic.Tactic

variable (P : Attention.Arg)

/-- The sequence of a batch entry's class. -/
abbrev seqNo (b : Fin 4) (z : Fin 16) : Fin 64 := ⟨16 * b.val + z.val, by omega⟩

/-- A row of a point's own block is a token's row. -/
theorem own_row (c0 : Nat) (hc : c0 + 512 ≤ 10240) (b : Fin 4) (z : Fin 16) (r d : Fin 512) :
    BlockValue.ownAt (ownOf P c0 hc b z) r d = P (ix2 (row (seqNo b z) r) ⟨c0 + d.val, by omega⟩) := by
  refine congrArg P (congrArg₂ ix2 (Fin.ext ?_) rfl)
  show 256 * (32 * b.val + r.val / 16) + 16 * z.val + r.val % 16
    = 8192 * ((16 * b.val + z.val) / 16) + 256 * (r.val / 16) + 16 * ((16 * b.val + z.val) % 16) + r.val % 16
  omega

/-- So is a row of the buffer after its first 128. -/
theorem buf_row (c0 : Nat) (hc : c0 + 512 ≤ 10240) (b : Fin 4) (z : Fin 16) (j h : Fin 4) (k : Fin 256) (d : Fin 128)
    (hk : 128 ≤ k.val ∨ j.val ≠ 0) :
    BlockValue.bufAt (beforeOf P c0 hc b z) (ownOf P c0 hc b z) ⟨128 * j.val + k.val, by omega⟩ ⟨128 * h.val + d.val, by omega⟩
      = P (ix2 (row (seqNo b z) (tokBefore j k)) (feat c0 hc h d)) := by
  unfold BlockValue.bufAt
  rw [dif_neg (by dsimp only; omega), own_row]
  rfl

/-- The kernel's scores. -/
theorem scores_apply (b : Fin 4) (z : Fin 16) (j h : Fin 4) (a : Fin 128) (k : Fin 256) :
    scoresOf P b z (ix3 ⟨4 * j.val + h.val, by omega⟩ a k) = logit P (seqNo b z) j h a k := by
  have ej : (⟨(4 * j.val + h.val) / 4, by omega⟩ : Fin 4) = j := Fin.ext (by dsimp only; omega)
  have eh : (⟨(4 * j.val + h.val) % 4, by omega⟩ : Fin 4) = h := Fin.ext (by dsimp only; omega)
  show BlockValue.score _ _ _ ⟨(4 * j.val + h.val) / 4, _⟩ ⟨(4 * j.val + h.val) % 4, _⟩ a k = _
  rw [ej, eh]
  unfold BlockValue.score logit
  by_cases hs : seen j a k
  · rw [if_pos hs, if_pos hs]
    refine Finset.sum_congr rfl fun d _ => ?_
    rw [own_row, buf_row P 3584 _ b z j h k d (by unfold seen at hs; omega)]
    rfl
  · rw [if_neg hs, if_neg hs]

theorem top_eq (b : Fin 4) (z : Fin 16) (j h : Fin 4) (a : Fin 128) :
    BlockValue.top (scoresOf P b z) ⟨4 * j.val + h.val, by omega⟩ a = top (logit P (seqNo b z) j h a) := by
  unfold BlockValue.top top
  exact congrArg (Finset.fold max ⊥ · Finset.univ) (funext fun k => scores_apply P b z j h a k)

theorem den_eq (b : Fin 4) (z : Fin 16) (j h : Fin 4) (a : Fin 128) :
    BlockValue.den (scoresOf P b z) ⟨4 * j.val + h.val, by omega⟩ a = den (logit P (seqNo b z) j h a) := by
  unfold BlockValue.den den
  exact Finset.sum_congr rfl fun k _ => by rw [scores_apply, top_eq]

/-- The queries and the keys of the group are finite. -/
def Finite : Prop := ∀ (i : Fin 32768) (d : Fin 512),
  (∃ x : ℝ, P (ix2 ⟨i.val, by omega⟩ ⟨2048 + d.val, by omega⟩) = x)
    ∧ ∃ x : ℝ, P (ix2 ⟨i.val, by omega⟩ ⟨3584 + d.val, by omega⟩) = x

variable {P}

/-- A seen score is a real number. -/
theorem logit_real (hP : Finite P) (n : Fin 64) (j h : Fin 4) (a : Fin 128) (k : Fin 256) (hs : seen j a k) :
    ∃ x : ℝ, logit P n j h a k = x := by
  choose q hq using fun d : Fin 128 => (hP ⟨(row n (tok j a)).val, by unfold row tok; dsimp only; omega⟩ ⟨128 * h.val + d.val, by omega⟩).1
  choose y hy using fun d : Fin 128 => (hP ⟨(row n (tokBefore j k)).val, by unfold row tokBefore; dsimp only; omega⟩ ⟨128 * h.val + d.val, by omega⟩).2
  refine ⟨∑ d, q d * y d, ?_⟩
  unfold logit
  rw [if_pos hs, Softmax.coe_sum]
  refine Finset.sum_congr rfl fun d _ => ?_
  rw [EReal.coe_mul, ← hq d, ← hy d]
  rfl

theorem logit_ne_top (hP : Finite P) (n : Fin 64) (j h : Fin 4) (a : Fin 128) (k : Fin 256) : logit P n j h a k ≠ ⊤ := by
  by_cases hs : seen j a k
  · obtain ⟨x, hx⟩ := logit_real hP n j h a k hs
    rw [hx]; exact EReal.coe_ne_top x
  · unfold logit; rw [if_neg hs]; exact bot_ne_top

/-- Every query sees its own key. -/
theorem logit_own (hP : Finite P) (n : Fin 64) (j h : Fin 4) (a : Fin 128) :
    logit P n j h a ⟨128 + a.val, by omega⟩ ≠ ⊥ := by
  obtain ⟨x, hx⟩ := logit_real hP n j h a ⟨128 + a.val, by omega⟩ (Or.inl ⟨by dsimp only; omega, by dsimp only; omega⟩)
  rw [hx]; exact EReal.coe_ne_bot x

/-- A row of the kernel's first result is the reference's. -/
theorem row_out (hP : Finite P) (b : Fin 4) (z : Fin 16) (j h : Fin 4) (a d : Fin 128) :
    BlockValue.oRow (scoresOf P b z) (beforeOf P 5120 (by decide) b z) (ownOf P 5120 (by decide) b z) j h a d
      = ∑ k : Fin 256, Cert.Ref2Ideal.Read.val_main_v32 (F := Ideal) P (ix5 (seqNo b z) j k h d)
          * Ideal.exp (logit P (seqNo b z) j h a k
            - (top (logit P (seqNo b z) j h a) + Ideal.log (den (logit P (seqNo b z) j h a)))) := by
  unfold BlockValue.oRow
  rw [den_eq, top_eq]
  simp only [scores_apply]
  refine row_eq (logit P (seqNo b z) j h a) (fun k => logit_ne_top hP _ j h a k) _ (logit_own hP _ j h a) _ _ fun k hk => ?_
  have hs : seen j a k := by
    by_contra hs
    exact hk (by unfold logit; rw [if_neg hs])
  have hk' : 128 ≤ k.val ∨ j.val ≠ 0 := by unfold seen at hs; omega
  rw [buf_row P 5120 _ b z j h k d hk', values2 P _ j k h d hk']
  rfl

/-- The first results are the same. -/
theorem out_eq (hP : Finite P) : outArr P = Cert.Ref2Ideal.Read.val_main_v95 (F := Ideal) P := by
  funext i
  obtain ⟨t, z, r, e, rfl⟩ : ∃ (t : Fin 128) (z r : Fin 16) (e : Fin 512), i = ix4 t z r e := ⟨i 0, i 1, i 2, i 3, eq_ix4 i⟩
  rw [out_apply]
  exact row_out hP ⟨t.val / 32, by omega⟩ z (chunkOf t r) ⟨e.val / 128, by omega⟩ (tokenOf t r) ⟨e.val % 128, by omega⟩

/-- The second results are the same. -/
theorem lse_eq : lseArr P = Cert.Ref2Ideal.Read.val_main_v100 (F := Ideal) P := by
  funext i
  obtain ⟨t, z, r, l, rfl⟩ : ∃ (t : Fin 128) (z r : Fin 16) (l : Fin 128), i = ix4 t z r l := ⟨i 0, i 1, i 2, i 3, eq_ix4 i⟩
  rw [lse_place, lse]
  show BlockValue.lRow (scoresOf P ⟨t.val / 32, _⟩ z) (chunkOf t r) ⟨l.val / 32, _⟩ (tokenOf t r) = _
  unfold BlockValue.lRow
  rw [top_eq, den_eq]
  rfl

end Cert.Proof.Equation
end
-- ==== Proof.Precondition.lean ====
module

public import proofs.«01_k».proof.Proof.Equation
public import proofs.«01_k».proof.Proof.Gen.Pre_finite_queries_keys

/-! What the precondition says of the argument: the queries and keys of the group are real numbers. -/

@[expose] public section

set_option maxRecDepth 16384

noncomputable section

namespace Cert.Proof.Precondition

open Cert.Proof.Equation Cert.Pre_finite_queries_keys Idealize.ShloMosaic Idealize.ShloMosaic.Tactic

/-- An extended real whose size is below `+∞` is a real number. -/
theorem real_of_abs (x : EReal)
    (h : BitVec.ofBool (decide (max x (-x) < Ideal.ofBits FTy.f32 0x7F800000#32)) = 1#1) : ∃ r : ℝ, x = r := by
  have e : Ideal.ofBits FTy.f32 0x7F800000#32 = ⊤ := by simp [Ideal.ofBits, Ideal.ieee]
  rw [e] at h
  have hlt : max x (-x) < ⊤ := by
    by_contra hn
    rw [decide_eq_false hn] at h
    exact absurd h (by decide)
  have h1 : x ≠ ⊤ := (lt_of_le_of_lt (le_max_left _ _) hlt).ne
  have h2 : x ≠ ⊥ := by
    rintro rfl
    exact (lt_of_le_of_lt (le_max_right _ _) hlt).ne rfl
  exact ⟨x.toReal, (EReal.coe_toReal h1 h2).symm⟩

/-- The precondition at the argument. -/
theorem finite_of_pre [Facts] (P : Attention.Arg)
    (h : (fn (F := Ideal) P).1 = (fun _ => 1#1) ∧ (fn (F := Ideal) P).2 = (fun _ => 1#1)) : Equation.Finite P := by
  intro i d
  have h1 := congrFun h.1 (ix2 i d)
  have h2 := congrFun h.2 (ix2 i d)
  revert h1 h2
  unfold fn
  dsimp only
  pointwise []
  exact fun h1 h2 => ⟨real_of_abs _ h1, real_of_abs _ h2⟩

end Cert.Proof.Precondition
end
-- ==== Proof.DenseBody.lean ====
module

public import proofs.«01_k».proof.Proof.Gen.DenseIdeal.Value
public import Idealize.ShloMosaic.Lib.VecWindow
public import Idealize.ShloMosaic.PureOps.Ideal

/-! What one grid point of the dense feed-forward kernel stores: the eleven chunks of hidden units, added one after
the other into the accumulator, on top of the point's rows. -/

@[expose] public section

set_option maxRecDepth 16384

noncomputable section

namespace Cert.Proof.DenseBody

open Cert.DenseIdeal Cert.DenseIdeal.Gen Idealize.ShloMosaic Idealize.ShloMosaic.TcCoe Idealize.ShloMosaic.Tactic Idealize.SL.Sem

abbrev Rows := Vec Ideal S768x1024 .f32
abbrev Gain := Vec Ideal S1x1024 .f32
abbrev In := Vec Ideal S1024x2816 .bf16
abbrev Out := Vec Ideal S2816x1024 .bf16

theorem inb_in : ∀ (j : Fin 11) (a : Fin 2), (![0, 256 * j.val] : Fin 2 → Nat) a + S1024x256.size a ≤ S1024x2816.size a := by
  decide
theorem inb_out : ∀ (j : Fin 11) (a : Fin 2), (![256 * j.val, 0] : Fin 2 → Nat) a + S256x1024.size a ≤ S2816x1024.size a := by
  decide

/-- The columns of the first weights that belong to chunk `j`. -/
def inChunk (w : In) (j : Fin 11) : Vec Ideal S1024x256 .bf16 :=
  View.ld w (Rect.unit (s := S1024x2816) ![0, 256 * j.val] S1024x256.size (inb_in j))
/-- The rows of the last weights that belong to chunk `j`. -/
def outChunk (w : Out) (j : Fin 11) : Vec Ideal S256x1024 .bf16 :=
  View.ld w (Rect.unit (s := S2816x1024) ![256 * j.val, 0] S256x1024.size (inb_out j))

/-- The hidden units of a chunk, from the normalised rows. -/
abbrev hid (h : FVec Ideal S768x1024 .bf16) (w1 w3 : Vec Ideal S1024x256 .bf16) : FVec Ideal S768x256 .bf16 := k0_pay6 h w1 w3

/-- The accumulator read back whole. -/
def back (L : List (View.Piece (Elt Ideal) S768x1024 .f32)) : Rows :=
  scM0_0.view.readCov L (Rect.unit (s := S768x1024) ![0, 0] S768x1024.size inb_S768x1024_S768x1024_0_0).toLoadRect

/-- The stores into the accumulator up to chunk `n`, the last first. -/
def stores (x : Rows) (g : Gain) (w1 w3 : In) (w2 : Out) : (n : Nat) → n < 11 → List (View.Piece (Elt Ideal) S768x1024 .f32)
  | 0, h => [⟨Rect.unit (s := S768x1024) ![0, 0] S768x1024.size inb_S768x1024_S768x1024_0_0,
      k0_pay4 x g (inChunk w1 ⟨0, h⟩) (inChunk w3 ⟨0, h⟩) (outChunk w2 ⟨0, h⟩)⟩]
  | n + 1, h =>
    ⟨Rect.unit (s := S768x1024) ![0, 0] S768x1024.size inb_S768x1024_S768x1024_0_0,
      k0_pay7 (hid (k0_pay3 x g) (inChunk w1 ⟨n + 1, h⟩) (inChunk w3 ⟨n + 1, h⟩)) (outChunk w2 ⟨n + 1, h⟩)
        (back (stores x g w1 w3 w2 n (Nat.lt_of_succ_lt h)))⟩ :: stores x g w1 w3 w2 n (Nat.lt_of_succ_lt h)

variable (c : Dev nD) (i : grid0.Coords) (arg1 : Memref sig .tc .vmem S768x1024 .f32) (harg1 : arg1.IsWhole)
  (arg2 : Memref sig .tc .vmem S1x1024 .f32) (harg2 : arg2.IsWhole)
  (arg3 : Memref sig .tc .vmem S1024x2816 .bf16) (harg3 : arg3.IsWhole)
  (arg4 : Memref sig .tc .vmem S1024x2816 .bf16) (harg4 : arg4.IsWhole)
  (arg5 : Memref sig .tc .vmem S2816x1024 .bf16) (harg5 : arg5.IsWhole)
  (arg6 : Memref sig .tc .vmem S768x1024 .f32) (harg6 : arg6.IsWhole)
  (x0 : Rows) (x1 : Gain) (x2 x3 : In) (x4 : Out)

/-- The point's rows read whole through a buffer that holds them. -/
abbrev rowsIn (arg : Memref sig .tc .vmem S768x1024 .f32) (harg : arg.IsWhole) (x : Rows) : Rows :=
  View.ld (View.read (Elt Ideal) arg.view (harg.unread x)) (Rect.unit (s := S768x1024) ![0, 0] S768x1024.size inb_S768x1024_S768x1024_0_0)
abbrev gainIn (arg : Memref sig .tc .vmem S1x1024 .f32) (harg : arg.IsWhole) (x : Gain) : Gain :=
  View.ld (View.read (Elt Ideal) arg.view (harg.unread x)) (Rect.unit (s := S1x1024) ![0, 0] S1x1024.size inb_S1x1024_S1x1024_0_0)

theorem rowsIn_eq (arg : Memref sig .tc .vmem S768x1024 .f32) (harg : arg.IsWhole) (x : Rows) : rowsIn arg harg x = x := by
  unfold rowsIn
  rw [harg.read_unread]
  exact View.ld_unit_zero (by funext a; fin_cases a <;> rfl) _ x
theorem gainIn_eq (arg : Memref sig .tc .vmem S1x1024 .f32) (harg : arg.IsWhole) (x : Gain) : gainIn arg harg x = x := by
  unfold gainIn
  rw [harg.read_unread]
  exact View.ld_unit_zero (by funext a; fin_cases a <;> rfl) _ x

set_option maxHeartbeats 4000000 in
theorem run_out :
    (kernelRun0_A (F := Ideal) c i arg1 harg1 arg2 harg2 arg3 harg3 arg4 harg4 arg5 harg5 arg6 harg6 scM0_0 (Memref.isWhole_whole _) x0 x1 x2 x3 x4).1
      = [⟨Rect.unit (s := S768x1024) ![0, 0] S768x1024.size inb_S768x1024_S768x1024_0_0,
          k0_pay2 (rowsIn arg1 harg1 x0) (back (stores (rowsIn arg1 harg1 x0) (gainIn arg2 harg2 x1)
            (View.read (Elt Ideal) arg3.view (harg3.unread x2)) (View.read (Elt Ideal) arg4.view (harg4.unread x3))
            (View.read (Elt Ideal) arg5.view (harg5.unread x4)) 10 (by decide)))⟩] := by
  unfold kernelRun0_A; dsimp only
  sl_kernel_rfl

/-- What the point leaves in the result's block. -/
theorem out_eq :
    out0_A_5 (F := Ideal) c i arg1 harg1 arg2 harg2 arg3 harg3 arg4 harg4 arg5 harg5 arg6 harg6 scM0_0 (Memref.isWhole_whole _) x0 x1 x2 x3 x4
      = k0_pay2 x0 (back (stores x0 x1 x2 x3 x4 10 (by decide))) := by
  unfold out0_A_5
  rw [View.read_writes_eq_canon _ _ _ (cover0_A_5 c _ _ _ _ _ _ _ _ _ _ _ _ _ _ _ _ _ _ _ _), run_out,
    rowsIn_eq, gainIn_eq, harg3.read_unread, harg4.read_unread, harg5.read_unread]
  exact View.canon_unit_zero (by funext a; fin_cases a <;> rfl) _ _

end Cert.Proof.DenseBody
end
-- ==== Proof.Swiglu.lean ====
module

public import Idealize.ShloMosaic.PureOps.Ideal

/-! The gated feed-forward block of one row, over the extended reals, and its sum taken some hidden units at a time. -/

@[expose] public section

noncomputable section

namespace Cert.Proof.Swiglu

open Idealize.ShloMosaic

/-- A hidden unit from its two projections `a` and `b`: `a` times its logistic, times `b`. -/
def gate (a b : EReal) : EReal := a * Ideal.div 1 (1 + Ideal.exp (-a)) * b

/-- The row `h` against one column of weights. -/
@[irreducible] def proj {n : Nat} (h w : Fin n → EReal) : EReal := ∑ k, h k * w k

/-- The row `h` through the block, at one column `w2` of the last weights. -/
@[irreducible] def block {n f : Nat} (h : Fin n → EReal) (w1 w3 : Fin f → Fin n → EReal) (w2 : Fin f → EReal) : EReal :=
  ∑ u, gate (proj h (w1 u)) (proj h (w3 u)) * w2 u

/-- Unit `i` of chunk `j` among `b c` hidden units. -/
def unit {b c : Nat} (j : Fin c) (i : Fin b) : Fin (b * c) := ⟨b * j.val + i.val, by
  have h : b * (j.val + 1) ≤ b * c := Nat.mul_le_mul_left b j.isLt
  have := i.isLt
  rw [Nat.mul_add] at h
  omega⟩

/-- What the chunk `j` of hidden units adds. -/
def part {n b c : Nat} (h : Fin n → EReal) (w1 w3 : Fin (b * c) → Fin n → EReal) (w2 : Fin (b * c) → EReal) (j : Fin c) : EReal :=
  ∑ i : Fin b, gate (proj h (w1 (unit j i))) (proj h (w3 (unit j i))) * w2 (unit j i)

/-- The chunks add up to the block. -/
theorem block_eq_sum {n b c : Nat} (h : Fin n → EReal) (w1 w3 : Fin (b * c) → Fin n → EReal) (w2 : Fin (b * c) → EReal) :
    block h w1 w3 w2 = ∑ j : Fin c, part h w1 w3 w2 j := by
  unfold block part
  rw [← Fintype.sum_prod_type']
  refine (Fintype.sum_equiv ((finProdFinEquiv (m := c) (n := b)).trans (finCongr (Nat.mul_comm c b))) _ _ fun p => ?_).symm
  have e : ((finProdFinEquiv (m := c) (n := b)).trans (finCongr (Nat.mul_comm c b))) p = unit p.1 p.2 := by
    apply Fin.ext
    show p.2.val + b * p.1.val = b * p.1.val + p.2.val
    omega
  rw [e]

/-- The root-mean-square scale of a row of 1024 numbers. -/
@[irreducible] def scale (x : Fin 1024 → EReal) : EReal :=
  Ideal.rsqrt (Ideal.div (∑ k, x k * x k) (Ideal.ofBits .f32 0x44800000#32) + Ideal.ofBits .f32 0x358637BD#32)

/-- The normalised row. -/
def normed (x g : Fin 1024 → EReal) (k : Fin 1024) : EReal := x k * scale x * g k

end Cert.Proof.Swiglu

end
-- ==== Proof.DenseValue.lean ====
module

public import proofs.«01_k».proof.Proof.DenseBody
public import proofs.«01_k».proof.Proof.Swiglu
public import Idealize.ShloMosaic.Lib.Pointwise
public import Idealize.ShloMosaic.Lib.IdealHost
public import Idealize.ShloMosaic.Lib.Pipeline.ValueKit

/-! What the dense feed-forward kernel leaves in its result array: each row plus the gated feed-forward block of the
normalised row. -/

@[expose] public section

set_option maxRecDepth 16384

noncomputable section

namespace Cert.Proof.DenseValue

open Cert.DenseIdeal Cert.DenseIdeal.Gen Cert.DenseIdeal.Value Cert.Proof.DenseBody Cert.Proof.Swiglu Idealize.ShloMosaic
open Idealize.ShloMosaic.TcCoe Idealize.ShloMosaic.Tactic Idealize.SL.Sem

theorem normed_apply (x : Rows) (g : Gain) (r : Fin 768) (k : Fin 1024) :
    k0_pay3 x g (ix2 r k) = normed (fun k => x (ix2 r k)) (fun k => g (ix2 0 k)) k := by
  unfold normed scale
  pointwise [k0_pay3]

theorem hid_apply (h : FVec Ideal S768x1024 .bf16) (w1 w3 : Vec Ideal S1024x256 .bf16) (r : Fin 768) (u : Fin 256) :
    hid h w1 w3 (ix2 r u) = gate (proj (fun k => h (ix2 r k)) (fun k => w1 (ix2 k u))) (proj (fun k => h (ix2 r k)) (fun k => w3 (ix2 k u))) := by
  unfold gate proj hid
  pointwise [k0_pay6]
  simp only [Ideal.ofBits_zero_f32, Ideal.ofBits_one_f32, zero_add, zero_sub]

theorem first_apply (x : Rows) (g : Gain) (w1 w3 : Vec Ideal S1024x256 .bf16) (w2 : Vec Ideal S256x1024 .bf16) (r : Fin 768) (d : Fin 1024) :
    k0_pay4 x g w1 w3 w2 (ix2 r d) = ∑ u : Fin 256, hid (k0_pay3 x g) w1 w3 (ix2 r u) * w2 (ix2 u d) := by
  show shapeCast S768x1024 (matmul (φ₁ := .bf16) (φ₂ := .bf16) dot_S768x256_S256x1024_S768x1024_1_0_0_1_n_n none (hid (k0_pay3 x g) w1 w3) w2
    (constant S768x1024 .f32 0x00000000#32)) shapeCasts_S768x1024_S768x1024 (ix2 r d) = _
  generalize hid (k0_pay3 x g) w1 w3 = y
  pointwise []

theorem next_apply (y : FVec Ideal S768x256 .bf16) (w2 : Vec Ideal S256x1024 .bf16) (a : Rows) (r : Fin 768) (d : Fin 1024) :
    k0_pay7 y w2 a (ix2 r d) = a (ix2 r d) + ∑ u : Fin 256, y (ix2 r u) * w2 (ix2 u d) := by
  pointwise [k0_pay7]

/-- A row of the point's block through the feed-forward block, and its chunks. -/
abbrev row (x : Rows) (r : Fin 768) : Fin 1024 → EReal := fun k => x (ix2 r k)
abbrev gain (g : Gain) : Fin 1024 → EReal := fun k => g (ix2 0 k)
abbrev cols (w : In) : Fin (256 * 11) → Fin 1024 → EReal := fun u k => w (ix2 k u)
abbrev col (w : Out) (d : Fin 1024) : Fin (256 * 11) → EReal := fun u => w (ix2 u d)

theorem chunk_apply (x : Rows) (g : Gain) (w1 w3 : In) (w2 : Out) (j : Fin 11) (r : Fin 768) (d : Fin 1024) :
    (∑ u : Fin 256, hid (k0_pay3 x g) (inChunk w1 j) (inChunk w3 j) (ix2 r u) * outChunk w2 j (ix2 u d))
      = part (normed (row x r) (gain g)) (cols w1) (cols w3) (col w2 d) j := by
  unfold part
  refine Finset.sum_congr rfl fun u _ => ?_
  rw [hid_apply]
  have ei (w : In) (k : Fin 1024) : inChunk w j (ix2 k u) = w (ix2 k (Swiglu.unit j u)) :=
    View.ld_unit_apply_of _ _ _ _ _ _ fun a => match a with
      | ⟨0, _⟩ => (Nat.zero_add _).symm
      | ⟨1, _⟩ => rfl
  have eo : outChunk w2 j (ix2 u d) = w2 (ix2 (Swiglu.unit j u) d) :=
    View.ld_unit_apply_of _ _ _ _ _ _ fun a => match a with
      | ⟨0, _⟩ => rfl
      | ⟨1, _⟩ => (Nat.zero_add _).symm
  simp only [normed_apply, ei, eo]

theorem back_cons (v : Rows) (L : List (View.Piece (Elt Ideal) S768x1024 .f32)) :
    back (⟨Rect.unit (s := S768x1024) ![0, 0] S768x1024.size inb_S768x1024_S768x1024_0_0, v⟩ :: L) = v := by
  unfold back
  exact View.readCov_full (s := S768x1024) (off := ![0, 0]) (off' := ![0, 0]) scM0_0.view inb_S768x1024_S768x1024_0_0
    inb_S768x1024_S768x1024_0_0 v L

/-- The accumulator after chunk `n` holds the sum of the chunks up to it. -/
theorem acc_apply (x : Rows) (g : Gain) (w1 w3 : In) (w2 : Out) (r : Fin 768) (d : Fin 1024) : ∀ (n : Nat) (hn : n < 11),
    back (stores x g w1 w3 w2 n hn) (ix2 r d)
      = ∑ j : Fin (n + 1), part (normed (row x r) (gain g)) (cols w1) (cols w3) (col w2 d) ⟨j.val, by omega⟩
  | 0, hn => by
    unfold stores
    rw [back_cons, first_apply, chunk_apply, Fin.sum_univ_one]
    rfl
  | n + 1, hn => by
    unfold stores
    rw [back_cons, next_apply, chunk_apply, acc_apply x g w1 w3 w2 r d n]
    exact (Fin.sum_univ_castSucc (n := n + 1) fun j =>
      part (normed (row x r) (gain g)) (cols w1) (cols w3) (col w2 d) ⟨j.val, by omega⟩).symm

/-- One number of the block a point stores. -/
theorem point_apply (x : Rows) (g : Gain) (w1 w3 : In) (w2 : Out) (r : Fin 768) (d : Fin 1024) :
    k0_pay2 x (back (stores x g w1 w3 w2 10 (by decide))) (ix2 r d)
      = x (ix2 r d) + block (normed (row x r) (gain g)) (cols w1) (cols w3) (col w2 d) := by
  show x (ix2 r d) + back (stores x g w1 w3 w2 10 (by decide)) (ix2 r d) = _
  rw [acc_apply, block_eq_sum]

/-- The whole result as a function of the arguments. -/
def result (x : S33024x1024.Idx → EReal) (g : Gain) (w1 w3 : In) (w2 : Out) : S33024x1024.Idx → EReal := fun i =>
  x i + block (normed (fun k => x (ix2 (i 0) k)) (gain g)) (cols w1) (cols w3) (col w2 (i 1))

variable (m : (ℓ : Loc nD τ sig) → Buf (Elt Ideal) ℓ)

abbrev argX (c : Dev nD) : S33024x1024.Idx → EReal := m ((c : Thread nD τ).loc main_arg0)
abbrev argG (c : Dev nD) : Gain := m ((c : Thread nD τ).loc main_arg1)
abbrev argW1 (c : Dev nD) : In := m ((c : Thread nD τ).loc main_arg2)
abbrev argW3 (c : Dev nD) : In := m ((c : Thread nD τ).loc main_arg3)
abbrev argW2 (c : Dev nD) : Out := m ((c : Thread nD τ).loc main_arg4)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])

/-- The rows of a point's block. -/
theorem rows_eq (c : Dev nD) (t : Fin cfg0.N) (r : Fin 768) (k : Fin 1024) :
    iblk m c 0 t (ix2 r k) = argX m c (ix2 ⟨768 * t.val + r.val, by have : t.val < 43 := t.isLt; omega⟩ k) := by
  unfold iblk
  rw [View.read_apply]
  refine congrArg (argX m c) ((eq_ix2 _).trans ?_)
  refine congr (congrArg ix2 (Fin.ext ?_)) (Fin.ext ?_) <;> blk_simp [index0]
  exact congrArg (· + r.val) (Nat.mul_comm _ _)
theorem gain_eq (c : Dev nD) (t : Fin cfg0.N) : iblk m c 1 t = argG m c := by
  funext j
  unfold iblk
  rw [View.read_apply]
  refine congrArg (argG m c) (funext fun a => Fin.ext ?_)
  match a with
  | ⟨0, _⟩ => blk_simp [index1]
  | ⟨1, _⟩ => blk_simp [index1]
theorem w1_eq (c : Dev nD) (t : Fin cfg0.N) : iblk m c 2 t = argW1 m c := by
  funext j
  unfold iblk
  rw [View.read_apply]
  refine congrArg (argW1 m c) (funext fun a => Fin.ext ?_)
  match a with
  | ⟨0, _⟩ => blk_simp [index2]
  | ⟨1, _⟩ => blk_simp [index2]
theorem w3_eq (c : Dev nD) (t : Fin cfg0.N) : iblk m c 3 t = argW3 m c := by
  funext j
  unfold iblk
  rw [View.read_apply]
  refine congrArg (argW3 m c) (funext fun a => Fin.ext ?_)
  match a with
  | ⟨0, _⟩ => blk_simp [index3]
  | ⟨1, _⟩ => blk_simp [index3]
theorem w2_eq (c : Dev nD) (t : Fin cfg0.N) : iblk m c 4 t = argW2 m c := by
  funext j
  unfold iblk
  rw [View.read_apply]
  refine congrArg (argW2 m c) (funext fun a => Fin.ext ?_)
  match a with
  | ⟨0, _⟩ => blk_simp [index4]
  | ⟨1, _⟩ => blk_simp [index4]

/-- A point's block is its part of the result. -/
theorem block_result (x : Rows) (P : S33024x1024.Idx → EReal) (g : Gain) (w1 w3 : In) (w2 : Out) (n : Nat) (hn : n < 43)
    (hx : ∀ r k, x (ix2 r k) = P (ix2 ⟨768 * n + r.val, by omega⟩ k)) (y : S768x1024.Idx) (i : S33024x1024.Idx)
    (h0 : (i 0).val = 768 * n + (y 0).val) (h1 : (i 1).val = (y 1).val) :
    k0_pay2 x (back (stores x g w1 w3 w2 10 (by decide))) y = result P g w1 w3 w2 i := by
  obtain ⟨r, d, rfl⟩ : ∃ r d, y = ix2 (n0 := 768) (n1 := 1024) r d := ⟨_, _, eq_ix2 y⟩
  obtain ⟨r', d', rfl⟩ : ∃ r' d', i = ix2 (n0 := 33024) (n1 := 1024) r' d' := ⟨_, _, eq_ix2 i⟩
  obtain rfl : d' = d := Fin.ext h1
  have e (k : Fin 1024) : x (ix2 r k) = P (ix2 r' k) := (hx r k).trans (congrArg (fun q => P (ix2 q k)) (Fin.ext h0.symm))
  refine (point_apply x g w1 w3 w2 r d').trans ?_
  unfold result row
  simp only [e]
  rfl

/-- The kernel's result. -/
theorem final (c : Dev nD) : (dats m 0 c).arrAt 5 cfg0.N = result (argX m c) (argG m c) (argW1 m c) (argW3 m c) (argW2 m c) := by
  refine (dats m 0 c).arrAt_eq_of_covers 5 _ (by decide +kernel) fun t hf y => ?_
  refine (congrFun (flushed5_A m c t) y).trans ?_
  unfold Pipeline.Window.cut
  refine (congrFun (out_eq ..) _).trans ?_
  rw [gain_eq, w1_eq, w3_eq, w2_eq]
  refine block_result _ (argX m c) _ _ _ _ t.val t.isLt (rows_eq m c t) _ _ ?_ ?_ <;> blk_simp [index5]
  exact congrArg (· + (y 0).val) (Nat.mul_comm _ _)

end Cert.Proof.DenseValue
end
-- ==== Proof.DenseRef.lean ====
module

public import proofs.«01_k».proof.Proof.DenseValue
public import proofs.«01_k».proof.Proof.Gen.RefDenseIdeal.Read

/-! The dense feed-forward reference, read one number at a time: the same function of the arguments as the kernel's. -/

@[expose] public section

noncomputable section

namespace Cert.Proof.DenseRef

open Cert.RefDenseIdeal Cert.RefDenseIdeal.Read Cert.Proof.Swiglu Idealize.ShloMosaic

abbrev Tokens := (⟨S33024x1024, .f32⟩ : BufTy).Contents (Elt Ideal)
abbrev Gain := (⟨S1x1024, .f32⟩ : BufTy).Contents (Elt Ideal)
abbrev In := (⟨S1024x2816, .bf16⟩ : BufTy).Contents (Elt Ideal)
abbrev Out := (⟨S2816x1024, .bf16⟩ : BufTy).Contents (Elt Ideal)

/-- The reference's normalised rows. -/
theorem normed_apply (x : Tokens) (g : Gain) (r : Fin 33024) (k : Fin 1024) :
    val_main_v13 (F := Ideal) x g (ix2 r k) = normed (fun k => x (ix2 r k)) (fun k => g (ix2 0 k)) k := by
  have hx (k : Fin 1024) : idx_main_v2 (ix1 r) k = ix2 r k := funext fun a => match a with | ⟨0, _⟩ => rfl | ⟨1, _⟩ => rfl
  have hr : idx_main_v3 (idx_main_v9 (ix2 r k)) = ix1 r := funext fun a => match a with | ⟨0, _⟩ => rfl
  have hg : idx_main_v0 (idx_main_v11 (idx_main_v12 (ix2 r k))) = ix2 0 k := by
    funext a
    match a with
    | ⟨0, _⟩ => rfl
    | ⟨1, _⟩ => exact Fin.ext (Nat.mod_eq_of_lt k.isLt)
  rw [val_main_v13_apply, val_main_v10_apply, val_main_v12_apply, val_main_v11_apply, val_main_v0_apply, val_main_v9_apply,
    val_main_v8_apply, val_main_v7_apply, val_main_v5_apply, val_main_v6_apply, val_main_v4_apply, val_main_v3_apply,
    val_main_v2_apply, val_main_cst_apply, val_main_cst_0_apply, val_main_cst_1_apply, hr, hg]
  simp only [val_main_v1_apply, hx, Ideal.mulf_def, Ideal.addf_def, Ideal.hostDivf_def, Ideal.hostUnary_rsqrt_def,
    Ideal.ofBits_def, Ideal.ofBits_zero_f32, zero_add]
  unfold normed scale
  rfl

/-- The reference's hidden units. -/
theorem hidden_apply (x : Tokens) (g : Gain) (w1 w3 : In) (r : Fin 33024) (u : Fin 2816) :
    val_main_v20 (F := Ideal) x g w1 w3 (ix2 r u)
      = gate (proj (normed (fun k => x (ix2 r k)) (fun k => g (ix2 0 k))) (fun k => w1 (ix2 k u)))
          (proj (normed (fun k => x (ix2 r k)) (fun k => g (ix2 0 k))) (fun k => w3 (ix2 k u))) := by
  have hl (k : Fin 1024) : lidx_main_v17 (ix2 r u) k = ix2 r k := funext fun a => match a with | ⟨0, _⟩ => rfl | ⟨1, _⟩ => rfl
  have hr (k : Fin 1024) : ridx_main_v17 (ix2 r u) k = ix2 k u := funext fun a => match a with | ⟨0, _⟩ => rfl | ⟨1, _⟩ => rfl
  have hl' (k : Fin 1024) : lidx_main_v19 (ix2 r u) k = ix2 r k := funext fun a => match a with | ⟨0, _⟩ => rfl | ⟨1, _⟩ => rfl
  have hr' (k : Fin 1024) : ridx_main_v19 (ix2 r u) k = ix2 k u := funext fun a => match a with | ⟨0, _⟩ => rfl | ⟨1, _⟩ => rfl
  rw [val_main_v20_apply, val_main_v18_apply, val_main_v19_apply, val_main_call0_v5_apply, val_main_call0_v4_apply,
    val_main_call0_cst_0_apply, val_main_call0_v3_apply, val_main_call0_v2_apply, val_main_call0_cst_apply,
    val_main_call0_v1_apply, val_main_call0_v0_apply, val_main_v17_apply]
  unfold gate proj
  simp only [val_main_v14_apply, val_main_v15_apply, hl, hr, hl', hr', normed_apply]
  simp only [Ideal.mulf_def, Ideal.addf_def, Ideal.hostDivf_def, Ideal.hostUnary_exp_def, Ideal.extf_def, Ideal.ofBits_def, Ideal.ofBits_one_f32]
  rfl

/-- The reference's result is the kernel's function of the arguments. -/
theorem result_eq (x : Tokens) (g : Gain) (w1 w3 : In) (w2 : Out) :
    val_main_v22 (F := Ideal) x g w1 w3 w2 = DenseValue.result x g w1 w3 w2 := by
  funext i
  obtain ⟨r, d, rfl⟩ : ∃ r d, i = ix2 (n0 := 33024) (n1 := 1024) r d := ⟨_, _, eq_ix2 i⟩
  have hl (u : Fin 2816) : lidx_main_v21 (ix2 r d) u = ix2 r u := funext fun a => match a with | ⟨0, _⟩ => rfl | ⟨1, _⟩ => rfl
  have hr (u : Fin 2816) : ridx_main_v21 (ix2 r d) u = ix2 u d := funext fun a => match a with | ⟨0, _⟩ => rfl | ⟨1, _⟩ => rfl
  rw [val_main_v22_apply, val_main_v21_apply]
  unfold DenseValue.result block
  refine congrArg (x (ix2 r d) + ·) (Finset.sum_congr rfl fun u _ => ?_)
  rw [hl, hr, hidden_apply, val_main_v16_apply]
  rfl

end Cert.Proof.DenseRef
end
-- ==== Proof.ExpertsRun.lean ====
module

public import proofs.«01_k».proof.Proof.Gen.ExpertsIdeal.Skeleton
public import proofs.«01_k».proof.Proof.Gen.ExpertsIdeal.Launch
public import Idealize.ShloMosaic.Lib.Ring
public import Idealize.ShloMosaic.Lib.Exec
public import Idealize.ShloMosaic.Lib.Tactic

/-! The experts' kernel at one grid point, whatever the tables hold: a tile that is used gets the product of its rows
with its expert's weights, any other gets zeros. Stated for every float instance. -/

@[expose] public section

set_option maxRecDepth 16384
set_option Elab.async false

noncomputable section

namespace Cert.Proof.ExpertsRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and the accumulator, whole. -/
abbrev tab0 : Memref sig .tc .smem S152 .i32 := Memref.whole main_arg0
abbrev tab1 : Memref sig .tc .smem S1 .i32 := Memref.whole main_arg1
abbrev acc : Memref sig .tc .vmem S512x1024 .f32 := Memref.whole cc0_scratch0
/-- One of the result's staging buffers, through which a point's result is read. -/
abbrev stg : View sig .tc .vmem S512x1024 .f32 := (Memref.whole cc0_stg4_0 : Memref sig .tc .vmem S512x1024 .f32).view

/-- The number of used tiles, as the kernel reads it off its table. -/
abbrev used (T1 : S1.Idx → Elt F .i32) : BitVec 32 :=
  View.readAt (Elt F) tab1.view (Rect.unit (s := S1) ![0] S1.size inb_S1_S1_0).toLoadRect T1 (Shape.Idx.first (numel1_S1.symm ▸ Nat.one_pos))

abbrev Rows (F : FTy → Type) [FloatOps F] := S512x1024.Idx → Elt F .f32
abbrev In (F : FTy → Type) [FloatOps F] := S1x1024x3584.Idx → Elt F .bf16
abbrev Out (F : FTy → Type) [FloatOps F] := S1x3584x1024.Idx → Elt F .bf16

section
variable (c : Dev nD) (i : grid0.Coords)
  (a3 : Memref sig .tc .vmem S512x1024 .f32) (h3 : a3.IsWhole) (a4 : Memref sig .tc .vmem S1x1024x3584 .bf16) (h4 : a4.IsWhole)
  (a5 : Memref sig .tc .vmem S1x1024x3584 .bf16) (h5 : a5.IsWhole) (a6 : Memref sig .tc .vmem S1x3584x1024 .bf16) (h6 : a6.IsWhole)
  (a7 : Memref sig .tc .vmem S512x1024 .f32) (h7 : a7.IsWhole)
  (T0 : S152.Idx → Elt F .i32) (T1 : S1.Idx → Elt F .i32) (x : Rows F) (w1 w3 : In F) (w2 : Out F)

/-- What the point holds throughout: the input blocks and the tables. -/
def held : sProp 𝕄 :=
  iprop((a3.view.loc (c : Thread nD τ) ↦[a3.view.set]{fullShare} a3.view.rep x)
    ∗ (a4.view.loc (c : Thread nD τ) ↦[a4.view.set]{fullShare} a4.view.rep w1)
    ∗ (a5.view.loc (c : Thread nD τ) ↦[a5.view.set]{fullShare} a5.view.rep w3)
    ∗ (a6.view.loc (c : Thread nD τ) ↦[a6.view.set]{fullShare} a6.view.rep w2)
    ∗ (tab0.view.loc (c : Thread nD τ) ↦{fullShare.right} T0)
    ∗ (tab1.view.loc (c : Thread nD τ) ↦{fullShare.right} T1))

/-- The accumulator at any contents. -/
def loose : sProp 𝕄 := iprop(∃ a, acc.view.loc (c : Thread nD τ) ↦{fullShare} a)

set_option backward.proofsInPublic true in
set_option maxHeartbeats 8000000 in
/-- A used tile: what the point stores into its result, and the run that stores it. -/
def usedRun (g1 : k0_cond1 i (used T1) = 1#1) (g2 : ¬ k0_cond2 i (used T1) = 1#1) :
    { L : List (View.Piece (Elt F) S512x1024 .f32) // ∀ K : PUnit → sProp 𝕄,
      iprop(held c a3 a4 a5 a6 T0 T1 x w1 w3 w2 ∗ (∃ d, owns (c : Thread nD τ) a7 fullShare d) ∗ loose c
          ∗ (iprop(held c a3 a4 a5 a6 T0 T1 x w1 w3 w2 ∗ (∃ f, a7.view.loc (c : Thread nD τ) ↦[a7.view.set]{fullShare} a7.view.writes (Elt F) f L)
              ∗ loose c) -∗ K ⟨⟩))
        ⊢ wp frame (wpE (defs₀ (F := F)) Variants.none c none) Set.univ
            (cc0_moe_expert_ffn i tab0 (Memref.isWhole_whole _) tab1 (Memref.isWhole_whole _) a3 h3 a4 h4 a5 h5 a6 h6 a7 h7 acc (Memref.isWhole_whole _)) K } :=
  ⟨_, fun K => by
    unfold owns held loose
    rw [cc0_moe_expert_ffn_eq_skeleton]; unfold cc0_moe_expert_ffn_skel
    iintro ⟨⟨H3, H4, H5, H6, HT0, HT1⟩, ⟨%d, %f, -, H7⟩, ⟨%a, HA⟩, Hk⟩
    have hA : acc.IsWhole := Memref.isWhole_whole _
    have hT0 : tab0.IsWhole := Memref.isWhole_whole _
    have hT1 : tab1.IsWhole := Memref.isWhole_whole _
    sl_exec! (disch := first | (guard_target = k0_cond1 _ _ = _; exact g1) | (guard_target = ¬(k0_cond2 _ _ = _); exact g2))
    sl_step
    iapply Hk
    isplitl [H3 H4 H5 H6 HT0 HT1]
    · isplitl [H3]; · iexact H3
      isplitl [H4]; · iexact H4
      isplitl [H5]; · iexact H5
      isplitl [H6]; · iexact H6
      isplitl [HT0]; · iexact HT0
      iexact HT1
    isplitl [H7]; · iexists _; iexact H7
    iexists _; iexact HA⟩

set_option backward.proofsInPublic true in
set_option maxHeartbeats 8000000 in
/-- An unused tile: what the point stores into its result, and the run that stores it. -/
def restRun (g1 : ¬ k0_cond1 i (used T1) = 1#1) (g2 : k0_cond2 i (used T1) = 1#1) :
    { L : List (View.Piece (Elt F) S512x1024 .f32) // ∀ K : PUnit → sProp 𝕄,
      iprop(held c a3 a4 a5 a6 T0 T1 x w1 w3 w2 ∗ (∃ d, owns (c : Thread nD τ) a7 fullShare d) ∗ loose c
          ∗ (iprop(held c a3 a4 a5 a6 T0 T1 x w1 w3 w2 ∗ (∃ f, a7.view.loc (c : Thread nD τ) ↦[a7.view.set]{fullShare} a7.view.writes (Elt F) f L)
              ∗ loose c) -∗ K ⟨⟩))
        ⊢ wp frame (wpE (defs₀ (F := F)) Variants.none c none) Set.univ
            (cc0_moe_expert_ffn i tab0 (Memref.isWhole_whole _) tab1 (Memref.isWhole_whole _) a3 h3 a4 h4 a5 h5 a6 h6 a7 h7 acc (Memref.isWhole_whole _)) K } :=
  ⟨_, fun K => by
    unfold owns held loose
    rw [cc0_moe_expert_ffn_eq_skeleton]; unfold cc0_moe_expert_ffn_skel
    iintro ⟨⟨H3, H4, H5, H6, HT0, HT1⟩, ⟨%d, %f, -, H7⟩, ⟨%a, HA⟩, Hk⟩
    have hA : acc.IsWhole := Memref.isWhole_whole _
    have hT0 : tab0.IsWhole := Memref.isWhole_whole _
    have hT1 : tab1.IsWhole := Memref.isWhole_whole _
    sl_exec! (disch := first | (guard_target = ¬(k0_cond1 _ _ = _); exact g1) | (guard_target = k0_cond2 _ _ = _; exact g2))
    sl_step
    iapply Hk
    isplitl [H3 H4 H5 H6 HT0 HT1]
    · isplitl [H3]; · iexact H3
      isplitl [H4]; · iexact H4
      isplitl [H5]; · iexact H5
      isplitl [H6]; · iexact H6
      isplitl [HT0]; · iexact HT0
      iexact HT1
    isplitl [H7]; · iexists _; iexact H7
    iexists _; iexact HA⟩

/-- Either way the stores fill the result's block. -/
theorem used_cover (g1 : k0_cond1 i (used T1) = 1#1) (g2 : ¬ k0_cond2 i (used T1) = 1#1) (y : S512x1024.Idx) :
    ∃ pc ∈ (usedRun c i a3 h3 a4 h4 a5 h5 a6 h6 a7 h7 T0 T1 x w1 w3 w2 g1 g2).1, y ∈ pc.1.set :=
  View.cover_of_tiledL (usedRun c i a3 h3 a4 h4 a5 h5 a6 h6 a7 h7 T0 T1 x w1 w3 w2 g1 g2).1 S512x1024.size (by sl_kernel_rfl) y
theorem rest_cover (g1 : ¬ k0_cond1 i (used T1) = 1#1) (g2 : k0_cond2 i (used T1) = 1#1) (y : S512x1024.Idx) :
    ∃ pc ∈ (restRun c i a3 h3 a4 h4 a5 h5 a6 h6 a7 h7 T0 T1 x w1 w3 w2 g1 g2).1, y ∈ pc.1.set :=
  View.cover_of_tiledL (restRun c i a3 h3 a4 h4 a5 h5 a6 h6 a7 h7 T0 T1 x w1 w3 w2 g1 g2).1 S512x1024.size (by sl_kernel_rfl) y

end

end Cert.Proof.ExpertsRun
end
-- ==== Proof.ExpertsFrame.lean ====
module

public import proofs.«01_k».proof.Proof.ExpertsRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Affine
public import Idealize.ShloMosaic.PureOps.BitExact
public import Idealize.ShloMosaic.Adequacy
public import Idealize.ShloMosaic.Init

/-! The experts' launch for any tables whose words keep every block inside its array: it terminates without a fault,
leaves its arguments as they were and its result as the grid's points write it. Stated for every float instance. -/

@[expose] public section

set_option maxRecDepth 16384
set_option Elab.async false

noncomputable section

namespace Cert.Proof.ExpertsFrame

open Cert.ExpertsIdeal Cert.ExpertsIdeal.Gen Cert.Proof.ExpertsRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The two conditions and the blocks' positions -/

/-- A bit widened to a word and compared with zero is the bit. -/
theorem widened (b : Bool) : IntOp.cmpi .ne (BitVec.zeroExtend 32 (BitVec.ofBool b)) 0#32 = BitVec.ofBool b := by
  cases b <;> decide

theorem cond1_eq (i : grid0.Coords) (v : BitVec 32) : k0_cond1 i v = BitVec.ofBool ((BitVec.ofNat 32 (i 0).val).slt v) := widened _
theorem cond2_eq (i : grid0.Coords) (v : BitVec 32) : k0_cond2 i v = BitVec.ofBool (v.sle (BitVec.ofNat 32 (i 0).val)) := widened _

/-- The kernel's two conditions exclude each other and one of them holds. -/
theorem cond2_iff (i : grid0.Coords) (v : BitVec 32) : k0_cond2 i v = 1#1 ↔ ¬ k0_cond1 i v = 1#1 := by
  rw [cond1_eq, cond2_eq, BitVec.sle_eq_not_slt]
  cases (BitVec.ofNat 32 (i 0).val).slt v <;> decide

/-- The rows' block lies no further than the point itself, whatever the number of used tiles. -/
theorem clamp_le (n : ℕ) (hn : n < 152) (v : BitVec 32) :
    (Scalar.minsi (BitVec.ofNat 32 n) (Scalar.subi (Scalar.maxsi v 1#32) 1#32)).toNat ≤ n := by
  have hd : ∀ w : BitVec 32, Scalar.minsi (BitVec.ofNat 32 n) w = if (BitVec.ofNat 32 n).slt w then BitVec.ofNat 32 n else w := fun _ => rfl
  have hm : Scalar.subi (Scalar.maxsi v 1#32) 1#32 = (if (1#32).slt v then v else 1#32) - 1#32 := rfl
  rw [hd, hm]
  have hN : (BitVec.ofNat 32 n).toNat = n := by rw [BitVec.toNat_ofNat]; omega
  have hI : (BitVec.ofNat 32 n).toInt = n := by rw [BitVec.toInt_eq_toNat_cond, hN]; split <;> omega
  by_cases h : (1#32).slt v = true
  · rw [if_pos h]
    rw [BitVec.slt_eq_decide, decide_eq_true_eq] at h
    have h1 : (1 : ℤ) < v.toInt := h
    have hv := v.isLt
    have hs : (v - 1#32).toNat = v.toNat - 1 ∧ v.toNat < 2147483648 := by
      rw [BitVec.toInt_eq_toNat_cond] at h1
      rw [BitVec.toNat_sub, show (1#32).toNat = 1 from rfl]
      split at h1 <;> omega
    split
    · exact hN.le
    · rename_i g
      rw [BitVec.slt_eq_decide, decide_eq_true_eq, hI, BitVec.toInt_eq_toNat_cond, hs.1] at g
      rw [hs.1]
      split at g <;> omega
  · rw [if_neg h]
    split
    · exact hN.le
    · exact Nat.zero_le _

/-! ## The launch at admissible tables -/

section
variable (a : (pcfg0 (F := F)).Adm)

abbrev T0 : S152.Idx → Elt F .i32 := a.1 0
abbrev T1 : S1.Idx → Elt F .i32 := a.1 1

theorem only_idx (x y : S1.Idx) : x = y := funext fun | ⟨0, _⟩ => Subsingleton.elim (α := Fin 1) _ _

/-- The word the kernel reads is the table's. -/
theorem used_eq : used (T1 a) = a.1.atD 1 ![0] := by
  have h : ∀ j : Fin 1, (![0] : Fin 1 → ℕ) j + 1 ≤ S1.size j := by decide
  exact (show used (T1 a) = T1 a (fun j => ⟨(![0] : Fin 1 → ℕ) j, h j⟩) from congrArg (T1 a) (only_idx _ _)).trans (by
    unfold Pipeline.Prefetch.Contents.atD
    split
    · rfl
    · rename_i g; exact (g h).elim)

abbrev cfgA : Cfg sig Λ₀ := cfg0 a
abbrev pcs : Fin 1 → Cfg sig Λ₀ := Pipeline.pin (pcfgs (F := F)) fun _ => a

/-- The result's window is never left alone. -/
theorem idle4 (i : grid0.Coords) : idle0 a.1 4 i = false := by
  show (!(k0_cond1 i (a.1.atD 1 ![0]) == 1#1) && !(k0_cond2 i (a.1.atD 1 ![0]) == 1#1)) = false
  rw [← used_eq]
  by_cases h : k0_cond1 i (used (T1 a)) = 1#1
  · rw [h]; rfl
  · rw [(cond2_iff i _).2 h]; simp

variable (m : (ℓ : Loc nD τ sig) → Buf (Elt F) ℓ) (ρ : Dev nD → PrngReg)

/-- A point's coordinates and its windows' current staging buffers. -/
abbrev crd (t : Fin (cfgA a).N) : (cfgA a).grid.Coords := (cfgA a).grid.coords t
abbrev sl (t : Fin (cfgA a).N) (w : Fin 5) := (cfgA a).slots t w

/-- A window's block at a point, of its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What a point writes: by its store for a used tile, or by its store for an unused one, read back. -/
def written (c : Dev nD) (t : Fin (cfgA a).N) : Rows F :=
  if h : k0_cond1 (crd a t) (used (T1 a)) = 1#1 then
    stg.read (Elt F) (stg.writes (Elt F) stg.junk
      (usedRun c (crd a t) (spec0_0.stage (sl a t 0)) (hstage0_0 ((sl a t 0).cast nbuf0_0)) (spec0_1.stage (sl a t 1)) (hstage0_1 ((sl a t 1).cast nbuf0_1))
        (spec0_2.stage (sl a t 2)) (hstage0_2 ((sl a t 2).cast nbuf0_2)) (spec0_3.stage (sl a t 3)) (hstage0_3 ((sl a t 3).cast nbuf0_3))
        (spec0_4.stage (sl a t 4)) (hstage0_4 ((sl a t 4).cast nbuf0_4)) (T0 a) (T1 a)
        (iblk a m ρ c 0 t) (iblk a m ρ c 1 t) (iblk a m ρ c 2 t) (iblk a m ρ c 3 t) h (fun h' => (cond2_iff _ _).1 h' h)).1)
  else
    stg.read (Elt F) (stg.writes (Elt F) stg.junk
      (restRun c (crd a t) (spec0_0.stage (sl a t 0)) (hstage0_0 ((sl a t 0).cast nbuf0_0)) (spec0_1.stage (sl a t 1)) (hstage0_1 ((sl a t 1).cast nbuf0_1))
        (spec0_2.stage (sl a t 2)) (hstage0_2 ((sl a t 2).cast nbuf0_2)) (spec0_3.stage (sl a t 3)) (hstage0_3 ((sl a t 3).cast nbuf0_3))
        (spec0_4.stage (sl a t 4)) (hstage0_4 ((sl a t 4).cast nbuf0_4)) (T0 a) (T1 a)
        (iblk a m ρ c 0 t) (iblk a m ρ c 1 t) (iblk a m ρ c 2 t) (iblk a m ρ c 3 t) h ((cond2_iff _ _).2 h)).1)

/-- Between points: the accumulator at anything, the tables' halves. -/
def between (c : Dev nD) : sProp 𝕄 :=
  iprop(loose c ∗ (tab0.view.loc (c : Thread nD τ) ↦{fullShare.right} T0 a) ∗ (tab1.view.loc (c : Thread nD τ) ↦{fullShare.right} T1 a))

/-- The launch's data. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => written a m ρ c t
  Φ _ := between a c
  q _ := fullShare
  owed _ := 0

/-- An input's buffer holds its block when the kernel runs. -/
theorem before_in (c : Dev nD) (t : Fin (cfgA a).N) :
    (∀ d, (dats a m ρ 0 c).before (0 : Fin 5) t d = iblk a m ρ c (0 : Fin 5) t)
      ∧ (∀ d, (dats a m ρ 0 c).before (1 : Fin 5) t d = iblk a m ρ c (1 : Fin 5) t)
      ∧ (∀ d, (dats a m ρ 0 c).before (2 : Fin 5) t d = iblk a m ρ c (2 : Fin 5) t)
      ∧ (∀ d, (dats a m ρ 0 c).before (3 : Fin 5) t d = iblk a m ρ c (3 : Fin 5) t) := by
  refine ⟨fun d => ?_, fun d => ?_, fun d => ?_, fun d => ?_⟩
  all_goals
    exact ((dats a m ρ 0 c).before_in_eq_fetched _ rfl (fun _ => rfl) (fun _ _ _ => rfl)
      (fun t => by unfold Dat.blockOf; rfl) t d).trans (by unfold Dat.fetched Dat.blockOf iblk; rfl)

/-- The kernel as the launch calls it at a point. -/
abbrev bodyAt (t : Fin (cfgA a).N) : Prog (TpuEff nD τ sig (Elt F) Λ₀ .tc) PUnit :=
  cc0_moe_expert_ffn (crd a t) tab0 (Memref.isWhole_whole _) tab1 (Memref.isWhole_whole _)
    (spec0_0.stage (sl a t 0)) (hstage0_0 ((sl a t 0).cast nbuf0_0)) (spec0_1.stage (sl a t 1)) (hstage0_1 ((sl a t 1).cast nbuf0_1))
    (spec0_2.stage (sl a t 2)) (hstage0_2 ((sl a t 2).cast nbuf0_2)) (spec0_3.stage (sl a t 3)) (hstage0_3 ((sl a t 3).cast nbuf0_3))
    (spec0_4.stage (sl a t 4)) (hstage0_4 ((sl a t 4).cast nbuf0_4)) acc (Memref.isWhole_whole _)

set_option maxHeartbeats 4000000 in
/-- One point, from its blocks and anything in the result's buffer to its blocks and what it writes. -/
theorem point_run (c : Dev nD) (t : Fin (cfgA a).N) (K : PUnit → sProp 𝕄) :
    iprop(between a c ∗ owns (c : Thread nD τ) (spec0_0.stage (sl a t 0)) fullShare (iblk a m ρ c (0 : Fin 5) t)
        ∗ owns (c : Thread nD τ) (spec0_1.stage (sl a t 1)) fullShare (iblk a m ρ c (1 : Fin 5) t)
        ∗ owns (c : Thread nD τ) (spec0_2.stage (sl a t 2)) fullShare (iblk a m ρ c (2 : Fin 5) t)
        ∗ owns (c : Thread nD τ) (spec0_3.stage (sl a t 3)) fullShare (iblk a m ρ c (3 : Fin 5) t)
        ∗ (∃ d, owns (c : Thread nD τ) (spec0_4.stage (sl a t 4)) fullShare d)
        ∗ (iprop(between a c ∗ owns (c : Thread nD τ) (spec0_0.stage (sl a t 0)) fullShare (iblk a m ρ c (0 : Fin 5) t)
        ∗ owns (c : Thread nD τ) (spec0_1.stage (sl a t 1)) fullShare (iblk a m ρ c (1 : Fin 5) t)
        ∗ owns (c : Thread nD τ) (spec0_2.stage (sl a t 2)) fullShare (iblk a m ρ c (2 : Fin 5) t)
        ∗ owns (c : Thread nD τ) (spec0_3.stage (sl a t 3)) fullShare (iblk a m ρ c (3 : Fin 5) t)
        ∗ owns (c : Thread nD τ) (spec0_4.stage (sl a t 4)) fullShare (written a m ρ c t)) -∗ K ⟨⟩))
      ⊢ wp frame (wpE (defs₀ (F := F)) Variants.none c none) Set.univ (bodyAt a t) K := by
  by_cases h : k0_cond1 (crd a t) (used (T1 a)) = 1#1
  · have g := fun h' => (cond2_iff (crd a t) (used (T1 a))).1 h' h
    unfold between
    iintro ⟨⟨HA, HT0, HT1⟩, H0, H1, H2, H3, H4, Hk⟩
    iapply ((usedRun c (crd a t) (spec0_0.stage (sl a t 0)) (hstage0_0 ((sl a t 0).cast nbuf0_0)) (spec0_1.stage (sl a t 1)) (hstage0_1 ((sl a t 1).cast nbuf0_1))
        (spec0_2.stage (sl a t 2)) (hstage0_2 ((sl a t 2).cast nbuf0_2)) (spec0_3.stage (sl a t 3)) (hstage0_3 ((sl a t 3).cast nbuf0_3))
        (spec0_4.stage (sl a t 4)) (hstage0_4 ((sl a t 4).cast nbuf0_4)) (T0 a) (T1 a)
        (iblk a m ρ c 0 t) (iblk a m ρ c 1 t) (iblk a m ρ c 2 t) (iblk a m ρ c 3 t) h g).2 _)
    unfold held
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HA]; · iexact HA
    iintro ⟨⟨H0, H1, H2, H3, HT0, HT1⟩, ⟨%e, H4⟩, HA⟩
    iapply Hk
    isplitl [HA HT0 HT1]
    · isplitl [HA]; · iexact HA
      isplitl [HT0]; · iexact HT0
      iexact HT1
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      unfold written; rw [dif_pos h]
      exact View.read_writes_of_cover _ _ _ _ _ (used_cover c _ _ _ _ _ _ _ _ _ _ _ _ _ _ _ _ _ h g)
  · have g := (cond2_iff (crd a t) (used (T1 a))).2 h
    unfold between
    iintro ⟨⟨HA, HT0, HT1⟩, H0, H1, H2, H3, H4, Hk⟩
    iapply ((restRun c (crd a t) (spec0_0.stage (sl a t 0)) (hstage0_0 ((sl a t 0).cast nbuf0_0)) (spec0_1.stage (sl a t 1)) (hstage0_1 ((sl a t 1).cast nbuf0_1))
        (spec0_2.stage (sl a t 2)) (hstage0_2 ((sl a t 2).cast nbuf0_2)) (spec0_3.stage (sl a t 3)) (hstage0_3 ((sl a t 3).cast nbuf0_3))
        (spec0_4.stage (sl a t 4)) (hstage0_4 ((sl a t 4).cast nbuf0_4)) (T0 a) (T1 a)
        (iblk a m ρ c 0 t) (iblk a m ρ c 1 t) (iblk a m ρ c 2 t) (iblk a m ρ c 3 t) h g).2 _)
    unfold held
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HA]; · iexact HA
    iintro ⟨⟨H0, H1, H2, H3, HT0, HT1⟩, ⟨%e, H4⟩, HA⟩
    iapply Hk
    isplitl [HA HT0 HT1]
    · isplitl [HA]; · iexact HA
      isplitl [HT0]; · iexact HT0
      iexact HT1
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      unfold written; rw [dif_neg h]
      exact View.read_writes_of_cover _ _ _ _ _ (rest_cover c _ _ _ _ _ _ _ _ _ _ _ _ _ _ _ _ _ h g)

set_option maxHeartbeats 4000000 in
/-- What the launch asks of the kernel, at every point. -/
theorem obligation (c : Dev nD) : BodyObligation (dats a m ρ 0 c) (defs₀ (F := F)) Variants.none () Set.univ := fun t => by
  rw [bigSep_W0, bigSep_W0]
  have b := before_in a m ρ c t
  rewrite [show (cfgA a).idle (4 : Fin 5) ((cfgA a).grid.coords t) = false from idle4 a _]
  simp only [b.1, b.2.1, b.2.2.1, b.2.2.2]
  rewrite [show (dats a m ρ 0 c).Φ t.castSucc = between a c from rfl, show (dats a m ρ 0 c).Φ t.succ = between a c from rfl]
  iintro ⟨HP, Ho, ⟨%d0, H0⟩, ⟨%d1, H1⟩, ⟨%d2, H2⟩, ⟨%d3, H3⟩, ⟨%d4, H4⟩⟩
  iapply (point_run a m ρ c t _)
  isplitl [HP]; · iexact HP
  isplitl [H0]; · iexact H0
  isplitl [H1]; · iexact H1
  isplitl [H2]; · iexact H2
  isplitl [H3]; · iexact H3
  isplitl [H4]; · iexists _; iexact H4
  iintro ⟨HP, H0, H1, H2, H3, H4⟩
  isplitl [HP]; · iexact HP
  isplitl [Ho]; · iexact Ho
  isplitl [H0]; · iexact H0
  isplitl [H1]; · iexact H1
  isplitl [H2]; · iexact H2
  isplitl [H3]; · iexact H3
  iexact H4

/-! ## The run -/

/-- The launch's bookkeeping element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The two tables, one by one. -/
theorem tables (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables, scopedRest0_eq, show (dats a m ρ 0 c).Φ 0 = between a c from rfl]
  unfold between loose
  iintro ⟨-, ⟨HT0, HT1⟩, ⟨%f, HA⟩⟩
  isplitl [HA]; · iexists f; iexact HA
  isplitl [HT0]; · iexact HT0
  iexact HT1

theorem leave (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = between a c from rfl]
  unfold between loose
  iintro ⟨⟨%f, HA⟩, -, -⟩
  isplitr; · iempintro
  iexists f; iexact HA

/-- Every array at what the points leave in it, every table as it was. -/
def post : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory that holds these tables the launch terminates without a fault, its arrays as computed, its counters at zero. -/
theorem run (hp : ∀ (c : Dev nD) j, m ((c : Thread nD τ).loc (pre0.ref j)) = a.1 j) :
    θ_run (defs (F := F)) (onTc (τ := τ) (main (F := F))) (s₀ m ρ) (fun r => post a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre emb₁ defs₀ Variants.none m ρ main
    (hbody := fun c => (obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem unchanged (hp : ∀ (c : Dev nD) j, m ((c : Thread nD τ).loc (pre0.ref j)) = a.1 j) {r : PUnit × MemSt nD τ sig (Elt F)}
    (h : post a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp c 0).symm, ((h c).2 1).trans (hp c 1).symm,
    ((h c).1 (0 : Fin 5)).trans ((dats a m ρ 0 c).arrAt_in (0 : Fin 5) rfl _), ((h c).1 (1 : Fin 5)).trans ((dats a m ρ 0 c).arrAt_in (1 : Fin 5) rfl _),
    ((h c).1 (2 : Fin 5)).trans ((dats a m ρ 0 c).arrAt_in (2 : Fin 5) rfl _), ((h c).1 (3 : Fin 5)).trans ((dats a m ρ 0 c).arrAt_in (3 : Fin 5) rfl _)⟩

end

/-! ## The tables the precondition admits -/

/-- The expert of a point's tile, as the weights' index maps read it. -/
def expert (pf : pre0.Contents (Elt F)) (i : grid0.Coords) : BitVec 32 :=
  pf.at 0 (Rect.unit (s := S152) (k0_off1 i) S1.size (k0_off1_inb i)) numel1_S1
/-- The block of rows of a point. -/
def rowBlock (pf : pre0.Contents (Elt F)) (i : grid0.Coords) : BitVec 32 :=
  Scalar.minsi (BitVec.ofNat 32 (i 0).val) (Scalar.subi (Scalar.maxsi (pf.at 1 (Rect.unit (s := S1) ![0] S1.size inb_S1_S1_0) numel1_S1) 1#32) 1#32)

theorem pos0 (pf : pre0.Contents (Elt F)) (i : grid0.Coords) : cc0_transform_0 inb_S1_S1_0 numel1_S1 pf i = ![(rowBlock pf i).toNat, 0] := rfl
theorem pos1 (pf : pre0.Contents (Elt F)) (i : grid0.Coords) : cc0_transform_1 k0_off1_inb numel1_S1 pf i = ![(expert pf i).toNat, 0, 0] := rfl
theorem pos2 (pf : pre0.Contents (Elt F)) (i : grid0.Coords) : cc0_transform_2 k0_off1_inb numel1_S1 pf i = ![(expert pf i).toNat, 0, 0] := rfl
theorem pos3 (pf : pre0.Contents (Elt F)) (i : grid0.Coords) : cc0_transform_3 k0_off1_inb numel1_S1 pf i = ![(expert pf i).toNat, 0, 0] := rfl

/-- A weight's block at one of the eight experts lies inside the weight. -/
theorem in_weight (A B n : ℕ) (hn : n < 8) : ∀ b : Fin 3, ((![n, 0, 0] : Fin 3 → ℕ) b + 1) * (![1, A, B] : Fin 3 → ℕ) b ≤ (![8, A, B] : Fin 3 → ℕ) b
  | ⟨0, _⟩ => (by omega : (n + 1) * 1 ≤ 8)
  | ⟨1, _⟩ => (by omega : (0 + 1) * A ≤ A)
  | ⟨2, _⟩ => (by omega : (0 + 1) * B ≤ B)
theorem in_rows (n : ℕ) (hn : n < 152) : ∀ b : Fin 2, ((![n, 0] : Fin 2 → ℕ) b + 1) * (![512, 1024] : Fin 2 → ℕ) b ≤ (![77824, 1024] : Fin 2 → ℕ) b
  | ⟨0, _⟩ => (by omega : (n + 1) * 512 ≤ 77824)
  | ⟨1, _⟩ => (by omega : (0 + 1) * 1024 ≤ 1024)

/-- Tables whose experts are among the eight keep every block inside its array. -/
theorem ok_of (pf : pre0.Contents (Elt F)) (h : ∀ j : S152.Idx, ((pf 0 : S152.Idx → BitVec 32) j).toNat < 8) : ok0 pf := by
  have he : ∀ i, (expert pf i).toNat < 8 := fun i => h _
  have hr : ∀ i, (rowBlock pf i).toNat < 152 := fun i =>
    lt_of_le_of_lt (clamp_le (i 0).val (i 0).isLt (pf.at 1 (Rect.unit (s := S1) ![0] S1.size inb_S1_S1_0) numel1_S1)) (i 0).isLt
  exact ⟨fun i => ⟨pos0 pf i ▸ in_rows _ (hr i), .inl rfl⟩,
    fun i => ⟨pos1 pf i ▸ in_weight 1024 3584 _ (he i), .inr (Affine.block_words_dvd (s := S8x1024x3584) (p := EltTy.packing .bf16) (by decide) (by decide))⟩,
    fun i => ⟨pos2 pf i ▸ in_weight 1024 3584 _ (he i), .inr (Affine.block_words_dvd (s := S8x1024x3584) (p := EltTy.packing .bf16) (by decide) (by decide))⟩,
    fun i => ⟨pos3 pf i ▸ in_weight 3584 1024 _ (he i), .inr (Affine.block_words_dvd (s := S8x3584x1024) (p := EltTy.packing .bf16) (by decide) (by decide))⟩⟩

/-- The launch's tables, of a memory whose table of experts is among the eight. -/
def tablesOf (m : (ℓ : Loc nD τ sig) → Buf (Elt F) ℓ)
    (h : ∀ j : S152.Idx, ((m (((0 : Dev nD) : Thread nD τ).loc main_arg0) : S152.Idx → BitVec 32) j).toNat < 8) : (pcfg0 (F := F)).Adm :=
  ⟨fun j => m (((0 : Dev nD) : Thread nD τ).loc (pre0.ref j)), ok_of _ h⟩

theorem tablesOf_spec (m : (ℓ : Loc nD τ sig) → Buf (Elt F) ℓ)
    (h : ∀ j : S152.Idx, ((m (((0 : Dev nD) : Thread nD τ).loc main_arg0) : S152.Idx → BitVec 32) j).toNat < 8) (c : Dev nD) (j : Fin 2) :
    m ((c : Thread nD τ).loc (pre0.ref j)) = (tablesOf m h).1 j := by
  obtain rfl : c = 0 := Subsingleton.elim _ _
  rfl

end Cert.Proof.ExpertsFrame
end
-- ==== Proof.ExpertsBody.lean ====
module

public import proofs.«01_k».proof.Proof.ExpertsFrame
public import Idealize.ShloMosaic.Lib.VecWindow
public import Idealize.ShloMosaic.Lib.Pipeline.ValueKit
public import Idealize.ShloMosaic.PureOps.Ideal

/-! What one grid point of the experts' kernel stores: for a used tile seven chunks of hidden units, added one after
the other into the accumulator; for an unused one zeros. -/

@[expose] public section

set_option maxRecDepth 16384

noncomputable section

namespace Cert.Proof.ExpertsBody

open Cert.ExpertsIdeal Cert.ExpertsIdeal.Gen Cert.Proof.ExpertsRun Idealize.ShloMosaic Idealize.ShloMosaic.TcCoe Idealize.ShloMosaic.Tactic Idealize.SL.Sem

theorem inb_in : ∀ (j : Fin 7) (a : Fin 3), (![0, 0, 512 * j.val] : Fin 3 → Nat) a + S1x1024x512.size a ≤ S1x1024x3584.size a := by
  decide
theorem inb_out : ∀ (j : Fin 7) (a : Fin 3), (![0, 512 * j.val, 0] : Fin 3 → Nat) a + S1x512x1024.size a ≤ S1x3584x1024.size a := by
  decide

abbrev InC := Vec Ideal S1x1024x512 .bf16
abbrev OutC := Vec Ideal S1x512x1024 .bf16

/-- The rows, and the parts of the weights that belong to chunk `j`, as the kernel loads them. -/
def rowsAt (a : Memref sig .tc .vmem S512x1024 .f32) (x : Rows Ideal) : Rows Ideal :=
  a.view.readAt (Elt Ideal) (Rect.unit (s := S512x1024) ![0, 0] S512x1024.size inb_S512x1024_S512x1024_0_0).toLoadRect (a.view.rep x)
def inAt (a : Memref sig .tc .vmem S1x1024x3584 .bf16) (w : In Ideal) (j : Fin 7) : InC :=
  a.view.readAt (Elt Ideal) (Rect.unit (s := S1x1024x3584) ![0, 0, 512 * j.val] S1x1024x512.size (inb_in j)).toLoadRect (a.view.rep w)
def outAt (a : Memref sig .tc .vmem S1x3584x1024 .bf16) (w : Out Ideal) (j : Fin 7) : OutC :=
  a.view.readAt (Elt Ideal) (Rect.unit (s := S1x3584x1024) ![0, 512 * j.val, 0] S1x512x1024.size (inb_out j)).toLoadRect (a.view.rep w)

/-- The accumulator read back whole. -/
def back (L : List (View.Piece (Elt Ideal) S512x1024 .f32)) : Rows Ideal :=
  acc.view.readCov L (Rect.unit (s := S512x1024) ![0, 0] S512x1024.size inb_S512x1024_S512x1024_0_0).toLoadRect

/-- The accumulator with one more chunk added. -/
abbrev next (x : Rows Ideal) (w1 w3 : InC) (w2 : OutC) (a : Rows Ideal) : Rows Ideal :=
  k0_pay8 (k0_pay5 x w1) (k0_pay6 x w3) k0_pay7 w2 a

/-- The stores into the accumulator up to chunk `n`, the last first. -/
def stores (x : Rows Ideal) (w1 w3 : Fin 7 → InC) (w2 : Fin 7 → OutC) : (n : Nat) → n < 7 → List (View.Piece (Elt Ideal) S512x1024 .f32)
  | 0, h => [⟨Rect.unit (s := S512x1024) ![0, 0] S512x1024.size inb_S512x1024_S512x1024_0_0, k0_pay4 x (w1 ⟨0, h⟩) (w3 ⟨0, h⟩) (w2 ⟨0, h⟩)⟩]
  | n + 1, h =>
    ⟨Rect.unit (s := S512x1024) ![0, 0] S512x1024.size inb_S512x1024_S512x1024_0_0,
      next x (w1 ⟨n + 1, h⟩) (w3 ⟨n + 1, h⟩) (w2 ⟨n + 1, h⟩) (back (stores x w1 w3 w2 n (Nat.lt_of_succ_lt h)))⟩
      :: stores x w1 w3 w2 n (Nat.lt_of_succ_lt h)

section
variable (c : Dev nD) (i : grid0.Coords)
  (a3 : Memref sig .tc .vmem S512x1024 .f32) (h3 : a3.IsWhole) (a4 : Memref sig .tc .vmem S1x1024x3584 .bf16) (h4 : a4.IsWhole)
  (a5 : Memref sig .tc .vmem S1x1024x3584 .bf16) (h5 : a5.IsWhole) (a6 : Memref sig .tc .vmem S1x3584x1024 .bf16) (h6 : a6.IsWhole)
  (a7 : Memref sig .tc .vmem S512x1024 .f32) (h7 : a7.IsWhole)
  (T0 : S152.Idx → Elt Ideal .i32) (T1 : S1.Idx → Elt Ideal .i32) (x : Rows Ideal) (w1 w3 : In Ideal) (w2 : Out Ideal)

set_option maxHeartbeats 4000000 in
theorem used_pieces (g1 : k0_cond1 i (used T1) = 1#1) (g2 : ¬ k0_cond2 i (used T1) = 1#1) :
    (usedRun (F := Ideal) c i a3 h3 a4 h4 a5 h5 a6 h6 a7 h7 T0 T1 x w1 w3 w2 g1 g2).1
      = [⟨Rect.unit (s := S512x1024) ![0, 0] S512x1024.size inb_S512x1024_S512x1024_0_0,
          back (stores (rowsAt a3 x) (inAt a4 w1) (inAt a5 w3) (outAt a6 w2) 6 (by decide))⟩] := by
  unfold usedRun; dsimp only
  sl_kernel_rfl

theorem rest_pieces (g1 : ¬ k0_cond1 i (used T1) = 1#1) (g2 : k0_cond2 i (used T1) = 1#1) :
    (restRun (F := Ideal) c i a3 h3 a4 h4 a5 h5 a6 h6 a7 h7 T0 T1 x w1 w3 w2 g1 g2).1
      = [⟨Rect.unit (s := S512x1024) ![0, 0] S512x1024.size inb_S512x1024_S512x1024_0_0, k0_pay2 (F := Ideal)⟩] := by
  unfold restRun; dsimp only
  sl_kernel_rfl

theorem rowsAt_eq (b : Memref sig .tc .vmem S512x1024 .f32) (x : Rows Ideal) : rowsAt b x = x :=
  View.readAt_rep_full b.view x _

/-- The result's block after a used tile. -/
theorem used_out (g1 : k0_cond1 i (used T1) = 1#1) (g2 : ¬ k0_cond2 i (used T1) = 1#1) :
    stg.read (Elt Ideal) (stg.writes (Elt Ideal) stg.junk (usedRun (F := Ideal) c i a3 h3 a4 h4 a5 h5 a6 h6 a7 h7 T0 T1 x w1 w3 w2 g1 g2).1)
      = back (stores x (inAt a4 w1) (inAt a5 w3) (outAt a6 w2) 6 (by decide)) := by
  rw [View.read_writes_eq_canon _ _ _ (used_cover c i a3 h3 a4 h4 a5 h5 a6 h6 a7 h7 T0 T1 x w1 w3 w2 g1 g2), used_pieces, rowsAt_eq]
  exact View.canon_unit_zero (by funext a; fin_cases a <;> rfl) _ _

/-- The result's block after an unused tile. -/
theorem rest_out (g1 : ¬ k0_cond1 i (used T1) = 1#1) (g2 : k0_cond2 i (used T1) = 1#1) :
    stg.read (Elt Ideal) (stg.writes (Elt Ideal) stg.junk (restRun (F := Ideal) c i a3 h3 a4 h4 a5 h5 a6 h6 a7 h7 T0 T1 x w1 w3 w2 g1 g2).1)
      = k0_pay2 (F := Ideal) := by
  rw [View.read_writes_eq_canon _ _ _ (rest_cover c i a3 h3 a4 h4 a5 h5 a6 h6 a7 h7 T0 T1 x w1 w3 w2 g1 g2), rest_pieces]
  exact View.canon_unit_zero (by funext a; fin_cases a <;> rfl) _ _

end

/-! ## What a point writes -/

section
variable (a : (pcfg0 (F := Ideal)).Adm) (m : (ℓ : Loc nD τ sig) → Buf (Elt Ideal) ℓ) (ρ : Dev nD → PrngReg)
open Cert.Proof.ExpertsFrame

theorem written_used (c : Dev nD) (t : Fin (cfgA a).N) (h : k0_cond1 (crd a t) (used (T1 a)) = 1#1) :
    ∃ (a4 a5 : Memref sig .tc .vmem S1x1024x3584 .bf16) (a6 : Memref sig .tc .vmem S1x3584x1024 .bf16), written a m ρ c t
      = back (stores (iblk a m ρ c 0 t) (inAt a4 (iblk a m ρ c 1 t)) (inAt a5 (iblk a m ρ c 2 t)) (outAt a6 (iblk a m ρ c 3 t)) 6 (by decide)) := by
  refine ⟨spec0_1.stage (sl a t 1), spec0_2.stage (sl a t 2), spec0_3.stage (sl a t 3), ?_⟩
  unfold written
  rw [dif_pos h]
  exact used_out c _ _ _ _ _ _ _ _ _ _ _ _ _ _ _ _ _ h _

theorem written_rest (c : Dev nD) (t : Fin (cfgA a).N) (h : ¬ k0_cond1 (crd a t) (used (T1 a)) = 1#1) :
    written a m ρ c t = k0_pay2 (F := Ideal) := by
  unfold written
  rw [dif_neg h]
  exact rest_out c _ _ _ _ _ _ _ _ _ _ _ _ _ _ _ _ _ h _

end

end Cert.Proof.ExpertsBody
end
-- ==== Proof.ExpertsValue.lean ====
module

public import proofs.«01_k».proof.Proof.ExpertsBody
public import proofs.«01_k».proof.Proof.Swiglu
public import Idealize.ShloMosaic.Lib.Pointwise
public import Idealize.ShloMosaic.Lib.IdealHost
public import Idealize.ShloMosaic.Lib.Pipeline.ValueKit

/-! What the experts' kernel leaves in its result array: each row of a used tile through the gated feed-forward block
of the tile's expert, and zeros in the rows of the other tiles. -/

@[expose] public section

set_option maxRecDepth 16384

noncomputable section

namespace Cert.Proof.ExpertsValue

open Cert.ExpertsIdeal Cert.ExpertsIdeal.Gen Cert.Proof.ExpertsRun Cert.Proof.ExpertsFrame Cert.Proof.ExpertsBody Cert.Proof.Swiglu
open Idealize.ShloMosaic Idealize.ShloMosaic.TcCoe Idealize.ShloMosaic.Tactic Idealize.SL.Sem

/-- The hidden units of one chunk. -/
abbrev hid (a b : FVec Ideal S512x512 .f32) : FVec Ideal S512x512 .bf16 :=
  truncf .bf16 (mulf (mulf a (divf (broadcast S512x512 (Scalar.ofBits (F := Ideal) .f32 0x3F800000#32))
    (addf (broadcast S512x512 (Scalar.ofBits (F := Ideal) .f32 0x3F800000#32)) (exp (subf k0_pay7 a))))) b) bitsLt_bf16_f32

theorem hid_apply (a b : FVec Ideal S512x512 .f32) (r u : Fin 512) : hid a b (ix2 r u) = gate (a (ix2 r u)) (b (ix2 r u)) := by
  unfold gate hid
  pointwise [k0_pay7]
  simp only [Ideal.ofBits_zero_f32, Ideal.ofBits_one_f32, zero_add, zero_sub]

theorem proj_apply (x : Rows Ideal) (w : InC) (r u : Fin 512) :
    k0_pay5 x w (ix2 r u) = proj (fun k => x (ix2 r k)) (fun k => w (ix3 0 k u)) := by
  unfold proj
  pointwise [k0_pay5, k0_pay3]

/-- What one chunk of hidden units adds. -/
abbrev adds (x : Rows Ideal) (w1 w3 : InC) (w2 : OutC) : FVec Ideal S512x1024 .f32 :=
  matmul (φ₁ := .bf16) (φ₂ := .bf16) dot_S512x512_S512x1024_S512x1024_1_0_0_1_n_n none (hid (k0_pay5 x w1) (k0_pay5 x w3))
    (shapeCast S512x1024 w2 shapeCasts_S1x512x1024_S512x1024) (constant S512x1024 .f32 0x00000000#32)

theorem adds_apply (x : Rows Ideal) (w1 w3 : InC) (w2 : OutC) (r : Fin 512) (d : Fin 1024) :
    adds x w1 w3 w2 (ix2 r d) = ∑ u : Fin 512,
      gate (proj (fun k => x (ix2 r k)) (fun k => w1 (ix3 0 k u))) (proj (fun k => x (ix2 r k)) (fun k => w3 (ix3 0 k u))) * w2 (ix3 0 u d) := by
  simp only [← proj_apply, ← hid_apply]
  unfold adds
  generalize hid (k0_pay5 x w1) (k0_pay5 x w3) = y
  pointwise []

theorem first_apply (x : Rows Ideal) (w1 w3 : InC) (w2 : OutC) (r : Fin 512) (d : Fin 1024) :
    k0_pay4 x w1 w3 w2 (ix2 r d) = adds x w1 w3 w2 (ix2 r d) := by
  show shapeCast S512x1024 (adds x w1 w3 w2) shapeCasts_S512x1024_S512x1024 (ix2 r d) = _
  generalize adds x w1 w3 w2 = y
  pointwise []

theorem next_apply (x : Rows Ideal) (w1 w3 : InC) (w2 : OutC) (a : Rows Ideal) (r : Fin 512) (d : Fin 1024) :
    next x w1 w3 w2 a (ix2 r d) = a (ix2 r d) + adds x w1 w3 w2 (ix2 r d) := by
  show shapeCast S512x1024 (addf (F := Ideal) (φ := .f32) a (adds x w1 w3 w2)) shapeCasts_S512x1024_S512x1024 (ix2 r d) = _
  generalize adds x w1 w3 w2 = y
  pointwise []

/-- A row of the point's block through the feed-forward block, and its chunks. -/
abbrev row (x : Rows Ideal) (r : Fin 512) : Fin 1024 → EReal := fun k => x (ix2 r k)
abbrev cols (w : In Ideal) : Fin (512 * 7) → Fin 1024 → EReal := fun u k => w (ix3 0 k u)
abbrev col (w : Out Ideal) (d : Fin 1024) : Fin (512 * 7) → EReal := fun u => w (ix3 0 u d)

theorem inAt_apply (b : Memref sig .tc .vmem S1x1024x3584 .bf16) (w : In Ideal) (j : Fin 7) (k : Fin 1024) (u : Fin 512) :
    inAt b w j (ix3 0 k u) = w (ix3 0 k (Swiglu.unit j u)) := by
  unfold inAt
  rw [View.readAt_rep]
  refine congrArg w (funext fun a => Fin.ext ?_)
  match a with
  | ⟨0, _⟩ => rfl
  | ⟨1, _⟩ => exact (Nat.zero_add _).trans (Nat.one_mul _)
  | ⟨2, _⟩ => exact congrArg (512 * j.val + ·) (Nat.one_mul _)
theorem outAt_apply (b : Memref sig .tc .vmem S1x3584x1024 .bf16) (w : Out Ideal) (j : Fin 7) (u : Fin 512) (d : Fin 1024) :
    outAt b w j (ix3 0 u d) = w (ix3 0 (Swiglu.unit j u) d) := by
  unfold outAt
  rw [View.readAt_rep]
  refine congrArg w (funext fun a => Fin.ext ?_)
  match a with
  | ⟨0, _⟩ => rfl
  | ⟨1, _⟩ => exact congrArg (512 * j.val + ·) (Nat.one_mul _)
  | ⟨2, _⟩ => exact (Nat.zero_add _).trans (Nat.one_mul _)

theorem back_cons (v : Rows Ideal) (L : List (View.Piece (Elt Ideal) S512x1024 .f32)) :
    back (⟨Rect.unit (s := S512x1024) ![0, 0] S512x1024.size inb_S512x1024_S512x1024_0_0, v⟩ :: L) = v := by
  unfold back
  exact View.readCov_full (s := S512x1024) (off := ![0, 0]) (off' := ![0, 0]) acc.view inb_S512x1024_S512x1024_0_0
    inb_S512x1024_S512x1024_0_0 v L

section
variable (b1 b3 : Memref sig .tc .vmem S1x1024x3584 .bf16) (b2 : Memref sig .tc .vmem S1x3584x1024 .bf16)
  (x : Rows Ideal) (w1 w3 : In Ideal) (w2 : Out Ideal) (r : Fin 512) (d : Fin 1024)

theorem chunk_apply (j : Fin 7) : adds x (inAt b1 w1 j) (inAt b3 w3 j) (outAt b2 w2 j) (ix2 r d)
    = part (row x r) (cols w1) (cols w3) (col w2 d) j := by
  rw [adds_apply]
  unfold part
  simp only [inAt_apply, outAt_apply]

/-- The accumulator after chunk `n` holds the sum of the chunks up to it. -/
theorem acc_apply : ∀ (n : Nat) (hn : n < 7), back (stores x (inAt b1 w1) (inAt b3 w3) (outAt b2 w2) n hn) (ix2 r d)
      = ∑ j : Fin (n + 1), part (row x r) (cols w1) (cols w3) (col w2 d) ⟨j.val, by omega⟩
  | 0, hn => by
    unfold stores
    rw [back_cons, first_apply, chunk_apply, Fin.sum_univ_one]
    rfl
  | n + 1, hn => by
    unfold stores
    rw [back_cons, next_apply, chunk_apply, acc_apply n]
    exact (Fin.sum_univ_castSucc (n := n + 1) fun j =>
      part (row x r) (cols w1) (cols w3) (col w2 d) ⟨j.val, by omega⟩).symm

/-- One number of the block a point with a used tile stores. -/
theorem point_apply : back (stores x (inAt b1 w1) (inAt b3 w3) (outAt b2 w2) 6 (by decide)) (ix2 r d)
    = block (row x r) (cols w1) (cols w3) (col w2 d) := by
  rw [acc_apply, block_eq_sum]

end

/-- The expert a word names. -/
def named (v : BitVec 32) : Fin 8 := ⟨v.toNat % 8, Nat.mod_lt _ (by decide)⟩

abbrev Tokens := S77824x1024.Idx → EReal
abbrev Ins := S8x1024x3584.Idx → EReal
abbrev Outs := S8x3584x1024.Idx → EReal

/-- The tile of a row. -/
def tileOf (r : Fin 77824) : Fin 152 := ⟨r.val / 512, by omega⟩

/-- The whole result as a function of the arguments: `e` names every tile's expert and `v` is the number of used tiles. -/
def result (e : S152.Idx → BitVec 32) (v : BitVec 32) (x : Tokens) (w1 w3 : Ins) (w2 : Outs) : Tokens := fun i =>
  if (BitVec.ofNat 32 (tileOf (i 0)).val).slt v then
    block (fun k => x (ix2 (i 0) k)) (fun (u : Fin 3584) k => w1 (ix3 (named (e (ix1 (tileOf (i 0))))) k u))
      (fun u k => w3 (ix3 (named (e (ix1 (tileOf (i 0))))) k u)) (fun u => w2 (ix3 (named (e (ix1 (tileOf (i 0))))) u (i 1)))
  else 0

/-! ## The windows' blocks -/

/-- A used tile's rows are the point's own. -/
theorem clamp_eq (n : ℕ) (hn : n < 152) (v : BitVec 32) (h : (BitVec.ofNat 32 n).slt v = true) :
    (Scalar.minsi (BitVec.ofNat 32 n) (Scalar.subi (Scalar.maxsi v 1#32) 1#32)).toNat = n := by
  have hd : ∀ w : BitVec 32, Scalar.minsi (BitVec.ofNat 32 n) w = if (BitVec.ofNat 32 n).slt w then BitVec.ofNat 32 n else w := fun _ => rfl
  have hm : Scalar.subi (Scalar.maxsi v 1#32) 1#32 = (if (1#32).slt v then v else 1#32) - 1#32 := rfl
  have hN : (BitVec.ofNat 32 n).toNat = n := by rw [BitVec.toNat_ofNat]; omega
  have hI : (BitVec.ofNat 32 n).toInt = n := by rw [BitVec.toInt_eq_toNat_cond, hN]; split <;> omega
  have hv := v.isLt
  rw [BitVec.slt_eq_decide, decide_eq_true_eq, hI, BitVec.toInt_eq_toNat_cond] at h
  have hs : v.toNat < 2147483648 ∧ n < v.toNat := by split at h <;> omega
  have hV : v.toInt = v.toNat := by rw [BitVec.toInt_eq_toNat_cond]; split <;> omega
  rw [hd, hm]
  by_cases h1 : (1#32).slt v = true
  · rw [if_pos h1]
    split
    · exact hN
    · rename_i g
      have hS : (v - 1#32).toNat = v.toNat - 1 := by rw [BitVec.toNat_sub, show (1#32).toNat = 1 from rfl]; omega
      rw [BitVec.slt_eq_decide, decide_eq_true_eq, hI, BitVec.toInt_eq_toNat_cond, hS] at g
      rw [hS]
      split at g <;> omega
  · rw [if_neg h1]
    rw [BitVec.slt_eq_decide, decide_eq_true_eq, hV, show (1#32).toInt = 1 from rfl] at h1
    split
    · exact hN
    · show 0 = n
      omega

variable (a : (pcfg0 (F := Ideal)).Adm) (m : (ℓ : Loc nD τ sig) → Buf (Elt Ideal) ℓ) (ρ : Dev nD → PrngReg)

abbrev argX (c : Dev nD) : Tokens := m ((c : Thread nD τ).loc main_arg2)
abbrev argW1 (c : Dev nD) : Ins := m ((c : Thread nD τ).loc main_arg3)
abbrev argW3 (c : Dev nD) : Ins := m ((c : Thread nD τ).loc main_arg4)
abbrev argW2 (c : Dev nD) : Outs := m ((c : Thread nD τ).loc main_arg5)

theorem crd_val : ∀ t : Fin (cfgA a).N, (crd a t 0).val = t.val :=
  (by decide +kernel : ∀ t : Fin grid0.N, (grid0.coords t 0).val = t.val)

/-- The expert the index maps read is the tile's. -/
theorem expert_eq (t : Fin (cfgA a).N) (n : Fin 152) (h : n.val = t.val) : expert a.1 (crd a t) = T0 a (ix1 n) := by
  refine congrArg (T0 a) (funext fun b => Fin.ext ?_)
  match b with
  | ⟨0, _⟩ =>
    have hc := crd_val a t
    have ht : t.val < 152 := t.isLt
    show (BitVec.ofNat 32 (crd a t 0).val).toNat + 1 * 0 = n.val
    rw [BitVec.toNat_ofNat, hc, h]
    omega

theorem index0 (t : Fin (cfgA a).N) : ((cfgA a).win (0 : Fin 5)).index t = ![(rowBlock a.1 (crd a t)).toNat, 0] := pos0 a.1 _
theorem index1 (t : Fin (cfgA a).N) : ((cfgA a).win (1 : Fin 5)).index t = ![(expert a.1 (crd a t)).toNat, 0, 0] := pos1 a.1 _
theorem index2 (t : Fin (cfgA a).N) : ((cfgA a).win (2 : Fin 5)).index t = ![(expert a.1 (crd a t)).toNat, 0, 0] := pos2 a.1 _
theorem index3 (t : Fin (cfgA a).N) : ((cfgA a).win (3 : Fin 5)).index t = ![(expert a.1 (crd a t)).toNat, 0, 0] := pos3 a.1 _
theorem index4 : ∀ t : Fin (cfgA a).N, ((cfgA a).win (4 : Fin 5)).index t = ![t.val, 0] := fun t => by
  have hc := crd_val a t
  have ht : t.val < 152 := t.isLt
  show ![(BitVec.ofNat 32 (crd a t 0).val).toNat, 0] = ![t.val, 0]
  rw [BitVec.toNat_ofNat, hc]
  congr 1
  omega

theorem covers4 : ((cfgA a).win (4 : Fin 5)).Covers := of_decide_eq_true (by sl_kernel_rfl)

/-- A coordinate of an array inside a block at position zero, and at position `t`. -/
theorem at_zero {n s u : ℕ} (h : n = 0) : n * s + u = u := by rw [h, Nat.zero_mul, Nat.zero_add]
theorem at_pos {n t s u : ℕ} (h : n = t) : n * s + u = s * t + u := by rw [h, Nat.mul_comm]

/-- The number of used tiles. -/
abbrev count : BitVec 32 := T1 a (ix1 0)

theorem count_eq : used (T1 a) = count a := congrArg (T1 a) (only_idx _ _)
theorem count_at : a.1.at 1 (Rect.unit (s := S1) ![0] S1.size inb_S1_S1_0) numel1_S1 = count a := congrArg (T1 a) (only_idx _ _)

theorem used_iff (t : Fin (cfgA a).N) : k0_cond1 (crd a t) (used (T1 a)) = 1#1 ↔ (BitVec.ofNat 32 t.val).slt (count a) = true := by
  rw [cond1_eq, count_eq, crd_val]
  cases (BitVec.ofNat 32 t.val).slt (count a) <;> decide

theorem rowBlock_eq (t : Fin (cfgA a).N) (h : (BitVec.ofNat 32 t.val).slt (count a) = true) : (rowBlock a.1 (crd a t)).toNat = t.val := by
  unfold rowBlock
  rw [count_at, crd_val]
  exact clamp_eq t.val t.isLt _ h

/-- A used tile's rows. -/
theorem rows_eq (c : Dev nD) (t : Fin (cfgA a).N) (h : (BitVec.ofNat 32 t.val).slt (count a) = true) (n : Fin 152) (hn : n.val = t.val)
    (r : Fin 512) (k : Fin 1024) : iblk a m ρ c (0 : Fin 5) t (ix2 r k) = argX m c (ix2 ⟨512 * n.val + r.val, by omega⟩ k) := by
  unfold iblk
  rw [View.read_apply]
  refine congrArg (argX m c) ((eq_ix2 _).trans ?_)
  have i0 : ((cfgA a).win (0 : Fin 5)).index t (0 : Fin 2) = n.val := (congrFun (index0 a t) 0).trans ((rowBlock_eq a t h).trans hn.symm)
  have i1 : ((cfgA a).win (0 : Fin 5)).index t (1 : Fin 2) = 0 := congrFun (index0 a t) 1
  refine congr (congrArg ix2 (Fin.ext ?_)) (Fin.ext ?_) <;> blk_simp
  · exact at_pos i0
  · exact at_zero i1

theorem w1_eq (c : Dev nD) (t : Fin (cfgA a).N) (e : Fin 8) (he : (expert a.1 (crd a t)).toNat = e.val) (k : Fin 1024) (u : Fin 3584) :
    iblk a m ρ c (1 : Fin 5) t (ix3 0 k u) = argW1 m c (ix3 e k u) := by
  unfold iblk
  rw [View.read_apply]
  refine congrArg (argW1 m c) (funext fun b => Fin.ext ?_)
  have i0 : ((cfgA a).win (1 : Fin 5)).index t (0 : Fin 3) = e.val := (congrFun (index1 a t) 0).trans he
  have i1 : ((cfgA a).win (1 : Fin 5)).index t (1 : Fin 3) = 0 := congrFun (index1 a t) 1
  have i2 : ((cfgA a).win (1 : Fin 5)).index t (2 : Fin 3) = 0 := congrFun (index1 a t) 2
  match b with
  | ⟨0, _⟩ => blk_simp; exact i0
  | ⟨1, _⟩ => blk_simp; exact at_zero i1
  | ⟨2, _⟩ => blk_simp; exact at_zero i2
theorem w3_eq (c : Dev nD) (t : Fin (cfgA a).N) (e : Fin 8) (he : (expert a.1 (crd a t)).toNat = e.val) (k : Fin 1024) (u : Fin 3584) :
    iblk a m ρ c (2 : Fin 5) t (ix3 0 k u) = argW3 m c (ix3 e k u) := by
  unfold iblk
  rw [View.read_apply]
  refine congrArg (argW3 m c) (funext fun b => Fin.ext ?_)
  have i0 : ((cfgA a).win (2 : Fin 5)).index t (0 : Fin 3) = e.val := (congrFun (index2 a t) 0).trans he
  have i1 : ((cfgA a).win (2 : Fin 5)).index t (1 : Fin 3) = 0 := congrFun (index2 a t) 1
  have i2 : ((cfgA a).win (2 : Fin 5)).index t (2 : Fin 3) = 0 := congrFun (index2 a t) 2
  match b with
  | ⟨0, _⟩ => blk_simp; exact i0
  | ⟨1, _⟩ => blk_simp; exact at_zero i1
  | ⟨2, _⟩ => blk_simp; exact at_zero i2
theorem w2_eq (c : Dev nD) (t : Fin (cfgA a).N) (e : Fin 8) (he : (expert a.1 (crd a t)).toNat = e.val) (u : Fin 3584) (d : Fin 1024) :
    iblk a m ρ c (3 : Fin 5) t (ix3 0 u d) = argW2 m c (ix3 e u d) := by
  unfold iblk
  rw [View.read_apply]
  refine congrArg (argW2 m c) (funext fun b => Fin.ext ?_)
  have i0 : ((cfgA a).win (3 : Fin 5)).index t (0 : Fin 3) = e.val := (congrFun (index3 a t) 0).trans he
  have i1 : ((cfgA a).win (3 : Fin 5)).index t (1 : Fin 3) = 0 := congrFun (index3 a t) 1
  have i2 : ((cfgA a).win (3 : Fin 5)).index t (2 : Fin 3) = 0 := congrFun (index3 a t) 2
  match b with
  | ⟨0, _⟩ => blk_simp; exact i0
  | ⟨1, _⟩ => blk_simp; exact at_zero i1
  | ⟨2, _⟩ => blk_simp; exact at_zero i2

/-- What a point writes is its part of the result, if the tables name experts among the eight. -/
theorem written_apply (he : ∀ j : S152.Idx, ((T0 a : S152.Idx → BitVec 32) j).toNat < 8) (c : Dev nD) (t : Fin (cfgA a).N) (n : Fin 152)
    (hn : n.val = t.val) (r : Fin 512) (d : Fin 1024) :
    written a m ρ c t (ix2 r d)
      = result (T0 a) (count a) (argX m c) (argW1 m c) (argW3 m c) (argW2 m c) (ix2 ⟨512 * n.val + r.val, by omega⟩ d) := by
  have ht : tileOf ⟨512 * n.val + r.val, by omega⟩ = n := Fin.ext (by show (512 * n.val + r.val) / 512 = n.val; omega)
  show _ = if (BitVec.ofNat 32 (tileOf ⟨512 * n.val + r.val, _⟩).val).slt (count a) then
      block (fun k => argX m c (ix2 ⟨512 * n.val + r.val, _⟩ k))
        (fun (u : Fin 3584) k => argW1 m c (ix3 (named (T0 a (ix1 (tileOf ⟨512 * n.val + r.val, _⟩)))) k u))
        (fun u k => argW3 m c (ix3 (named (T0 a (ix1 (tileOf ⟨512 * n.val + r.val, _⟩)))) k u))
        (fun u => argW2 m c (ix3 (named (T0 a (ix1 (tileOf ⟨512 * n.val + r.val, _⟩)))) u d))
    else 0
  rw [ht]
  by_cases h : (BitVec.ofNat 32 n.val).slt (count a) = true
  · have h' : (BitVec.ofNat 32 t.val).slt (count a) = true := hn ▸ h
    obtain ⟨b1, b3, b2, e⟩ := written_used a m ρ c t ((used_iff a t).2 h')
    have hx : (expert a.1 (crd a t)).toNat = (named (T0 a (ix1 n))).val := by
      rw [expert_eq a t n hn]
      exact (Nat.mod_eq_of_lt (he _)).symm
    rw [e, if_pos h]
    refine (point_apply b1 b3 b2 _ _ _ _ r d).trans ?_
    unfold row cols col
    simp only [rows_eq a m ρ c t h' n hn, w1_eq a m ρ c t _ hx, w3_eq a m ρ c t _ hx, w2_eq a m ρ c t _ hx]
  · rw [if_neg h, written_rest a m ρ c t fun g => h (hn ▸ (used_iff a t).1 g)]
    exact Ideal.ofBits_zero_f32

/-- The kernel's result. -/
theorem final (he : ∀ j : S152.Idx, ((T0 a : S152.Idx → BitVec 32) j).toNat < 8) (c : Dev nD) :
    (dats a m ρ 0 c).arrAt (4 : Fin 5) (cfgA a).N = result (T0 a) (count a) (argX m c) (argW1 m c) (argW3 m c) (argW2 m c) := by
  refine (dats a m ρ 0 c).arrAt_eq_of_covers (4 : Fin 5) _ (covers4 a) fun t hf y => ?_
  obtain ⟨r, d, hy⟩ : ∃ r d, ((cfgA a).win (4 : Fin 5)).xinj (crd a t) y = ix2 (n0 := 512) (n1 := 1024) r d := ⟨_, _, eq_ix2 _⟩
  refine (congrArg (written a m ρ c t) hy).trans ((written_apply a m ρ he c t ⟨t.val, t.isLt⟩ rfl r d).trans ?_)
  refine congrArg (result (T0 a) (count a) (argX m c) (argW1 m c) (argW3 m c) (argW2 m c)) (funext fun b => Fin.ext ?_)
  have h0 : (y (0 : Fin 2)).val = r.val := congrArg (fun f => (f (0 : Fin 2)).val) hy
  have h1 : (y (1 : Fin 2)).val = d.val := congrArg (fun f => (f (1 : Fin 2)).val) hy
  have i0 : ((cfgA a).win (4 : Fin 5)).index t (0 : Fin 2) = t.val := congrFun (index4 a t) 0
  have i1 : ((cfgA a).win (4 : Fin 5)).index t (1 : Fin 2) = 0 := congrFun (index4 a t) 1
  match b with
  | ⟨0, _⟩ => blk_simp; exact (congrArg (512 * t.val + ·) h0.symm).trans (at_pos i0).symm
  | ⟨1, _⟩ => blk_simp; exact h1.symm.trans (at_zero i1).symm

end Cert.Proof.ExpertsValue
end
-- ==== Proof.ExpertsRef.lean ====
module

public import proofs.«01_k».proof.Proof.ExpertsValue
public import proofs.«01_k».proof.Proof.Gen.RefExpertsIdeal.Read

/-! The experts' reference, read one number at a time: the same function of the arguments as the kernel's, if the table
of experts names experts among the eight. -/

@[expose] public section

noncomputable section

namespace Cert.Proof.ExpertsRef

open Cert.RefExpertsIdeal Cert.RefExpertsIdeal.Gen Cert.RefExpertsIdeal.Read Cert.Proof.Swiglu Cert.Proof.ExpertsValue Idealize.ShloMosaic

abbrev Names := (⟨S152, .i32⟩ : BufTy).Contents (Elt Ideal)
abbrev Used := (⟨S1, .i32⟩ : BufTy).Contents (Elt Ideal)
abbrev Rows := (⟨S77824x1024, .f32⟩ : BufTy).Contents (Elt Ideal)
abbrev In := (⟨S8x1024x3584, .bf16⟩ : BufTy).Contents (Elt Ideal)
abbrev Out := (⟨S8x3584x1024, .bf16⟩ : BufTy).Contents (Elt Ideal)

/-- The dimension numbers of one matrix out of eight for every tile. -/
abbrev pickDims (A B : Nat) (wf : GatherDims.WF ⟨3, ![8, A, B]⟩ ⟨2, ![152, 1]⟩ ⟨3, ![152, A, B]⟩ [1, 2] [0] [] [0] [] 1 ![1, A, B]) :
    GatherDims ⟨3, ![8, A, B]⟩ ⟨2, ![152, 1]⟩ ⟨3, ![152, A, B]⟩ where
  offsetDims := [1, 2]
  collapsedSliceDims := [0]
  operandBatchingDims := []
  startIndicesBatchingDims := []
  startIndexMap := [0]
  indexVectorDim := 1
  sliceSizes := ![1, A, B]
  wf := wf

/-- Tile `t` gets the matrix its start index names. -/
theorem pick_apply {A B : Nat} (wf : GatherDims.WF ⟨3, ![8, A, B]⟩ ⟨2, ![152, 1]⟩ ⟨3, ![152, A, B]⟩ [1, 2] [0] [] [0] [] 1 ![1, A, B])
    (w : (⟨3, ![8, A, B]⟩ : Shape).Idx → EReal) (idx : IVec ⟨2, ![152, 1]⟩ 32) (t : Fin 152) (p : Fin A) (q : Fin B) (e : Fin 8)
    (h : (idx (ix2 t 0)).toInt.toNat = e.val) : Host.gather (pickDims A B wf) w idx (ix3 t p q) = w (ix3 e p q) := by
  unfold Host.gather
  refine congrArg w (funext fun a => Fin.ext ?_)
  show (pickDims A B wf).start (ix3 t p q) idx a + (pickDims A B wf).batchCoord (ix3 t p q) a + (pickDims A B wf).offCoord (ix3 t p q) a = _
  rw [GatherDims.batchCoord_eq_zero _ _ _ List.not_mem_nil]
  have ha : a = (0 : Fin 3) ∨ a = (1 : Fin 3) ∨ a = (2 : Fin 3) := match a with
    | ⟨0, _⟩ => .inl rfl
    | ⟨1, _⟩ => .inr (.inl rfl)
    | ⟨2, _⟩ => .inr (.inr rfl)
  rcases ha with rfl | rfl | rfl
  · rw [GatherDims.offCoord_eq_zero _ _ _ (fun g => ((GatherDims.mem_sKept _ _).mp g).1 (List.mem_singleton.mpr rfl))]
    unfold GatherDims.start
    rw [dif_pos (show (0 : Fin 3) ∈ (pickDims A B wf).startIndexMap from List.mem_singleton.mpr rfl)]
    have hs : (pickDims A B wf).siIdx (ix3 t p q) ⟨List.idxOf (0 : Fin 3) (pickDims A B wf).startIndexMap,
        List.idxOf_lt_length_iff.2 (List.mem_singleton.mpr rfl)⟩ = ix2 t 0 :=
      funext fun b => Fin.ext (match b with | ⟨0, _⟩ => rfl | ⟨1, _⟩ => rfl)
    rw [hs, h]
    show min e.val 7 + 0 + 0 = e.val
    omega
  · unfold GatherDims.start
    rw [dif_neg (show ¬ (1 : Fin 3) ∈ (pickDims A B wf).startIndexMap from (by decide : ¬ (1 : Fin 3) ∈ [(0 : Fin 3)]))]
    unfold GatherDims.offCoord
    rw [dif_pos (show (1 : Fin 3) ∈ (pickDims A B wf).sKept from (by decide : (1 : Fin 3) ∈ [(1 : Fin 3), 2]))]
    exact Nat.zero_add _
  · unfold GatherDims.start
    rw [dif_neg (show ¬ (2 : Fin 3) ∈ (pickDims A B wf).startIndexMap from (by decide : ¬ (2 : Fin 3) ∈ [(0 : Fin 3)]))]
    unfold GatherDims.offCoord
    rw [dif_pos (show (2 : Fin 3) ∈ (pickDims A B wf).sKept from (by decide : (2 : Fin 3) ∈ [(1 : Fin 3), 2]))]
    exact Nat.zero_add _

/-- A word below eight is not negative, and its signed value is its unsigned one. -/
theorem plain (v : BitVec 32) (h : v.toNat < 8) : IntOp.cmpi .slt v 0#32 = 0#1 ∧ v.toInt.toNat = (named v).val := by
  have hI : v.toInt = v.toNat := by rw [BitVec.toInt_eq_toNat_cond]; split <;> omega
  constructor
  · show BitVec.ofBool (v.slt 0#32) = 0#1
    rw [BitVec.slt_eq_decide, hI, show (0#32).toInt = 0 from rfl, decide_eq_false (by omega)]
    rfl
  · rw [hI]
    exact (Nat.mod_eq_of_lt h).symm

section
variable (e : Names) (he : ∀ j : S152.Idx, ((e : S152.Idx → BitVec 32) j).toNat < 8)
include he

theorem start7 (t : Fin 152) : val_main_v6 (F := Ideal) e (ix2 t 0) = e (ix1 t) := by
  have hi : idx_main_v6 (ix2 t 0) = ix1 t := funext fun a => match a with | ⟨0, _⟩ => rfl
  rw [val_main_v6_apply, hi, val_main_v5_apply, val_main_v2_apply, val_main_v1_apply, val_main_c_apply, (plain _ (he (ix1 t))).1]
  rfl
theorem start14 (t : Fin 152) : val_main_v13 (F := Ideal) e (ix2 t 0) = e (ix1 t) := by
  have hi : idx_main_v13 (ix2 t 0) = ix1 t := funext fun a => match a with | ⟨0, _⟩ => rfl
  rw [val_main_v13_apply, hi, val_main_v12_apply, val_main_v9_apply, val_main_v8_apply, val_main_c_1_apply, (plain _ (he (ix1 t))).1]
  rfl
theorem start21 (t : Fin 152) : val_main_v20 (F := Ideal) e (ix2 t 0) = e (ix1 t) := by
  have hi : idx_main_v20 (ix2 t 0) = ix1 t := funext fun a => match a with | ⟨0, _⟩ => rfl
  rw [val_main_v20_apply, hi, val_main_v19_apply, val_main_v16_apply, val_main_v15_apply, val_main_c_3_apply, (plain _ (he (ix1 t))).1]
  rfl

theorem w1_apply (w : In) (t : Fin 152) (k : Fin 1024) (u : Fin 3584) :
    val_main_v22 (F := Ideal) e w (ix3 t k u) = w (ix3 (named (e (ix1 t))) k u) := by
  rw [val_main_v22_apply, Ideal.extf_def]
  exact pick_apply _ w _ t k u _ ((congrArg (fun v : BitVec 32 => v.toInt.toNat) (start7 e he t)).trans (plain _ (he (ix1 t))).2)
theorem w3_apply (w : In) (t : Fin 152) (k : Fin 1024) (u : Fin 3584) :
    val_main_v23 (F := Ideal) e w (ix3 t k u) = w (ix3 (named (e (ix1 t))) k u) := by
  rw [val_main_v23_apply, Ideal.extf_def]
  exact pick_apply _ w _ t k u _ ((congrArg (fun v : BitVec 32 => v.toInt.toNat) (start14 e he t)).trans (plain _ (he (ix1 t))).2)
theorem w2_apply (w : Out) (t : Fin 152) (u : Fin 3584) (d : Fin 1024) :
    val_main_v24 (F := Ideal) e w (ix3 t u d) = w (ix3 (named (e (ix1 t))) u d) := by
  rw [val_main_v24_apply, Ideal.extf_def]
  exact pick_apply _ w _ t u d _ ((congrArg (fun v : BitVec 32 => v.toInt.toNat) (start21 e he t)).trans (plain _ (he (ix1 t))).2)

/-- The rows tile by tile. -/
theorem rows_apply (x : Rows) (t : Fin 152) (r : Fin 512) (k : Fin 1024) (R : Fin 77824) (hR : R.val = 512 * t.val + r.val) :
    val_main_v0 (F := Ideal) x (ix3 t r k) = x (ix2 R k) := by
  rw [val_main_v0_apply]
  refine congrArg x (funext fun a => Fin.ext ?_)
  match a with
  | ⟨0, _⟩ => show ((t.val * 512 + r.val) * 1024 + k.val) / 1024 = R.val; omega
  | ⟨1, _⟩ => show ((t.val * 512 + r.val) * 1024 + k.val) % 1024 = k.val; omega

/-- The reference's hidden units. -/
theorem hidden_apply (x : Rows) (w1 w3 : In) (t : Fin 152) (r : Fin 512) (u : Fin 3584) (R : Fin 77824) (hR : R.val = 512 * t.val + r.val) :
    val_main_v28 (F := Ideal) e x w1 w3 (ix3 t r u)
      = gate (proj (fun k => x (ix2 R k)) (fun k => w1 (ix3 (named (e (ix1 t))) k u)))
          (proj (fun k => x (ix2 R k)) (fun k => w3 (ix3 (named (e (ix1 t))) k u))) := by
  have hl (k : Fin 1024) : lidx_main_v25 (ix3 t r u) k = ix3 t r k := funext fun a => match a with | ⟨0, _⟩ => rfl | ⟨1, _⟩ => rfl | ⟨2, _⟩ => rfl
  have hr (k : Fin 1024) : ridx_main_v25 (ix3 t r u) k = ix3 t k u := funext fun a => match a with | ⟨0, _⟩ => rfl | ⟨1, _⟩ => rfl | ⟨2, _⟩ => rfl
  have hl' (k : Fin 1024) : lidx_main_v27 (ix3 t r u) k = ix3 t r k := funext fun a => match a with | ⟨0, _⟩ => rfl | ⟨1, _⟩ => rfl | ⟨2, _⟩ => rfl
  have hr' (k : Fin 1024) : ridx_main_v27 (ix3 t r u) k = ix3 t k u := funext fun a => match a with | ⟨0, _⟩ => rfl | ⟨1, _⟩ => rfl | ⟨2, _⟩ => rfl
  rw [val_main_v28_apply, val_main_v26_apply, val_main_v27_apply, val_main_call0_v5_apply, val_main_call0_v4_apply,
    val_main_call0_cst_0_apply, val_main_call0_v3_apply, val_main_call0_v2_apply, val_main_call0_cst_apply,
    val_main_call0_v1_apply, val_main_call0_v0_apply, val_main_v25_apply]
  unfold gate proj
  simp only [hl, hr, hl', hr', w1_apply e he, w3_apply e he, rows_apply e he x t r _ R hR]
  simp only [Ideal.mulf_def, Ideal.addf_def, Ideal.hostDivf_def, Ideal.hostUnary_exp_def, Ideal.hostNegf_def, Ideal.ofBits_def, Ideal.ofBits_one_f32]
  rfl

/-- The reference's result is the kernel's function of the arguments. -/
theorem result_eq (v : Used) (x : Rows) (w1 w3 : In) (w2 : Out) :
    val_main_v36 (F := Ideal) e v x w1 w3 w2 = ExpertsValue.result e (v (ix1 0)) x w1 w3 w2 := by
  funext i
  obtain ⟨R, d, rfl⟩ : ∃ R d, i = ix2 (n0 := 77824) (n1 := 1024) R d := ⟨_, _, eq_ix2 i⟩
  have hi : idx_main_v36 (ix2 R d) = ix3 (tileOf R) ⟨R.val % 512, Nat.mod_lt _ (by decide)⟩ d := by
    funext a
    refine Fin.ext ?_
    match a with
    | ⟨0, _⟩ => show (R.val * 1024 + d.val) / 524288 = R.val / 512; omega
    | ⟨1, _⟩ => show (R.val * 1024 + d.val) / 1024 % 512 = R.val % 512; omega
    | ⟨2, _⟩ => show (R.val * 1024 + d.val) % 1024 = d.val; omega
  have hR : R.val = 512 * (tileOf R).val + (⟨R.val % 512, Nat.mod_lt _ (by decide)⟩ : Fin 512).val := (Nat.div_add_mod _ _).symm
  rw [val_main_v36_apply, hi]
  generalize (⟨R.val % 512, Nat.mod_lt _ (by decide)⟩ : Fin 512) = r at hR
  have hl (u : Fin 3584) : lidx_main_v29 (ix3 (tileOf R) r d) u = ix3 (tileOf R) r u :=
    funext fun a => match a with | ⟨0, _⟩ => rfl | ⟨1, _⟩ => rfl | ⟨2, _⟩ => rfl
  have hr (u : Fin 3584) : ridx_main_v29 (ix3 (tileOf R) r d) u = ix3 (tileOf R) u d :=
    funext fun a => match a with | ⟨0, _⟩ => rfl | ⟨1, _⟩ => rfl | ⟨2, _⟩ => rfl
  have hm : idx_main_v34 (idx_main_call1_v1 (ix3 (tileOf R) r d)) = ix1 (tileOf R) := funext fun a => match a with | ⟨0, _⟩ => rfl
  have hv : val_main_v31 (F := Ideal) v (idx_main_v32 (ix1 (tileOf R))) = v (ix1 0) := congrArg v (ExpertsFrame.only_idx _ _)
  rw [val_main_v35_apply, val_main_call1_v1_apply, val_main_v34_apply, hm, val_main_v33_apply, val_main_v30_apply, val_main_v32_apply, hv,
    val_main_v29_apply, val_main_call1_v2_apply, val_main_call1_v0_apply, val_main_cst_apply, Ideal.ofBits_def, Ideal.ofBits_zero_f32]
  simp only [hl, hr, hidden_apply e he x w1 w3 (tileOf R) r _ R hR, w2_apply e he]
  have hc : IntOp.cmpi .slt (BitVec.ofNat 32 (tileOf R).val) (v (ix1 0)) = BitVec.ofBool ((BitVec.ofNat 32 (tileOf R).val).slt (v (ix1 0))) := rfl
  show Scalar.select (IntOp.cmpi .slt (BitVec.ofNat 32 (tileOf R).val) (v (ix1 0))) _ 0
    = if (BitVec.ofNat 32 (tileOf R).val).slt (v (ix1 0)) then
      block (fun k => x (ix2 R k)) (fun (u : Fin 3584) k => w1 (ix3 (named (e (ix1 (tileOf R)))) k u))
        (fun u k => w3 (ix3 (named (e (ix1 (tileOf R)))) k u)) (fun u => w2 (ix3 (named (e (ix1 (tileOf R)))) u d))
      else 0
  rw [hc]
  unfold block
  cases (BitVec.ofNat 32 (tileOf R).val).slt (v (ix1 0)) <;> rfl

end

end Cert.Proof.ExpertsRef
end
-- ==== Proof.ExpertsPre.lean ====
module

public import proofs.«01_k».proof.Proof.ExpertsFrame
public import proofs.«01_k».proof.Proof.Gen.Experts.Launch
public import proofs.«01_k».proof.Proof.Gen.Pre_experts_exist
public import Idealize.ShloMosaic.Lib.Pointwise

/-! What the experts' precondition says of the table of experts, and the frame of the kernel under it, for either
arithmetic. -/

@[expose] public section

set_option maxRecDepth 16384

noncomputable section

namespace Cert.Proof.ExpertsPre

open Idealize.ShloMosaic Idealize.ShloMosaic.TcCoe Idealize.ShloMosaic.Tactic Idealize.SL.Sem

section
open Cert.Pre_experts_exist

/-- Every tile's expert is one of the eight. -/
theorem named_of_pre [Facts] {F : FTy → Type} [FloatOps F] (e : IVec S152 32) (v : IVec S1 32) (x : FVec F S77824x1024 .f32)
    (w1 w3 : FVec F S8x1024x3584 .bf16) (w2 : FVec F S8x3584x1024 .bf16)
    (h : (fn (F := F) e v x w1 w3 w2).1 = (fun _ => 1#1) ∧ (fn (F := F) e v x w1 w3 w2).2 = (fun _ => 1#1)) (j : S152.Idx) :
    ((e : S152.Idx → BitVec 32) j).toNat < 8 := by
  have h1 : BitVec.ofBool ((0#32).sle (e j)) = 1#1 := congrFun h.1 j
  have h2 : BitVec.ofBool ((e j).slt 8#32) = 1#1 := congrFun h.2 j
  have g1 : (0#32).sle (e j) = true := by cases hb : (0#32).sle (e j) <;> simp_all
  have g2 : (e j).slt 8#32 = true := by cases hb : (e j).slt 8#32 <;> simp_all
  rw [BitVec.sle_eq_decide, decide_eq_true_eq, show (0#32).toInt = 0 from rfl, BitVec.toInt_eq_toNat_cond] at g1
  rw [BitVec.slt_eq_decide, decide_eq_true_eq, show (8#32).toInt = 8 from rfl, BitVec.toInt_eq_toNat_cond] at g2
  split at g1 <;> rename_i q
  · rw [if_pos q] at g2
    omega
  · have := (e j).isLt
    omega

end

section
open Cert.ExpertsIdeal Cert.ExpertsIdeal.Gen Cert.Proof.ExpertsFrame
variable {F : FTy → Type} [FloatOps F]

/-- If every tile's expert is one of the eight, the kernel runs to its end, leaves its arguments as they were and its
    counters at zero. -/
theorem frame (m : (ℓ : Loc nD τ sig) → Buf (Elt F) ℓ) (ρ : Dev nD → PrngReg)
    (h : ∀ j : S152.Idx, ((m (((0 : Dev nD) : Thread nD τ).loc main_arg0) : S152.Idx → BitVec 32) j).toNat < 8) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun _ g => ⟨fun c => unchanged (tablesOf m h) m ρ (tablesOf_spec m h) g.1 c, g.2⟩)
    (run (tablesOf m h) m ρ (tablesOf_spec m h))

end

/-! The printed program is the same in the two names it has. -/

section
attribute [local instance] Cert.Experts.Gen.facts Cert.ExpertsIdeal.Gen.facts

theorem main_same : Cert.Experts.main (F := Bits) = Cert.ExpertsIdeal.main (F := Bits) := by sl_kernel_rfl
theorem defs_same : Cert.Experts.defs (F := Bits) = Cert.ExpertsIdeal.defs (F := Bits) := by sl_kernel_rfl

open Cert.Experts in
/-- The frame of the kernel as it computes. -/
theorem frame_bits (m : (ℓ : Loc nD τ sig) → Buf (Elt Bits) ℓ) (ρ : Dev nD → PrngReg)
    (h : ∀ j : S152.Idx, ((m (((0 : Dev nD) : Thread nD τ).loc main_arg0) : S152.Idx → BitVec 32) j).toNat < 8) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  rw [main_same, defs_same]
  exact frame (F := Bits) m ρ h

end

end Cert.Proof.ExpertsPre
end
-- ==== Proof.InprojBody.lean ====
module

public import proofs.«01_k».proof.Proof.Gen.InprojIdeal.Value
public import Idealize.ShloMosaic.Lib.VecWindow
public import Idealize.ShloMosaic.PureOps.Ideal

/-! What one grid point of the input projection stores: forty-one pieces of the block of results, from the rows as the
three groups see them. -/

@[expose] public section

set_option maxRecDepth 16384

noncomputable section

namespace Cert.Proof.InprojBody

open Cert.InprojIdeal Cert.InprojIdeal.Gen Idealize.ShloMosaic Idealize.ShloMosaic.TcCoe Idealize.ShloMosaic.Tactic Idealize.SL.Sem

/-- A tile of 256 rows of the layer's input. -/
abbrev Rows := Vec Ideal S256x1024 .f32
/-- The gains of the first norm. -/
abbrev Gain := Vec Ideal S1x1024 .f32
/-- The projection's weights. -/
abbrev Wts := Vec Ideal S1024x10240 .bf16
/-- The two permutation matrices. -/
abbrev Perm := Vec Ideal S2x256x256 .bf16
/-- A tile of a rotation table of the attention, one per group. -/
abbrev Tab3 := Vec Ideal S3x256x128 .f32
/-- A tile of a rotation table of the retention. -/
abbrev Tab := Vec Ideal S256x128 .f32
/-- A tile of normalised rows as one group holds it. -/
abbrev Slot := Vec Ideal S1x256x1024 .bf16
/-- A tile of one chunk of 512 projected columns. -/
abbrev Acc := FVec Ideal S256x512 .f32
/-- A tile of one head of 128 columns. -/
abbrev Head := FVec Ideal S256x128 .f32

/-- The weights' column chunks lie within the weights. -/
theorem inb_w : ∀ (j : Fin 20) (a : Fin 2), (![0, 512 * j.val] : Fin 2 → Nat) a + S1024x512.size a ≤ S1024x10240.size a := by decide
/-- The chunks of 512 columns lie within the result's block. -/
theorem inb_o : ∀ (j : Fin 20) (a : Fin 2), (![0, 512 * j.val] : Fin 2 → Nat) a + S256x512.size a ≤ S256x10240.size a := by decide
/-- The heads of 128 columns lie within the result's block. -/
theorem inb_oh : ∀ (j : Fin 20) (u : Fin 4) (a : Fin 2), (![0, 512 * j.val + 128 * u.val] : Fin 2 → Nat) a + S256x128.size a ≤ S256x10240.size a := by decide
/-- Each group's slot lies within the scratch. -/
theorem inb_h : ∀ (g : Fin 3) (a : Fin 3), (![g.val, 0, 0] : Fin 3 → Nat) a + S1x256x1024.size a ≤ S3x256x1024.size a := by decide
/-- Each group's table lies within the tables. -/
theorem inb_t : ∀ (g : Fin 3) (a : Fin 3), (![g.val, 0, 0] : Fin 3 → Nat) a + S1x256x128.size a ≤ S3x256x128.size a := by decide
/-- Each permutation matrix lies within the two. -/
theorem inb_p : ∀ (k : Fin 2) (a : Fin 3), (![k.val, 0, 0] : Fin 3 → Nat) a + S1x256x256.size a ≤ S2x256x256.size a := by decide
/-- The four heads lie within a chunk. -/
theorem slices_u : ∀ u : Fin 4, S256x512.Slices ![0, 128 * u.val] S256x128
  | 0 => slices_S256x512_o0_0_S256x128
  | 1 => slices_S256x512_o0_128_S256x128
  | 2 => slices_S256x512_o0_256_S256x128
  | 3 => slices_S256x512_o0_384_S256x128

/-- Columns `512 j` to `512 j + 511` of the weights. -/
def wCols (w : Wts) (j : Fin 20) : Vec Ideal S1024x512 .bf16 :=
  View.ld w (Rect.unit (s := S1024x10240) ![0, 512 * j.val] S1024x512.size (inb_w j))
/-- A group's table. -/
def tabOf (t : Tab3) (g : Fin 3) : Vec Ideal S1x256x128 .f32 :=
  View.ld t (Rect.unit (s := S3x256x128) ![g.val, 0, 0] S1x256x128.size (inb_t g))
/-- A group's reordering of the rows. -/
def permOf (p : Perm) (k : Fin 2) : Vec Ideal S1x256x256 .bf16 :=
  View.ld p (Rect.unit (s := S2x256x256) ![k.val, 0, 0] S1x256x256.size (inb_p k))
/-- The rows as a group sees them, read back from the buffer that holds all three. -/
def slot (L : List (View.Piece (Elt Ideal) S3x256x1024 .bf16)) (g : Fin 3) : Slot :=
  scM0_0.view.readCov L (Rect.unit (s := S3x256x1024) ![g.val, 0, 0] S1x256x1024.size (inb_h g)).toLoadRect

/-- The rows against a chunk of the weights. -/
def mm (h : Slot) (w : Vec Ideal S1024x512 .bf16) : Acc :=
  matmul (φ₁ := .bf16) (φ₂ := .bf16) dot_S256x1024_S1024x512_S256x512_1_0_0_1_n_n none
    (shapeCast (α := Ideal .bf16) S256x1024 h shapeCasts_S1x256x1024_S256x1024 : FVec Ideal S256x1024 .bf16) w (constant S256x512 .f32 0x00000000#32)
/-- One of the four heads of a chunk. -/
def cut (y : Acc) (u : Fin 4) : Head := extractStridedSlice S256x128 ![0, 128 * u.val] y (slices_u u)

/-- The bits of 1/√128. -/
def half : BitVec 32 := 0x3DB504F3#32
/-- The bits of 1. -/
def one : BitVec 32 := 0x3F800000#32
/-- The bits of 1/8. -/
def eighth : BitVec 32 := 0x3E000000#32

/-- A head of queries or keys: normalised, rotated and scaled. -/
def head (y : Head) (g : Vec Ideal S1x128 .f32) (c s : Vec Ideal S1x256x128 .f32) (b : BitVec 32) : FVec Ideal S256x128 .bf16 :=
  have n : Head := mulf (mulf y (broadcastTo S256x128 (rsqrt (addf (divf (shapeCast S256x1
      (multiReduction .add [1] S256 (mulf y y) 0x00000000#32 reduces_S256x128_S256 (.inl rfl) rfl : FVec Ideal S256 .f32) shapeCasts_S256_S256x1 : FVec Ideal S256x1 .f32)
      (broadcast S256x1 (Scalar.ofBits .f32 0x43000000#32 : Ideal .f32))) (broadcast S256x1 (Scalar.ofBits .f32 0x358637BD#32 : Ideal .f32)))) broadcasts_S256x1_S256x128))
    (broadcastTo S256x128 g broadcasts_S1x128_S256x128)
  truncf .bf16 (mulf (addf (mulf n (shapeCast S256x128 c shapeCasts_S1x256x128_S256x128))
    (mulf (dynamicRotate 1 64#32 none n rotates_S256x128_d1) (shapeCast S256x128 s shapeCasts_S1x256x128_S256x128)))
    (broadcast S256x128 (Scalar.ofBits .f32 b : Ideal .f32))) bitsLt_bf16_f32

/-- Two heads of 64 side by side, rotated and scaled. -/
def pair (y : Head) (c s : Tab) (b : BitVec 32) : FVec Ideal S256x128 .bf16 :=
  truncf .bf16 (mulf (addf (mulf y (shapeCast S256x128 c shapeCasts_S256x128_S256x128))
    (mulf (select k0_pay72 (dynamicRotate 1 96#32 none y rotates_S256x128_d1) (dynamicRotate 1 32#32 none y rotates_S256x128_d1))
      (shapeCast S256x128 s shapeCasts_S256x128_S256x128)))
    (broadcast S256x128 (Scalar.ofBits .f32 b : Ideal .f32))) bitsLt_bf16_f32

/-- A store into the result's block. -/
abbrev OPiece := View.Piece (Elt Ideal) S256x10240 .bf16

/-- A piece of 512 columns and a piece of 128 columns. -/
def wide (j : Fin 20) (v : FVec Ideal S256x512 .bf16) : OPiece := ⟨Rect.unit (s := S256x10240) ![0, 512 * j.val] S256x512.size (inb_o j), v⟩
/-- A store of one head of a chunk. -/
def narrow (j : Fin 20) (u : Fin 4) (v : FVec Ideal S256x128 .bf16) : OPiece :=
  ⟨Rect.unit (s := S256x10240) ![0, 512 * j.val + 128 * u.val] S256x128.size (inb_oh j u), v⟩

/-- The columns of the group's queries, keys, values. -/
def qj (g : Fin 3) : Fin 20 := ⟨2 + g.val, by omega⟩
/-- The chunk that holds a group's keys. -/
def kj (g : Fin 3) : Fin 20 := ⟨5 + g.val, by omega⟩
/-- The chunk that holds a group's values. -/
def vj (g : Fin 3) : Fin 20 := ⟨8 + g.val, by omega⟩
/-- The chunks that hold the branch gates. -/
def gj (n : Fin 6) : Fin 20 := ⟨14 + n.val, by omega⟩

section

variable (L : List (View.Piece (Elt Ideal) S3x256x1024 .bf16)) (w : Wts) (x5 x6 : Tab3) (x7 x8 : Tab) (x9 : Vec Ideal S1x512 .f32) (x10 x11 : Vec Ideal S1x128 .f32)

/-- The tables and gains read whole. -/
abbrev wTab (x : Tab) : Tab := View.ld x (Rect.unit (s := S256x128) ![0, 0] S256x128.size inb_S256x128_S256x128_0_0)
/-- The gains of the gated values, as the body reads them. -/
abbrev wNvg : Vec Ideal S1x512 .f32 := View.ld x9 (Rect.unit (s := S1x512) ![0, 0] S1x512.size inb_S1x512_S1x512_0_0)
/-- The gains of the queries' or keys' heads, as the body reads them. -/
abbrev wGain (x : Vec Ideal S1x128 .f32) : Vec Ideal S1x128 .f32 := View.ld x (Rect.unit (s := S1x128) ![0, 0] S1x128.size inb_S1x128_S1x128_0_0)

/-- A chunk of projected columns, from the rows as a group sees them. -/
def acc (g : Fin 3) (j : Fin 20) : Acc := mm (slot L g) (wCols w j)
/-- The store of one head of a group's queries. -/
def qPiece (g : Fin 3) (u : Fin 4) : OPiece := narrow (qj g) u (head (cut (acc L w g (qj g)) u) (wGain x10) (tabOf x5 g) (tabOf x6 g) half)
/-- The store of one head of a group's keys. -/
def kPiece (g : Fin 3) (u : Fin 4) : OPiece := narrow (kj g) u (head (cut (acc L w g (kj g)) u) (wGain x11) (tabOf x5 g) (tabOf x6 g) one)
/-- The store of a group's values. -/
def vPiece (g : Fin 3) : OPiece := wide (vj g) (truncf .bf16 (acc L w g (vj g)) bitsLt_bf16_f32)
/-- The store of two heads of the retention's queries or keys. -/
def rPiece (u : Fin 4) (b : BitVec 32) : OPiece := narrow 11 u (pair (cut (acc L w 0 11) u) (wTab x7) (wTab x8) b)
/-- The store of a chunk of the branch gates. -/
def gPiece (n : Fin 6) : OPiece := wide (gj n) (k0_pay84 (slot L 0) (wCols w (gj n)))

/-- The stores of a point, the last first. -/
def pieces : List OPiece :=
  [gPiece L w 5, gPiece L w 4, gPiece L w 3, gPiece L w 2, gPiece L w 1, gPiece L w 0,
   wide 13 (k0_pay83 (acc L w 0 13) (k0_pay82 (slot L 0) (wCols w 13))),
   wide 12 (truncf .bf16 (acc L w 0 12) bitsLt_bf16_f32),
   rPiece L w x7 x8 3 eighth, rPiece L w x7 x8 2 eighth, rPiece L w x7 x8 1 one, rPiece L w x7 x8 0 one,
   vPiece L w 2, vPiece L w 1, vPiece L w 0,
   kPiece L w x5 x6 x11 2 3, kPiece L w x5 x6 x11 2 2, kPiece L w x5 x6 x11 2 1, kPiece L w x5 x6 x11 2 0,
   kPiece L w x5 x6 x11 1 3, kPiece L w x5 x6 x11 1 2, kPiece L w x5 x6 x11 1 1, kPiece L w x5 x6 x11 1 0,
   kPiece L w x5 x6 x11 0 3, kPiece L w x5 x6 x11 0 2, kPiece L w x5 x6 x11 0 1, kPiece L w x5 x6 x11 0 0,
   qPiece L w x5 x6 x10 2 3, qPiece L w x5 x6 x10 2 2, qPiece L w x5 x6 x10 2 1, qPiece L w x5 x6 x10 2 0,
   qPiece L w x5 x6 x10 1 3, qPiece L w x5 x6 x10 1 2, qPiece L w x5 x6 x10 1 1, qPiece L w x5 x6 x10 1 0,
   qPiece L w x5 x6 x10 0 3, qPiece L w x5 x6 x10 0 2, qPiece L w x5 x6 x10 0 1, qPiece L w x5 x6 x10 0 0,
   wide 1 (k0_pay10 (slot L 0) (wCols w 1) (wNvg x9)),
   wide 0 (k0_pay9 (acc L w 0 0) k0_pay8)]

end

/-- A store into the scratch. -/
abbrev HPiece := View.Piece (Elt Ideal) S3x256x1024 .bf16
/-- The store of a group's normalised rows into its slot. -/
def hold (g : Fin 3) (v : Slot) : HPiece := ⟨Rect.unit (s := S3x256x1024) ![g.val, 0, 0] S1x256x1024.size (inb_h g), v⟩

/-- The rows, as the body reads them. -/
abbrev wRows (x : Rows) : Rows := View.ld x (Rect.unit (s := S256x1024) ![0, 0] S256x1024.size inb_S256x1024_S256x1024_0_0)
/-- The gains of the first norm, as the body reads them. -/
abbrev wG1 (x : Gain) : Gain := View.ld x (Rect.unit (s := S1x1024) ![0, 0] S1x1024.size inb_S1x1024_S1x1024_0_0)

/-- The rows of a point as the groups see them: reordered in the prompt, as they are in the last point. -/
def heldA (i : grid0.Coords) (xa xb : Rows) (g1 : Gain) (p : Perm) : List HPiece :=
  [hold 2 (k0_pay4 i (wRows xa) (wRows xb) (wG1 g1) (permOf p 1)), hold 1 (k0_pay3 i (wRows xa) (wRows xb) (wG1 g1) (permOf p 0)),
   hold 0 (k0_pay2 i (wRows xa) (wRows xb) (wG1 g1))]
/-- The stores into the scratch at the last tile: all groups hold the plain rows. -/
def heldB (i : grid0.Coords) (xa xb : Rows) (g1 : Gain) : List HPiece :=
  [hold 2 (k0_pay2 i (wRows xa) (wRows xb) (wG1 g1)), hold 1 (k0_pay2 i (wRows xa) (wRows xb) (wG1 g1)),
   hold 0 (k0_pay2 i (wRows xa) (wRows xb) (wG1 g1))]

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x10240 .bf16) (harg4 : arg4.IsWhole) (arg5 : Memref sig .tc .vmem S2x256x256 .bf16) (harg5 : arg5.IsWhole) (arg6 : Memref sig .tc .vmem S3x256x128 .f32) (harg6 : arg6.IsWhole) (arg7 : Memref sig .tc .vmem S3x256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x10240 .bf16) (harg13 : arg13.IsWhole)
  (x0 x1 : Rows) (x2 : Gain) (x3 : Wts) (x4 : Perm) (x5 x6 : Tab3) (x7 x8 : Tab) (x9 : Vec Ideal S1x512 .f32) (x10 x11 : Vec Ideal S1x128 .f32)

set_option maxHeartbeats 4000000 in
/-- At a prompt tile the body leaves the stores of `pieces` over the scratch with reordered rows. -/
theorem run_out_A (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 scM0_0 (Memref.isWhole_whole _) hc0 hc1 x0 x1 x2 x3 x4 x5 x6 x7 x8 x9 x10 x11).1
      = pieces (heldA i (View.read (Elt Ideal) arg1.view (harg1.unread x0)) (View.read (Elt Ideal) arg2.view (harg2.unread x1)) (View.read (Elt Ideal) arg3.view (harg3.unread x2)) (View.read (Elt Ideal) arg5.view (harg5.unread x4)))
          (View.read (Elt Ideal) arg4.view (harg4.unread x3)) (View.read (Elt Ideal) arg6.view (harg6.unread x5)) (View.read (Elt Ideal) arg7.view (harg7.unread x6))
          (View.read (Elt Ideal) arg8.view (harg8.unread x7)) (View.read (Elt Ideal) arg9.view (harg9.unread x8)) (View.read (Elt Ideal) arg10.view (harg10.unread x9))
          (View.read (Elt Ideal) arg11.view (harg11.unread x10)) (View.read (Elt Ideal) arg12.view (harg12.unread x11)) := by
  unfold kernelRun0_A; dsimp only
  sl_kernel_rfl

set_option maxHeartbeats 4000000 in
/-- At the last tile the body leaves the stores of `pieces` over the scratch with plain rows. -/
theorem run_out_B (hc0 : ¬cond0_0 i) (hc1 : cond0_1 i) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 scM0_0 (Memref.isWhole_whole _) hc0 hc1 x0 x1 x2 x3 x4 x5 x6 x7 x8 x9 x10 x11).1
      = pieces (heldB i (View.read (Elt Ideal) arg1.view (harg1.unread x0)) (View.read (Elt Ideal) arg2.view (harg2.unread x1)) (View.read (Elt Ideal) arg3.view (harg3.unread x2)))
          (View.read (Elt Ideal) arg4.view (harg4.unread x3)) (View.read (Elt Ideal) arg6.view (harg6.unread x5)) (View.read (Elt Ideal) arg7.view (harg7.unread x6))
          (View.read (Elt Ideal) arg8.view (harg8.unread x7)) (View.read (Elt Ideal) arg9.view (harg9.unread x8)) (View.read (Elt Ideal) arg10.view (harg10.unread x9))
          (View.read (Elt Ideal) arg11.view (harg11.unread x10)) (View.read (Elt Ideal) arg12.view (harg12.unread x11)) := by
  unfold kernelRun0_B; dsimp only
  sl_kernel_rfl

/-- What a point leaves in the result's block agrees with a function that all its pieces agree with. -/
theorem out_A_eq (hc0 : cond0_0 i) (hc1 : ¬cond0_1 i) (G : S256x10240.Idx → EReal)
    (hG : ∀ p ∈ pieces (heldA i x0 x1 x2 x4) x3 x5 x6 x7 x8 x9 x10 x11, ∀ x : p.1.shape.Idx, p.2 x = G (p.1.emb x)) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 scM0_0 (Memref.isWhole_whole _) hc0 hc1 x0 x1 x2 x3 x4 x5 x6 x7 x8 x9 x10 x11 = G := by
  funext y
  have hcov := cover0_A_12 (F := Ideal) c i arg1 harg1 arg2 harg2 arg3 harg3 arg4 harg4 arg5 harg5 arg6 harg6 arg7 harg7 arg8 harg8 arg9 harg9 arg10 harg10 arg11 harg11 arg12 harg12 arg13 harg13 scM0_0 (Memref.isWhole_whole _) hc0 hc1 x0 x1 x2 x3 x4 x5 x6 x7 x8 x9 x10 x11
  unfold out0_A_12
  rw [View.read_writes_eq_canon _ _ _ hcov]
  rw [run_out_A] at hcov ⊢
  simp only [harg1.read_unread, harg2.read_unread, harg3.read_unread, harg4.read_unread, harg5.read_unread, harg6.read_unread,
    harg7.read_unread, harg8.read_unread, harg9.read_unread, harg10.read_unread, harg11.read_unread, harg12.read_unread] at hcov ⊢
  exact View.canon_apply_of_pieces G _ hG y (hcov y)

/-- At the last tile the result's block is any array that every one of the stores agrees with. -/
theorem out_B_eq (hc0 : ¬cond0_0 i) (hc1 : cond0_1 i) (G : S256x10240.Idx → EReal)
    (hG : ∀ p ∈ pieces (heldB i x0 x1 x2) x3 x5 x6 x7 x8 x9 x10 x11, ∀ x : p.1.shape.Idx, p.2 x = G (p.1.emb x)) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 scM0_0 (Memref.isWhole_whole _) hc0 hc1 x0 x1 x2 x3 x4 x5 x6 x7 x8 x9 x10 x11 = G := by
  funext y
  have hcov := cover0_B_12 (F := Ideal) c i arg1 harg1 arg2 harg2 arg3 harg3 arg4 harg4 arg5 harg5 arg6 harg6 arg7 harg7 arg8 harg8 arg9 harg9 arg10 harg10 arg11 harg11 arg12 harg12 arg13 harg13 scM0_0 (Memref.isWhole_whole _) hc0 hc1 x0 x1 x2 x3 x4 x5 x6 x7 x8 x9 x10 x11
  unfold out0_B_12
  rw [View.read_writes_eq_canon _ _ _ hcov]
  rw [run_out_B] at hcov ⊢
  simp only [harg1.read_unread, harg2.read_unread, harg3.read_unread, harg4.read_unread, harg5.read_unread, harg6.read_unread,
    harg7.read_unread, harg8.read_unread, harg9.read_unread, harg10.read_unread, harg11.read_unread, harg12.read_unread] at hcov ⊢
  exact View.canon_apply_of_pieces G _ hG y (hcov y)

end Cert.Proof.InprojBody
end
-- ==== Proof.InprojMath.lean ====
module

public import proofs.«01_k».proof.Proof.Swiglu

/-! One row of the input projection, over the extended reals: the ten parts of the projected row, each with its own
activation, norm or rotation. -/

@[expose] public section

noncomputable section

namespace Cert.Proof.Inproj

open Idealize.ShloMosaic Cert.Proof.Swiglu

/-- The exact gelu, by the error function. -/
def gelu (y : EReal) : EReal :=
  Ideal.ofBits .f32 0x3F000000#32 * y * (1 + Ideal.erf (y * Ideal.ofBits .f32 0x3F3504F3#32))

/-- The logistic function. -/
def logi (y : EReal) : EReal := Ideal.div 1 (1 + Ideal.exp (-y))

/-- The root-mean-square scale of a row of `n` numbers, `b` the bits of `n` as a float. -/
@[irreducible] def rscale {n : Nat} (b : BitVec 32) (y : Fin n → EReal) : EReal :=
  Ideal.rsqrt (Ideal.div (∑ k, y k * y k) (Ideal.ofBits .f32 b) + Ideal.ofBits .f32 0x358637BD#32)

/-- The normalised row times its gains. -/
def rnorm {n : Nat} (b : BitVec 32) (y g : Fin n → EReal) (k : Fin n) : EReal := y k * rscale b y * g k

/-- The place that `d` is rotated with, in a head of 128. -/
def across (d : Fin 128) : Fin 128 := ⟨(d.val + 64) % 128, Nat.mod_lt _ (by decide)⟩
/-- The place that `d` is rotated with, in two heads of 64 side by side. -/
def across' (d : Fin 128) : Fin 128 := if d.val % 64 < 32 then ⟨(d.val + 32) % 128, Nat.mod_lt _ (by decide)⟩ else ⟨(d.val + 96) % 128, Nat.mod_lt _ (by decide)⟩

/-- A rotation of a row by tables of cosines and signed sines. -/
def turn (p : Fin 128 → Fin 128) (y c s : Fin 128 → EReal) (d : Fin 128) : EReal := y d * c d + y (p d) * s d

/-- What one row of the projection is computed from: the normalised row as each of the three groups sees it, the
    weights, the gains, and the tables of its position. -/
structure Row where
  h : Fin 3 → Fin 1024 → EReal
  w : Fin 1024 → Fin 10240 → EReal
  nvg : Fin 512 → EReal
  qg : Fin 128 → EReal
  kg : Fin 128 → EReal
  cb : Fin 3 → Fin 128 → EReal
  sb : Fin 3 → Fin 128 → EReal
  cc : Fin 128 → EReal
  sc : Fin 128 → EReal

namespace Row

variable (R : Row)

/-- The projected row of a group, at one column. -/
def P (g : Fin 3) (c : Nat) (hc : c < 10240) : EReal := proj (R.h g) fun k => R.w k ⟨c, hc⟩

/-- The gelu of the first part. -/
def gate (d : Fin 512) : EReal := gelu (R.P 0 d.val (by omega))
/-- The normalised gelu of the second part. -/
def vnorm (d : Fin 512) : EReal := rnorm 0x44000000#32 (fun k : Fin 512 => gelu (R.P 0 (512 + k.val) (by omega))) R.nvg d
/-- A head of a group's queries: normalised, rotated and scaled. -/
def qhead (g : Fin 3) (u : Fin 4) (d : Fin 128) : EReal :=
  turn across (rnorm 0x43000000#32 (fun k : Fin 128 => R.P g (1024 + 512 * g.val + 128 * u.val + k.val) (by omega)) R.qg) (R.cb g) (R.sb g) d
    * Ideal.ofBits .f32 0x3DB504F3#32
/-- A head of a group's keys: normalised and rotated. -/
def khead (g : Fin 3) (u : Fin 4) (d : Fin 128) : EReal :=
  turn across (rnorm 0x43000000#32 (fun k : Fin 128 => R.P g (2560 + 512 * g.val + 128 * u.val + k.val) (by omega)) R.kg) (R.cb g) (R.sb g) d
/-- A group's values. -/
def values (g : Fin 3) (d : Fin 512) : EReal := R.P g (4096 + 512 * g.val + d.val) (by omega)
/-- Two heads of the retention's queries or keys: rotated, the keys scaled by 1/8. -/
def ret (u : Fin 4) (d : Fin 128) : EReal :=
  turn across' (fun k : Fin 128 => R.P 0 (5632 + 128 * u.val + k.val) (by omega)) R.cc R.sc d
    * (if u.val < 2 then 1 else Ideal.ofBits .f32 0x3E000000#32)
/-- The retention's values. -/
def retv (d : Fin 512) : EReal := R.P 0 (6144 + d.val) (by omega)
/-- The silu of the retention's gate. -/
def retg (d : Fin 512) : EReal := R.P 0 (6656 + d.val) (by omega) * logi (R.P 0 (6656 + d.val) (by omega))
/-- The logistic function of the branch gates. -/
def gates (d : Fin 3072) : EReal := logi (R.P 0 (7168 + d.val) (by omega))

/-- The whole row of results. -/
def value (c : Fin 10240) : EReal :=
  if h : c.val < 512 then R.gate ⟨c.val, h⟩
  else if h : c.val < 1024 then R.vnorm ⟨c.val - 512, by omega⟩
  else if h : c.val < 2560 then R.qhead ⟨(c.val - 1024) / 512, by omega⟩ ⟨(c.val - 1024) % 512 / 128, by omega⟩ ⟨(c.val - 1024) % 128, by omega⟩
  else if h : c.val < 4096 then R.khead ⟨(c.val - 2560) / 512, by omega⟩ ⟨(c.val - 2560) % 512 / 128, by omega⟩ ⟨(c.val - 2560) % 128, by omega⟩
  else if h : c.val < 5632 then R.values ⟨(c.val - 4096) / 512, by omega⟩ ⟨(c.val - 4096) % 512, by omega⟩
  else if h : c.val < 6144 then R.ret ⟨(c.val - 5632) / 128, by omega⟩ ⟨(c.val - 5632) % 128, by omega⟩
  else if h : c.val < 6656 then R.retv ⟨c.val - 6144, by omega⟩
  else if h : c.val < 7168 then R.retg ⟨c.val - 6656, by omega⟩
  else R.gates ⟨c.val - 7168, by omega⟩

/-- The first 512 columns are the gelu. -/
theorem value_gate (d : Fin 512) (c : Fin 10240) (e : c.val = d.val) : R.value c = R.gate d := by
  unfold value
  rw [dif_pos (by omega)]
  exact congrArg R.gate (Fin.ext e)
/-- The next 512 columns are the normalised gelu. -/
theorem value_vnorm (d : Fin 512) (c : Fin 10240) (e : c.val = 512 + d.val) : R.value c = R.vnorm d := by
  unfold value
  rw [dif_neg (by omega), dif_pos (by omega)]
  exact congrArg R.vnorm (Fin.ext (by show c.val - 512 = d.val; omega))
/-- The columns of the queries, head by head. -/
theorem value_qhead (g : Fin 3) (u : Fin 4) (d : Fin 128) (c : Fin 10240) (e : c.val = 1024 + 512 * g.val + 128 * u.val + d.val) :
    R.value c = R.qhead g u d := by
  unfold value
  rw [dif_neg (by omega), dif_neg (by omega), dif_pos (by omega)]
  exact congr (congr (congrArg R.qhead (Fin.ext (by show (c.val - 1024) / 512 = g.val; omega)))
    (Fin.ext (by show (c.val - 1024) % 512 / 128 = u.val; omega))) (Fin.ext (by show (c.val - 1024) % 128 = d.val; omega))
/-- The columns of the keys, head by head. -/
theorem value_khead (g : Fin 3) (u : Fin 4) (d : Fin 128) (c : Fin 10240) (e : c.val = 2560 + 512 * g.val + 128 * u.val + d.val) :
    R.value c = R.khead g u d := by
  unfold value
  rw [dif_neg (by omega), dif_neg (by omega), dif_neg (by omega), dif_pos (by omega)]
  exact congr (congr (congrArg R.khead (Fin.ext (by show (c.val - 2560) / 512 = g.val; omega)))
    (Fin.ext (by show (c.val - 2560) % 512 / 128 = u.val; omega))) (Fin.ext (by show (c.val - 2560) % 128 = d.val; omega))
/-- The columns of the values, group by group. -/
theorem value_values (g : Fin 3) (d : Fin 512) (c : Fin 10240) (e : c.val = 4096 + 512 * g.val + d.val) : R.value c = R.values g d := by
  unfold value
  rw [dif_neg (by omega), dif_neg (by omega), dif_neg (by omega), dif_neg (by omega), dif_pos (by omega)]
  exact congr (congrArg R.values (Fin.ext (by show (c.val - 4096) / 512 = g.val; omega))) (Fin.ext (by show (c.val - 4096) % 512 = d.val; omega))
/-- The columns of the retention's queries and keys, two heads at a time. -/
theorem value_ret (u : Fin 4) (d : Fin 128) (c : Fin 10240) (e : c.val = 5632 + 128 * u.val + d.val) : R.value c = R.ret u d := by
  unfold value
  rw [dif_neg (by omega), dif_neg (by omega), dif_neg (by omega), dif_neg (by omega), dif_neg (by omega), dif_pos (by omega)]
  exact congr (congrArg R.ret (Fin.ext (by show (c.val - 5632) / 128 = u.val; omega))) (Fin.ext (by show (c.val - 5632) % 128 = d.val; omega))
/-- The columns of the retention's values. -/
theorem value_retv (d : Fin 512) (c : Fin 10240) (e : c.val = 6144 + d.val) : R.value c = R.retv d := by
  unfold value
  rw [dif_neg (by omega), dif_neg (by omega), dif_neg (by omega), dif_neg (by omega), dif_neg (by omega), dif_neg (by omega), dif_pos (by omega)]
  exact congrArg R.retv (Fin.ext (by show c.val - 6144 = d.val; omega))
/-- The columns of the retention's gate. -/
theorem value_retg (d : Fin 512) (c : Fin 10240) (e : c.val = 6656 + d.val) : R.value c = R.retg d := by
  unfold value
  rw [dif_neg (by omega), dif_neg (by omega), dif_neg (by omega), dif_neg (by omega), dif_neg (by omega), dif_neg (by omega),
    dif_neg (by omega), dif_pos (by omega)]
  exact congrArg R.retg (Fin.ext (by show c.val - 6656 = d.val; omega))
/-- The last 3072 columns are the branch gates. -/
theorem value_gates (d : Fin 3072) (c : Fin 10240) (e : c.val = 7168 + d.val) : R.value c = R.gates d := by
  unfold value
  rw [dif_neg (by omega), dif_neg (by omega), dif_neg (by omega), dif_neg (by omega), dif_neg (by omega), dif_neg (by omega),
    dif_neg (by omega), dif_neg (by omega)]
  exact congrArg R.gates (Fin.ext (by show c.val - 7168 = d.val; omega))

end Row

end Cert.Proof.Inproj

end
-- ==== Proof.InprojPoint.lean ====
module

public import proofs.«01_k».proof.Proof.InprojBody
public import proofs.«01_k».proof.Proof.InprojMath
public import Idealize.ShloMosaic.Lib.Pointwise
public import Idealize.ShloMosaic.Lib.IdealHost
public import Idealize.ShloMosaic.Lib.ValueLayout
public import Idealize.ShloMosaic.Lib.KernelVsHost
public import Idealize.ShloMosaic.Lib.Pipeline.ValueKit

/-! The numbers of the pieces of one block of the projection: each is the row's own part. -/

@[expose] public section

set_option maxRecDepth 16384

noncomputable section

namespace Cert.Proof.InprojPoint

open Cert.InprojIdeal Cert.InprojIdeal.Gen Cert.Proof.InprojBody Cert.Proof.Inproj Cert.Proof.Swiglu Idealize.ShloMosaic
open Idealize.ShloMosaic.TcCoe Idealize.ShloMosaic.Tactic Idealize.SL.Sem

/-- An entry of a chunk is the product of a row with a column. -/
theorem mm_apply (h : Slot) (w : Vec Ideal S1024x512 .bf16) (r : Fin 256) (d : Fin 512) :
    mm h w (ix2 r d) = proj (fun k => h (ix3 0 r k)) (fun k => w (ix2 k d)) := by
  unfold proj mm
  pointwise []

/-- An entry of a head is the chunk's. -/
theorem cut_apply (y : Acc) (u : Fin 4) (r : Fin 256) (d : Fin 128) :
    cut y u (ix2 r d) = y (ix2 r ⟨128 * u.val + d.val, by omega⟩) := by
  unfold cut
  exact extractStridedSlice_apply _ _ _ _ _ fun a => match a with
    | ⟨0, _⟩ => (Nat.zero_add _).symm
    | ⟨1, _⟩ => rfl

/-- An entry of a finished head of queries or keys. -/
theorem head_apply (y : Head) (g : Vec Ideal S1x128 .f32) (c s : Vec Ideal S1x256x128 .f32) (b : BitVec 32) (r : Fin 256) (d : Fin 128) :
    head y g c s b (ix2 r d)
      = turn across (rnorm 0x43000000#32 (fun k => y (ix2 r k)) (fun k => g (ix2 0 k))) (fun k => c (ix3 0 r k)) (fun k => s (ix3 0 r k)) d
        * Ideal.ofBits .f32 b := by
  unfold turn rnorm rscale head
  pointwise []
  have e : (⟨(d.val + 128 - 64) % 128, Nat.mod_lt _ (by decide)⟩ : Fin 128) = across d := Fin.ext (by show (d.val + 128 - 64) % 128 = (d.val + 64) % 128; omega)
  rw [e]

/-- Which of the two rotations a lane of two heads takes. -/
theorem lane : ∀ d : Fin 128, IntOp.cmpi CmpIPredicate.slt (IntOp.andi (BitVec.ofNat 32 d.val) 63#32) 32#32
    = if d.val % 64 < 32 then 1#1 else 0#1 := by decide +kernel

/-- An entry of two finished heads of the retention. -/
theorem pair_apply (y : Head) (c s : Tab) (b : BitVec 32) (r : Fin 256) (d : Fin 128) :
    pair y c s b (ix2 r d)
      = turn across' (fun k => y (ix2 r k)) (fun k => c (ix2 r k)) (fun k => s (ix2 r k)) d * Ideal.ofBits .f32 b := by
  unfold turn pair
  pointwise [k0_pay72]
  rw [lane]
  have e1 : (⟨(d.val + 128 - 96) % 128, Nat.mod_lt _ (by decide)⟩ : Fin 128) = ⟨(d.val + 32) % 128, Nat.mod_lt _ (by decide)⟩ :=
    Fin.ext (by show (d.val + 128 - 96) % 128 = (d.val + 32) % 128; omega)
  have e2 : (⟨(d.val + 128 - 32) % 128, Nat.mod_lt _ (by decide)⟩ : Fin 128) = ⟨(d.val + 96) % 128, Nat.mod_lt _ (by decide)⟩ :=
    Fin.ext (by show (d.val + 128 - 32) % 128 = (d.val + 96) % 128; omega)
  rw [e1, e2]
  unfold across'
  by_cases h : d.val % 64 < 32
  · rw [if_pos h, if_pos h]; rfl
  · rw [if_neg h, if_neg h]; rfl

/-- The body's gelu, entry by entry. -/
theorem gelu_apply (y : Acc) (i : S256x512.Idx) : k0_pay9 y k0_pay8 i = gelu (y i) := by
  unfold gelu
  pointwise [k0_pay9, k0_pay8]
  rfl

/-- The body's normalised gelu, entry by entry. -/
theorem vnorm_apply (h : Slot) (w : Vec Ideal S1024x512 .bf16) (g : Vec Ideal S1x512 .f32) (r : Fin 256) (d : Fin 512) :
    k0_pay10 h w g (ix2 r d) = rnorm 0x44000000#32 (fun k => gelu (proj (fun j => h (ix3 0 r j)) (fun j => w (ix2 j k)))) (fun k => g (ix2 0 k)) d := by
  unfold gelu rnorm rscale proj
  pointwise [k0_pay10]
  rfl

/-- The body's silu, entry by entry. -/
theorem silu_apply (h : Slot) (w : Vec Ideal S1024x512 .bf16) (r : Fin 256) (d : Fin 512) :
    k0_pay83 (mm h w) (k0_pay82 h w) (ix2 r d)
      = proj (fun k => h (ix3 0 r k)) (fun k => w (ix2 k d)) * logi (proj (fun k => h (ix3 0 r k)) (fun k => w (ix2 k d))) := by
  unfold logi proj mm
  pointwise [k0_pay83, k0_pay82, k0_pay81]
  simp only [Ideal.ofBits_zero_f32, Ideal.ofBits_one_f32, zero_sub]

/-- The body's logistic function, entry by entry. -/
theorem logi_apply (h : Slot) (w : Vec Ideal S1024x512 .bf16) (r : Fin 256) (d : Fin 512) :
    k0_pay84 h w (ix2 r d) = logi (proj (fun k => h (ix3 0 r k)) (fun k => w (ix2 k d))) := by
  unfold logi proj
  pointwise [k0_pay84]
  simp only [Ideal.ofBits_zero_f32, Ideal.ofBits_one_f32, zero_sub]

/-- The body's test for a prompt tile. -/
theorem prompt : ∀ n : Fin 129, Scalar.cmpi .slt (BitVec.ofNat 32 n.val) 128#32 = if n.val < 128 then 1#1 else 0#1 := by decide +kernel

/-- The normalised rows of a point: of the prompt, or of the last block. -/
theorem rows_apply (i : grid0.Coords) (xa xb : Rows) (g : Gain) (r : Fin 256) (k : Fin 1024) :
    k0_pay1 i xa xb g (ix2 r k) = normed (fun k => (if (i 0).val < 128 then xa else xb) (ix2 r k)) (fun k => g (ix2 0 k)) k := by
  have e := prompt (i 0)
  unfold k0_pay1
  dsimp only
  rw [e]
  unfold normed scale
  by_cases h : (i 0).val < 128
  · rw [if_pos h]; simp only [if_pos h]
    pointwise []
  · rw [if_neg h]; simp only [if_neg h]
    pointwise []

/-- The second group's rows are the plain rows times the first matrix. -/
theorem perm1_apply (i : grid0.Coords) (xa xb : Rows) (g : Gain) (p : Vec Ideal S1x256x256 .bf16) (r : Fin 256) (k : Fin 1024) :
    k0_pay3 i xa xb g p (ix3 0 r k) = ∑ j : Fin 256, p (ix3 0 r j) * k0_pay1 i xa xb g (ix2 j k) := by
  pointwise [k0_pay3]

/-- The third group's rows are the plain rows times the second matrix. -/
theorem perm2_apply (i : grid0.Coords) (xa xb : Rows) (g : Gain) (p : Vec Ideal S1x256x256 .bf16) (r : Fin 256) (k : Fin 1024) :
    k0_pay4 i xa xb g p (ix3 0 r k) = ∑ j : Fin 256, p (ix3 0 r j) * k0_pay1 i xa xb g (ix2 j k) := by
  pointwise [k0_pay4]

/-- The plain rows are the normalised rows. -/
theorem plain_apply (i : grid0.Coords) (xa xb : Rows) (g : Gain) (r : Fin 256) (k : Fin 1024) :
    k0_pay2 i xa xb g (ix3 0 r k) = k0_pay1 i xa xb g (ix2 r k) := by
  pointwise [k0_pay2]

/-- A group's slot holds the last store into it. -/
theorem slot_cons_same (L : List HPiece) (g : Fin 3) (v : Slot) : slot (hold g v :: L) g = v := by
  unfold slot hold
  exact View.readCov_cons_toLoadRect scM0_0.view (Rect.unit (s := S3x256x1024) ![g.val, 0, 0] S1x256x1024.size (inb_h g)) v L

/-- A store into another group's slot leaves a group's slot. -/
theorem slot_cons_other (L : List HPiece) (g g' : Fin 3) (v : Slot) (hne : g' ≠ g) : slot (hold g' v :: L) g = slot L g := by
  unfold slot hold
  refine View.readCov_cons_of_disjoint _ _ _ _ (Finset.disjoint_left.mpr fun y h1 h2 => hne ?_)
  obtain ⟨a, ha, ea⟩ := (Rect.unit (s := S3x256x1024) ![g'.val, 0, 0] S1x256x1024.size (inb_h g')).mem_set.mp h1 0
  obtain ⟨b, hb, eb⟩ := (Rect.unit (s := S3x256x1024) ![g.val, 0, 0] S1x256x1024.size (inb_h g)).mem_set.mp h2 0
  have ha' : a < 1 := ha
  have hb' : b < 1 := hb
  have ea' : (y 0).val = g'.val + 1 * a := ea
  have eb' : (y 0).val = g.val + 1 * b := eb
  exact Fin.ext (by omega)

section

variable (L : List HPiece) (w : Wts) (x5 x6 : Tab3) (x7 x8 : Tab) (x9 : Vec Ideal S1x512 .f32) (x10 x11 : Vec Ideal S1x128 .f32)

/-- What row `r` of the block is computed from. -/
def rowOf (r : Fin 256) : Row where
  h g k := slot L g (ix3 0 r k)
  w k c := w (ix2 k c)
  nvg d := x9 (ix2 0 d)
  qg d := x10 (ix2 0 d)
  kg d := x11 (ix2 0 d)
  cb g d := x5 (ix3 g r d)
  sb g d := x6 (ix3 g r d)
  cc d := x7 (ix2 r d)
  sc d := x8 (ix2 r d)

/-- A chunk of weights, entry by entry. -/
theorem wCols_apply (j : Fin 20) (k : Fin 1024) (d : Fin 512) : wCols w j (ix2 k d) = w (ix2 k ⟨512 * j.val + d.val, by omega⟩) :=
  View.ld_unit_apply_of _ _ _ _ _ _ fun a => match a with
    | ⟨0, _⟩ => (Nat.zero_add _).symm
    | ⟨1, _⟩ => rfl
/-- A group's table, entry by entry. -/
theorem tabOf_apply (t : Tab3) (g : Fin 3) (r : Fin 256) (d : Fin 128) : tabOf t g (ix3 0 r d) = t (ix3 g r d) :=
  View.ld_unit_apply_of _ _ _ _ _ _ fun a => match a with
    | ⟨0, _⟩ => rfl
    | ⟨1, _⟩ => (Nat.zero_add _).symm
    | ⟨2, _⟩ => (Nat.zero_add _).symm
/-- A permutation matrix, entry by entry. -/
theorem permOf_apply (t : Perm) (g : Fin 2) (r d : Fin 256) : permOf t g (ix3 0 r d) = t (ix3 g r d) :=
  View.ld_unit_apply_of _ _ _ _ _ _ fun a => match a with
    | ⟨0, _⟩ => rfl
    | ⟨1, _⟩ => (Nat.zero_add _).symm
    | ⟨2, _⟩ => (Nat.zero_add _).symm
/-- The retention's table is read whole. -/
theorem wTab_eq (x : Tab) : wTab x = x :=
  View.ld_unit_zero (by funext a; fin_cases a <;> rfl) _ x
/-- The gains of the gated values are read whole. -/
theorem wNvg_eq : wNvg x9 = x9 :=
  View.ld_unit_zero (by funext a; fin_cases a <;> rfl) _ x9
/-- The heads' gains are read whole. -/
theorem wGain_eq (x : Vec Ideal S1x128 .f32) : wGain x = x :=
  View.ld_unit_zero (by funext a; fin_cases a <;> rfl) _ x
/-- The rows are read whole. -/
theorem wRows_eq (x : Rows) : wRows x = x :=
  View.ld_unit_zero (by funext a; fin_cases a <;> rfl) _ x
/-- The first norm's gains are read whole. -/
theorem wG1_eq (x : Gain) : wG1 x = x :=
  View.ld_unit_zero (by funext a; fin_cases a <;> rfl) _ x

/-- The projected numbers of a chunk of columns. -/
theorem acc_apply (g : Fin 3) (j : Fin 20) (r : Fin 256) (d : Fin 512) (c : Nat) (hc : c < 10240) (e : c = 512 * j.val + d.val) :
    acc L w g j (ix2 r d) = (rowOf L w x5 x6 x7 x8 x9 x10 x11 r).P g c hc := by
  subst e
  unfold acc Row.P
  rw [mm_apply]
  simp only [wCols_apply]
  rfl

/-- The block of results. -/
def G (i : S256x10240.Idx) : EReal := (rowOf L w x5 x6 x7 x8 x9 x10 x11 (i 0)).value (i 1)

/-- A piece's numbers are the block's. -/
@[irreducible] def Ok (p : OPiece) : Prop := ∀ x : p.1.shape.Idx, p.2 x = G L w x5 x6 x7 x8 x9 x10 x11 (p.1.emb x)

/-- A piece of 512 columns from its numbers. -/
theorem wide_ok (j : Fin 20) (v : FVec Ideal S256x512 .bf16)
    (h : ∀ (r : Fin 256) (d : Fin 512) (c : Fin 10240), c.val = 512 * j.val + d.val → v (ix2 r d) = (rowOf L w x5 x6 x7 x8 x9 x10 x11 r).value c)
    : Ok L w x5 x6 x7 x8 x9 x10 x11 (wide j v) := by
  unfold Ok
  intro x
  obtain ⟨r, d, rfl⟩ : ∃ (r : Fin 256) (d : Fin 512), x = ix2 r d := ⟨x 0, x 1, eq_ix2 x⟩
  have e0 : (wide j v).1.emb (ix2 r d) 0 = r := Fin.ext (by show 0 + 1 * r.val = r.val; omega)
  unfold G
  rw [e0]
  exact h r d _ (by show 512 * j.val + 1 * d.val = _; omega)

/-- A piece of 128 columns from its numbers. -/
theorem narrow_ok (j : Fin 20) (u : Fin 4) (v : FVec Ideal S256x128 .bf16)
    (h : ∀ (r : Fin 256) (d : Fin 128) (c : Fin 10240), c.val = 512 * j.val + 128 * u.val + d.val → v (ix2 r d) = (rowOf L w x5 x6 x7 x8 x9 x10 x11 r).value c)
    : Ok L w x5 x6 x7 x8 x9 x10 x11 (narrow j u v) := by
  unfold Ok
  intro x
  obtain ⟨r, d, rfl⟩ : ∃ (r : Fin 256) (d : Fin 128), x = ix2 r d := ⟨x 0, x 1, eq_ix2 x⟩
  have e0 : (narrow j u v).1.emb (ix2 r d) 0 = r := Fin.ext (by show 0 + 1 * r.val = r.val; omega)
  unfold G
  rw [e0]
  exact h r d _ (by show 512 * j.val + 128 * u.val + 1 * d.val = _; omega)

/-- A store of queries agrees with the row specification. -/
theorem ok_q (g : Fin 3) (u : Fin 4) : Ok L w x5 x6 x7 x8 x9 x10 x11 (qPiece L w x5 x6 x10 g u) := by
  refine narrow_ok L w x5 x6 x7 x8 x9 x10 x11 _ _ _ fun r d c e => ?_
  rw [head_apply, Row.value_qhead _ g u d c (by rw [e]; show 512 * (2 + g.val) + _ + _ = _; omega), wGain_eq]
  unfold Row.qhead
  have ey (k : Fin 128) := acc_apply L w x5 x6 x7 x8 x9 x10 x11 g (qj g) r ⟨128 * u.val + k.val, by omega⟩ (1024 + 512 * g.val + 128 * u.val + k.val) (by omega)
    (by show _ = 512 * (2 + g.val) + (128 * u.val + k.val); omega)
  simp only [cut_apply, ey, tabOf_apply]
  rfl

/-- A store of keys agrees with the row specification. -/
theorem ok_k (g : Fin 3) (u : Fin 4) : Ok L w x5 x6 x7 x8 x9 x10 x11 (kPiece L w x5 x6 x11 g u) := by
  refine narrow_ok L w x5 x6 x7 x8 x9 x10 x11 _ _ _ fun r d c e => ?_
  rw [head_apply, Row.value_khead _ g u d c (by rw [e]; show 512 * (5 + g.val) + _ + _ = _; omega), wGain_eq]
  unfold Row.khead
  have ey (k : Fin 128) := acc_apply L w x5 x6 x7 x8 x9 x10 x11 g (kj g) r ⟨128 * u.val + k.val, by omega⟩ (2560 + 512 * g.val + 128 * u.val + k.val) (by omega)
    (by show _ = 512 * (5 + g.val) + (128 * u.val + k.val); omega)
  simp only [cut_apply, ey, tabOf_apply]
  unfold one
  rw [Ideal.ofBits_one_f32, mul_one]
  rfl

/-- A store of values agrees with the row specification. -/
theorem ok_v (g : Fin 3) : Ok L w x5 x6 x7 x8 x9 x10 x11 (vPiece L w g) := by
  refine wide_ok L w x5 x6 x7 x8 x9 x10 x11 _ _ fun r d c e => ?_
  rw [Row.value_values _ g d c (by rw [e]; show 512 * (8 + g.val) + _ = _; omega)]
  exact acc_apply L w x5 x6 x7 x8 x9 x10 x11 g (vj g) r d _ _ (by show _ = 512 * (8 + g.val) + d.val; omega)

/-- A store of the retention's queries or keys agrees with the row specification. -/
theorem ok_r (u : Fin 4) (b : BitVec 32) (hb : Ideal.ofBits .f32 b = if u.val < 2 then 1 else Ideal.ofBits .f32 0x3E000000#32) :
    Ok L w x5 x6 x7 x8 x9 x10 x11 (rPiece L w x7 x8 u b) := by
  refine narrow_ok L w x5 x6 x7 x8 x9 x10 x11 _ _ _ fun r d c e => ?_
  rw [pair_apply, Row.value_ret _ u d c (by rw [e]; rfl), wTab_eq, wTab_eq, hb]
  unfold Row.ret
  have ey (k : Fin 128) := acc_apply L w x5 x6 x7 x8 x9 x10 x11 0 11 r ⟨128 * u.val + k.val, by omega⟩ (5632 + 128 * u.val + k.val) (by omega)
    (by show _ = 512 * 11 + (128 * u.val + k.val); omega)
  simp only [cut_apply, ey]
  rfl

/-- An entry of a chunk is the row specification's projected number. -/
theorem chunk (g : Fin 3) (j : Fin 20) (r : Fin 256) (d : Fin 512) (c : Nat) (hc : c < 10240) (e : c = 512 * j.val + d.val) :
    proj (fun k => slot L g (ix3 0 r k)) (fun k => wCols w j (ix2 k d)) = (rowOf L w x5 x6 x7 x8 x9 x10 x11 r).P g c hc :=
  (mm_apply _ _ r d).symm.trans (acc_apply L w x5 x6 x7 x8 x9 x10 x11 g j r d c hc e)

/-- A store of branch gates agrees with the row specification. -/
theorem ok_g (n : Fin 6) : Ok L w x5 x6 x7 x8 x9 x10 x11 (gPiece L w n) := by
  refine wide_ok L w x5 x6 x7 x8 x9 x10 x11 _ _ fun r d c e => ?_
  rw [logi_apply, Row.value_gates _ ⟨512 * n.val + d.val, by omega⟩ c (by rw [e]; show 512 * (14 + n.val) + _ = 7168 + (512 * n.val + d.val); omega)]
  exact congrArg logi (chunk L w x5 x6 x7 x8 x9 x10 x11 0 (gj n) r d _ _ (by show 7168 + (512 * n.val + d.val) = 512 * (14 + n.val) + d.val; omega))

/-- The store of the retention's gate agrees with the row specification. -/
theorem ok_silu : Ok L w x5 x6 x7 x8 x9 x10 x11 (wide 13 (k0_pay83 (acc L w 0 13) (k0_pay82 (slot L 0) (wCols w 13)))) := by
  refine wide_ok L w x5 x6 x7 x8 x9 x10 x11 _ _ fun r d c e => ?_
  unfold acc
  rw [silu_apply, Row.value_retg _ d c (by rw [e]; rfl), chunk L w x5 x6 x7 x8 x9 x10 x11 0 13 r d (6656 + d.val) (by omega) rfl]
  rfl

/-- The store of the retention's values agrees with the row specification. -/
theorem ok_retv : Ok L w x5 x6 x7 x8 x9 x10 x11 (wide 12 (truncf .bf16 (acc L w 0 12) bitsLt_bf16_f32)) := by
  refine wide_ok L w x5 x6 x7 x8 x9 x10 x11 _ _ fun r d c e => ?_
  rw [Row.value_retv _ d c (by rw [e]; rfl)]
  exact acc_apply L w x5 x6 x7 x8 x9 x10 x11 0 12 r d _ _ rfl

/-- The store of the normalised gelu agrees with the row specification. -/
theorem ok_vnorm : Ok L w x5 x6 x7 x8 x9 x10 x11 (wide 1 (k0_pay10 (slot L 0) (wCols w 1) (wNvg x9))) := by
  refine wide_ok L w x5 x6 x7 x8 x9 x10 x11 _ _ fun r d c e => ?_
  rw [vnorm_apply, Row.value_vnorm _ d c (by rw [e]; rfl), wNvg_eq]
  have ey (k : Fin 512) := chunk L w x5 x6 x7 x8 x9 x10 x11 0 1 r k (512 + k.val) (by omega) rfl
  simp only [ey]
  rfl

/-- The store of the gelu agrees with the row specification. -/
theorem ok_gate : Ok L w x5 x6 x7 x8 x9 x10 x11 (wide 0 (k0_pay9 (acc L w 0 0) k0_pay8)) := by
  refine wide_ok L w x5 x6 x7 x8 x9 x10 x11 _ _ fun r d c e => ?_
  rw [gelu_apply, Row.value_gate _ d c (by rw [e]; show 512 * 0 + _ = _; omega),
    acc_apply L w x5 x6 x7 x8 x9 x10 x11 0 0 r d d.val (by omega) (by show _ = 512 * 0 + d.val; omega)]
  rfl

/-- Every piece is its part of the block. -/
theorem pieces_ok : ∀ p ∈ pieces L w x5 x6 x7 x8 x9 x10 x11, Ok L w x5 x6 x7 x8 x9 x10 x11 p := by
  unfold pieces
  simp only [List.forall_mem_cons, List.not_mem_nil, false_imp_iff, implies_true, and_true]
  refine ⟨ok_g .., ok_g .., ok_g .., ok_g .., ok_g .., ok_g .., ok_silu .., ok_retv .., ok_r _ _ _ _ _ _ _ _ _ _ _ rfl, ok_r _ _ _ _ _ _ _ _ _ _ _ rfl,
    ok_r _ _ _ _ _ _ _ _ _ _ _ Ideal.ofBits_one_f32, ok_r _ _ _ _ _ _ _ _ _ _ _ Ideal.ofBits_one_f32, ok_v .., ok_v .., ok_v ..,
    ok_k .., ok_k .., ok_k .., ok_k .., ok_k .., ok_k .., ok_k .., ok_k .., ok_k .., ok_k .., ok_k .., ok_k ..,
    ok_q .., ok_q .., ok_q .., ok_q .., ok_q .., ok_q .., ok_q .., ok_q .., ok_q .., ok_q .., ok_q .., ok_q .., ok_vnorm .., ok_gate ..⟩

end

end Cert.Proof.InprojPoint
end
-- ==== Proof.InprojSpec.lean ====
module

public import proofs.«01_k».proof.Proof.InprojMath

/-! The tables of the input projection and its whole result, as functions of the arguments. -/

@[expose] public section

noncomputable section

namespace Cert.Proof.Inproj

open Idealize.ShloMosaic Cert.Proof.Swiglu

/-- A whole number as an extended real. -/
def num (p : BitVec 32) : EReal := FloatOps.sitofp (F := Ideal) FTy.f32 p

/-- The frequencies of a head of 128. -/
@[irreducible] def freqB (d : Nat) : EReal :=
  Ideal.pow (Ideal.ofBits .f32 0x461C4000#32)
    (Ideal.div (-(Ideal.ofBits .f32 0x40000000#32 * num (BitVec.ofNat 32 d))) (Ideal.ofBits .f32 0x43000000#32))

/-- The thirty-two even steps from 0 to 1. -/
def step (d : Nat) : EReal :=
  if d < 31 then
    Ideal.ofBits .f32 0x00000000#32 * (1 - Ideal.div (num (BitVec.ofNat 32 d)) (Ideal.ofBits .f32 0x41F80000#32))
      + Ideal.ofBits .f32 0x3F800000#32 * Ideal.div (num (BitVec.ofNat 32 d)) (Ideal.ofBits .f32 0x41F80000#32)
  else Ideal.ofBits .f32 0x3F800000#32

/-- The frequencies of a head of 64. -/
@[irreducible] def freqR (d : Nat) : EReal := Ideal.div 1 (Ideal.pow (Ideal.ofBits .f32 0x461C4000#32) (step d))

/-- The tables at a position: cosines and signed sines, for a head of 128 and for two heads of 64. -/
def cosB (p : BitVec 32) (d : Nat) : EReal := Ideal.cos (num p * freqB (d % 64))
/-- The signed sine that an entry of an attention head is rotated with. -/
def sinB (p : BitVec 32) (d : Nat) : EReal := if d < 64 then -Ideal.sin (num p * freqB (d % 64)) else Ideal.sin (num p * freqB (d % 64))
/-- The cosine that an entry of a retention head is rotated with. -/
def cosR (p : BitVec 32) (d : Nat) : EReal := Ideal.cos (num p * freqR (d % 32))
/-- The signed sine that an entry of a retention head is rotated with. -/
def sinR (p : BitVec 32) (d : Nat) : EReal := if d % 64 < 32 then -Ideal.sin (num p * freqR (d % 32)) else Ideal.sin (num p * freqR (d % 32))

/-- Where row `r` of a tile of the prompt comes from, in a group: the rows lie phase by phase. -/
def src (g : Fin 3) (r : Nat) : Nat :=
  if g.val = 0 then r else if g.val = 1 then r % 64 * 4 + r / 64 else r % 16 * 16 + r / 16

/-- A reordered row stays within its tile. -/
theorem src_lt (g : Fin 3) (r : Nat) (h : r < 256) : src g r < 256 := by
  unfold src
  split
  · exact h
  · split <;> omega

/-- The row of the tables that a group's row `k` is made from: in the prompt phase by phase, past it the row itself. -/
def tabRow (g : Fin 3) (k : Nat) : Nat := if k < 8192 then 256 * (k / 256) + src g (k % 256) else k

/-- The position in the table of 8448 rows, and of a row of the whole array. -/
def posW (k : Nat) : BitVec 32 := if k < 8192 then BitVec.ofNat 32 k else 16384#32 + BitVec.ofNat 32 ((k - 8192) % 8)
/-- The position of a row. -/
def posOf (n : Nat) : BitVec 32 := if n < 32768 then BitVec.ofNat 32 (n % 8192) else 16384#32 + BitVec.ofNat 32 ((n - 32768) % 8)

/-- The row that a group sees at row `n` of the whole array. -/
def seen (g : Fin 3) (n : Nat) : Nat := if n < 32768 then 256 * (n / 256) + src g (n % 256) else n

/-- The row that a group sees is a row of the array. -/
theorem seen_lt (g : Fin 3) (n : Nat) (h : n < 33024) : seen g n < 33024 := by
  unfold seen
  have := src_lt g (n % 256) (by omega)
  split <;> omega

/-- What row `n` of the result is computed from. -/
def rowSpec (x : Fin 33024 → Fin 1024 → EReal) (g1 : Fin 1024 → EReal) (w : Fin 1024 → Fin 10240 → EReal) (nvg : Fin 512 → EReal)
    (qg kg : Fin 128 → EReal) (n : Fin 33024) : Row where
  h g := normed (x ⟨seen g n.val, seen_lt g n.val n.isLt⟩) g1
  w := w
  nvg := nvg
  qg := qg
  kg := kg
  cb g d := cosB (posOf (seen g n.val)) d.val
  sb g d := sinB (posOf (seen g n.val)) d.val
  cc d := cosR (posOf n.val) d.val
  sc d := sinR (posOf n.val) d.val

end Cert.Proof.Inproj

end
-- ==== Proof.InprojTables.lean ====
module

public import proofs.«01_k».proof.Proof.InprojPoint
public import proofs.«01_k».proof.Proof.InprojSpec
public import Idealize.ShloMosaic.Lib.StableHlo.RunRead
public import Idealize.ShloMosaic.Lib.StableHlo.ReadAt

/-! The tables that the input projection is given, at each index. -/

@[expose] public section

set_option maxRecDepth 16384

noncomputable section

namespace Cert.Proof.InprojTables

open Cert.InprojIdeal Cert.InprojIdeal.Gen Cert.Proof.Inproj Idealize.ShloMosaic
open Idealize.ShloMosaic.TcCoe Idealize.ShloMosaic.Tactic Idealize.SL.Sem

variable (m : (ℓ : Loc nD τ sig) → Buf (Elt Ideal) ℓ)

/-- The tables as the region finds them. -/
abbrev perm (c : Dev nD) : S2x256x256.Idx → EReal := V m c main_v22
/-- The attention's table of cosines. -/
abbrev cosG (c : Dev nD) : S3x8448x128.Idx → EReal := V m c main_v70
/-- The attention's table of signed sines. -/
abbrev sinG (c : Dev nD) : S3x8448x128.Idx → EReal := V m c main_v92
/-- The retention's table of cosines. -/
abbrev cosC (c : Dev nD) : S8448x128.Idx → EReal := V m c main_v101
/-- The retention's table of signed sines. -/
abbrev sinC (c : Dev nD) : S8448x128.Idx → EReal := V m c main_v104

/-- An entry of the identity matrix, from whose rows the permutation matrices are made. -/
theorem eye (a b : Nat) (ha : a < 256) (hb : b < 256) :
    FloatOps.uitofp (F := Ideal) FTy.bf16 (IntOp.cmpi CmpIPredicate.eq (IntOp.addi (BitVec.ofNat 32 a) 0#32) (BitVec.ofNat 32 b)) = if a = b then 1 else 0 := by
  have e : (IntOp.addi (BitVec.ofNat 32 a) 0#32 = BitVec.ofNat 32 b) ↔ a = b := by
    show BitVec.ofNat 32 a + 0#32 = BitVec.ofNat 32 b ↔ a = b
    rw [BitVec.add_zero]
    constructor
    · intro h
      have := congrArg BitVec.toNat h
      rw [BitVec.toNat_ofNat, BitVec.toNat_ofNat] at this
      omega
    · rintro rfl; rfl
  rw [WordCmp.cmpi_eq_eq]
  by_cases h : a = b
  · rw [if_pos h, decide_eq_true (e.mpr h)]
    show (((BitVec.ofBool true).toNat : ℝ) : EReal) = 1
    rw [show (BitVec.ofBool true).toNat = 1 from rfl]
    norm_num
  · rw [if_neg h, decide_eq_false (fun q => h (e.mp q))]
    show (((BitVec.ofBool false).toNat : ℝ) : EReal) = 0
    norm_num

/-- The reordering is a matrix of ones and zeros. -/
theorem perm_apply (c : Dev nD) (k : Fin 2) (r j : Fin 256) :
    perm m c (ix3 k r j) = if src ⟨k.val + 1, by omega⟩ r.val = j.val then 1 else 0 := by
  unfold perm V
  after_reads_simp
  clean_types
  pointwise []
  rw [eye _ _ (by omega) (by omega), eye _ _ (by omega) (by omega)]
  match k with
  | ⟨0, _⟩ => rfl
  | ⟨1, _⟩ => rfl

/-- The first 8192 positions. -/
theorem first_pos (c : Dev nD) (k : Fin 8192) :
    (StableHlo.upto (Val := Elt Ideal) (List.flatten [hostOps0, hostOps0_1, hostOps0_2]) (fun b => m (c, b)) 8 (Proc.tc.devRef main_v0) : S8192.Idx → BitVec 32) (ix1 k)
      = BitVec.ofNat 32 k.val := by
  after_reads_at
/-- The sample rows' positions. -/
theorem later_pos (c : Dev nD) (k : Fin 256) :
    (StableHlo.upto (Val := Elt Ideal) (List.flatten [hostOps0, hostOps0_1, hostOps0_2]) (fun b => m (c, b)) 8 (Proc.tc.devRef main_v6) : S256.Idx → BitVec 32) (ix1 k)
      = 16384#32 + BitVec.ofNat 32 (k.val % 8) := by
  after_reads_at
  rfl
/-- The position of a row of the tables. -/
theorem pos_eq (c : Dev nD) (k : Fin 8448) :
    (if h : k.val < 8192 then
      (StableHlo.upto (Val := Elt Ideal) (List.flatten [hostOps0, hostOps0_1, hostOps0_2]) (fun b => m (c, b)) 8 (Proc.tc.devRef main_v0) : S8192.Idx → BitVec 32) (ix1 ⟨k.val, h⟩)
    else (StableHlo.upto (Val := Elt Ideal) (List.flatten [hostOps0, hostOps0_1, hostOps0_2]) (fun b => m (c, b)) 8 (Proc.tc.devRef main_v6) : S256.Idx → BitVec 32) (ix1 ⟨k.val - 8192, by omega⟩))
      = posW k.val := by
  unfold posW
  by_cases h : k.val < 8192
  · rw [dif_pos h, if_pos h, first_pos]
  · rw [dif_neg h, if_neg h, later_pos]

/-- The cosines before the groups' orders. -/
theorem cos44 (c : Dev nD) (k : Fin 8448) (d : Fin 64) :
    (StableHlo.upto (Val := Elt Ideal) (List.flatten [hostOps0, hostOps0_1, hostOps0_2]) (fun b => m (c, b)) 76 (Proc.tc.devRef main_v44) : S8448x64.Idx → EReal) (ix2 k d)
      = Ideal.cos (num (posW k.val) * freqB d.val) := by
  after_reads_at
  rw [pos_eq]
  unfold freqB
  rfl
/-- The negated sines before the groups' orders. -/
theorem neg47 (c : Dev nD) (k : Fin 8448) (d : Fin 64) :
    (StableHlo.upto (Val := Elt Ideal) (List.flatten [hostOps0, hostOps0_1, hostOps0_2]) (fun b => m (c, b)) 78 (Proc.tc.devRef main_v47) : S8448x64.Idx → EReal) (ix2 k d)
      = -Ideal.sin (num (posW k.val) * freqB d.val) := by
  after_reads_at
  rw [pos_eq]
  unfold freqB
  rfl
/-- The sines before the groups' orders. -/
theorem sin45 (c : Dev nD) (k : Fin 8448) (d : Fin 64) :
    (StableHlo.upto (Val := Elt Ideal) (List.flatten [hostOps0, hostOps0_1, hostOps0_2]) (fun b => m (c, b)) 78 (Proc.tc.devRef main_v45) : S8448x64.Idx → EReal) (ix2 k d)
      = Ideal.sin (num (posW k.val) * freqB d.val) := by
  after_reads_at
  rw [pos_eq]
  unfold freqB
  rfl

/-- A cosine of the table, at the position that its row stands for. -/
theorem cosB_of (p : BitVec 32) (d a b : Nat) (hp : posW a = p) (hb : b = d % 64) : Ideal.cos (num (posW a) * freqB b) = cosB p d := by
  subst hp hb; rfl
/-- The row that a group's table takes an entry from. -/
theorem tabRow_eq (g : Fin 3) (k a : Nat) (h : (8192 ≤ k ∧ a = k) ∨ (k < 8192 ∧ ((g.val = 0 ∧ a = k / 256 * 256 + k % 256)
    ∨ (g.val = 1 ∧ a = k / 256 * 256 + k % 64 * 4 + k / 64 % 4) ∨ (g.val = 2 ∧ a = k / 256 * 256 + k % 16 * 16 + k / 16 % 16)))) : a = tabRow g k := by
  unfold tabRow src
  rcases h with ⟨h, e⟩ | ⟨h, ⟨hg, e⟩ | ⟨hg, e⟩ | ⟨hg, e⟩⟩
  · rw [if_neg (by omega)]; exact e
  · rw [if_pos h, if_pos hg]; omega
  · rw [if_pos h, if_neg (by omega), if_pos hg]; omega
  · rw [if_pos h, if_neg (by omega), if_neg (by omega)]; omega

/-- A negated sine of the table, in the lower half of a head. -/
theorem neg_of (p : BitVec 32) (d a b : Nat) (hd : d < 64) (hp : posW a = p) (hb : b = d % 64) : -Ideal.sin (num (posW a) * freqB b) = sinB p d := by
  subst hp hb; unfold sinB; rw [if_pos hd]
/-- A sine of the table, in the upper half of a head. -/
theorem sin_of (p : BitVec 32) (d a b : Nat) (hd : ¬d < 64) (hp : posW a = p) (hb : b = d % 64) : Ideal.sin (num (posW a) * freqB b) = sinB p d := by
  subst hp hb; unfold sinB; rw [if_neg hd]

/-- A row of a group's table is a row of the ground table. -/
abbrev From (g : Fin 3) (k : Fin 8448) (k' : Nat) : Prop := ((8192 ≤ k.val ∧ k' = k.val) ∨ (k.val < 8192 ∧ ((g.val = 0 ∧ k' = k.val / 256 * 256 + k.val % 256)
      ∨ (g.val = 1 ∧ k' = k.val / 256 * 256 + k.val % 64 * 4 + k.val / 64 % 4) ∨ (g.val = 2 ∧ k' = k.val / 256 * 256 + k.val % 16 * 16 + k.val / 16 % 16))))

set_option maxHeartbeats 4000000 in
/-- The attention's table of cosines, entry by entry. -/
theorem cosG_apply (c : Dev nD) (g : Fin 3) (k : Fin 8448) (d : Fin 128) : cosG m c (ix3 g k d) = cosB (posW (tabRow g k.val)) d.val := by
  have leaf : ∀ (k' d' : Nat) (hk' : k' < 8448) (hd' : d' < 64), From g k k' → d' = d.val % 64 →
      (StableHlo.upto (Val := Elt Ideal) (List.flatten [hostOps0, hostOps0_1, hostOps0_2]) (fun b => m (c, b)) 76 (Proc.tc.devRef main_v44) : S8448x64.Idx → EReal) (ix2 ⟨k', hk'⟩ ⟨d', hd'⟩)
        = cosB (posW (tabRow g k.val)) d.val :=
    fun k' d' hk' hd' h e => (cos44 m c ⟨k', hk'⟩ ⟨d', hd'⟩).trans (cosB_of _ _ _ _ (congrArg posW (tabRow_eq g k.val _ h)) e)
  unfold cosG V
  after_reads_at
  after_reads_at
  after_reads_at
  by_cases h0 : g.val < 1
  · rw [dif_pos h0]
    by_cases hk : k.val < 8192
    · rw [dif_pos hk]
      by_cases hd : d.val < 64
      · rw [dif_pos hd]; exact leaf _ _ _ _ (by omega) (by omega)
      · rw [dif_neg hd]; exact leaf _ _ _ _ (by omega) (by omega)
    · rw [dif_neg hk]
      by_cases hd : d.val < 64
      · rw [dif_pos hd]; exact leaf _ _ _ _ (by omega) (by omega)
      · rw [dif_neg hd]; exact leaf _ _ _ _ (by omega) (by omega)
  · rw [dif_neg h0]
    by_cases h1 : g.val - 1 < 1
    · rw [dif_pos h1]
      by_cases hk : k.val < 8192
      · rw [dif_pos hk]
        by_cases hd : d.val < 64
        · rw [dif_pos hd]; exact leaf _ _ _ _ (by omega) (by omega)
        · rw [dif_neg hd]; exact leaf _ _ _ _ (by omega) (by omega)
      · rw [dif_neg hk]
        by_cases hd : d.val < 64
        · rw [dif_pos hd]; exact leaf _ _ _ _ (by omega) (by omega)
        · rw [dif_neg hd]; exact leaf _ _ _ _ (by omega) (by omega)
    · rw [dif_neg h1]
      by_cases hk : k.val < 8192
      · rw [dif_pos hk]
        by_cases hd : d.val < 64
        · rw [dif_pos hd]; exact leaf _ _ _ _ (by omega) (by omega)
        · rw [dif_neg hd]; exact leaf _ _ _ _ (by omega) (by omega)
      · rw [dif_neg hk]
        by_cases hd : d.val < 64
        · rw [dif_pos hd]; exact leaf _ _ _ _ (by omega) (by omega)
        · rw [dif_neg hd]; exact leaf _ _ _ _ (by omega) (by omega)

set_option maxHeartbeats 4000000 in
/-- The attention's table of signed sines, entry by entry. -/
theorem sinG_apply (c : Dev nD) (g : Fin 3) (k : Fin 8448) (d : Fin 128) : sinG m c (ix3 g k d) = sinB (posW (tabRow g k.val)) d.val := by
  have low : ∀ (hd : d.val < 64) (k' d' : Nat) (hk' : k' < 8448) (hd' : d' < 64), From g k k' → d' = d.val % 64 →
      (StableHlo.upto (Val := Elt Ideal) (List.flatten [hostOps0, hostOps0_1, hostOps0_2]) (fun b => m (c, b)) 78 (Proc.tc.devRef main_v47) : S8448x64.Idx → EReal) (ix2 ⟨k', hk'⟩ ⟨d', hd'⟩)
        = sinB (posW (tabRow g k.val)) d.val :=
    fun hd k' d' hk' hd' h e => (neg47 m c ⟨k', hk'⟩ ⟨d', hd'⟩).trans (neg_of _ _ _ _ hd (congrArg posW (tabRow_eq g k.val _ h)) e)
  have high : ∀ (hd : ¬d.val < 64) (k' d' : Nat) (hk' : k' < 8448) (hd' : d' < 64), From g k k' → d' = d.val % 64 →
      (StableHlo.upto (Val := Elt Ideal) (List.flatten [hostOps0, hostOps0_1, hostOps0_2]) (fun b => m (c, b)) 78 (Proc.tc.devRef main_v45) : S8448x64.Idx → EReal) (ix2 ⟨k', hk'⟩ ⟨d', hd'⟩)
        = sinB (posW (tabRow g k.val)) d.val :=
    fun hd k' d' hk' hd' h e => (sin45 m c ⟨k', hk'⟩ ⟨d', hd'⟩).trans (sin_of _ _ _ _ hd (congrArg posW (tabRow_eq g k.val _ h)) e)
  unfold sinG V
  after_reads_at
  after_reads_at
  after_reads_at
  by_cases h0 : g.val < 1
  · rw [dif_pos h0]
    by_cases hk : k.val < 8192
    · rw [dif_pos hk]
      by_cases hd : d.val < 64
      · rw [dif_pos hd]; exact low hd _ _ _ _ (by omega) (by omega)
      · rw [dif_neg hd]; exact high hd _ _ _ _ (by omega) (by omega)
    · rw [dif_neg hk]
      by_cases hd : d.val < 64
      · rw [dif_pos hd]; exact low hd _ _ _ _ (by omega) (by omega)
      · rw [dif_neg hd]; exact high hd _ _ _ _ (by omega) (by omega)
  · rw [dif_neg h0]
    by_cases h1 : g.val - 1 < 1
    · rw [dif_pos h1]
      by_cases hk : k.val < 8192
      · rw [dif_pos hk]
        by_cases hd : d.val < 64
        · rw [dif_pos hd]; exact low hd _ _ _ _ (by omega) (by omega)
        · rw [dif_neg hd]; exact high hd _ _ _ _ (by omega) (by omega)
      · rw [dif_neg hk]
        by_cases hd : d.val < 64
        · rw [dif_pos hd]; exact low hd _ _ _ _ (by omega) (by omega)
        · rw [dif_neg hd]; exact high hd _ _ _ _ (by omega) (by omega)
    · rw [dif_neg h1]
      by_cases hk : k.val < 8192
      · rw [dif_pos hk]
        by_cases hd : d.val < 64
        · rw [dif_pos hd]; exact low hd _ _ _ _ (by omega) (by omega)
        · rw [dif_neg hd]; exact high hd _ _ _ _ (by omega) (by omega)
      · rw [dif_neg hk]
        by_cases hd : d.val < 64
        · rw [dif_pos hd]; exact low hd _ _ _ _ (by omega) (by omega)
        · rw [dif_neg hd]; exact high hd _ _ _ _ (by omega) (by omega)

end Cert.Proof.InprojTables
end
-- ==== Proof.InprojTables2.lean ====
module

public import proofs.«01_k».proof.Proof.InprojTables
public import Idealize.ShloMosaic.Lib.StableHlo.RunRead
public import Idealize.ShloMosaic.Lib.StableHlo.ReadAt

/-! The tables for the heads of 64 that the input projection is given, at each index. -/

@[expose] public section

set_option maxRecDepth 16384

noncomputable section

namespace Cert.Proof.InprojTables

open Cert.InprojIdeal Cert.InprojIdeal.Gen Cert.Proof.Inproj Idealize.ShloMosaic
open Idealize.ShloMosaic.TcCoe Idealize.ShloMosaic.Tactic Idealize.SL.Sem

variable (m : (ℓ : Loc nD τ sig) → Buf (Elt Ideal) ℓ)

/-- The first 31 exponents of the retention's frequencies. -/
theorem step0 (c : Dev nD) (d : Fin 31) :
    (StableHlo.upto (Val := Elt Ideal) (List.flatten [hostOps0, hostOps0_1, hostOps0_2]) (fun b => m (c, b)) 61 (Proc.tc.devRef main_call0_v15) : S31.Idx → EReal) (ix1 d)
      = step d.val := by
  after_reads_at
  unfold step
  rw [if_pos d.isLt]
  rfl
/-- The last exponent of the retention's frequencies. -/
theorem step1 (c : Dev nD) (d : Fin 1) :
    (StableHlo.upto (Val := Elt Ideal) (List.flatten [hostOps0, hostOps0_1, hostOps0_2]) (fun b => m (c, b)) 61 (Proc.tc.devRef main_call0_v16) : S1.Idx → EReal) (ix1 d)
      = Ideal.ofBits .f32 0x3F800000#32 := by
  rw [Ideal.ofBits_one_f32]
  after_reads_at
  exact Ideal.ofBits_one_f32
/-- The retention's frequencies. -/
theorem freq_eq (c : Dev nD) (d : Nat) (hd : d < 32) :
    Ideal.div 1 (Ideal.pow (Ideal.ofBits FTy.f32 1176256512#32)
      (if h : d < 31 then
        (StableHlo.upto (Val := Elt Ideal) (List.flatten [hostOps0, hostOps0_1, hostOps0_2]) (fun b => m (c, b)) 61 (Proc.tc.devRef main_call0_v15) : S31.Idx → EReal) (ix1 ⟨d, h⟩)
      else (StableHlo.upto (Val := Elt Ideal) (List.flatten [hostOps0, hostOps0_1, hostOps0_2]) (fun b => m (c, b)) 61 (Proc.tc.devRef main_call0_v16) : S1.Idx → EReal) (ix1 ⟨d - 31, by omega⟩)))
      = freqR d := by
  unfold freqR
  by_cases h : d < 31
  · rw [dif_pos h, step0]
  · rw [dif_neg h, step1]; unfold step; rw [if_neg h]

/-- A cosine of the retention's table. -/
theorem cosR_of (p : BitVec 32) (d b : Nat) (hb : b = d % 32) : Ideal.cos (num p * freqR b) = cosR p d := by
  subst hb; rfl

/-- A negated sine, in the lower half of a head of 64. -/
theorem sinLow_of (p : BitVec 32) (d b : Nat) (hd : d % 64 < 32) (hb : b = d % 32) : -Ideal.sin (num p * freqR b) = sinR p d := by
  subst hb; unfold sinR; rw [if_pos hd]
/-- A sine, in the upper half of a head of 64. -/
theorem sinHigh_of (p : BitVec 32) (d b : Nat) (hd : ¬d % 64 < 32) (hb : b = d % 32) : Ideal.sin (num p * freqR b) = sinR p d := by
  subst hb; unfold sinR; rw [if_neg hd]

set_option maxHeartbeats 4000000 in
/-- The retention's table of cosines, entry by entry. -/
theorem cosC_apply (c : Dev nD) (k : Fin 8448) (d : Fin 128) : cosC m c (ix2 k d) = cosR (posW k.val) d.val := by
  unfold cosC V
  after_reads_at
  by_cases h1 : d.val < 32
  · rw [dif_pos h1]
    after_reads_at
    rw [pos_eq, freq_eq m c _ (by omega)]
    exact cosR_of _ _ _ (by omega)
  rw [dif_neg h1]
  by_cases h2 : d.val - 32 < 32
  · rw [dif_pos h2]
    after_reads_at
    rw [pos_eq, freq_eq m c _ (by omega)]
    exact cosR_of _ _ _ (by omega)
  rw [dif_neg h2]
  by_cases h3 : d.val - 32 - 32 < 32
  · rw [dif_pos h3]
    after_reads_at
    rw [pos_eq, freq_eq m c _ (by omega)]
    exact cosR_of _ _ _ (by omega)
  rw [dif_neg h3]
  after_reads_at
  rw [pos_eq, freq_eq m c _ (by omega)]
  exact cosR_of _ _ _ (by omega)

set_option maxHeartbeats 4000000 in
/-- The retention's table of signed sines, entry by entry. -/
theorem sinC_apply (c : Dev nD) (k : Fin 8448) (d : Fin 128) : sinC m c (ix2 k d) = sinR (posW k.val) d.val := by
  unfold sinC V
  after_reads_at
  by_cases h1 : d.val < 32
  · rw [dif_pos h1]
    after_reads_at
    rw [pos_eq, freq_eq m c _ (by omega)]
    exact sinLow_of _ _ _ (by omega) (by omega)
  rw [dif_neg h1]
  by_cases h2 : d.val - 32 < 32
  · rw [dif_pos h2]
    after_reads_at
    rw [pos_eq, freq_eq m c _ (by omega)]
    exact sinHigh_of _ _ _ (by omega) (by omega)
  rw [dif_neg h2]
  by_cases h3 : d.val - 32 - 32 < 32
  · rw [dif_pos h3]
    after_reads_at
    rw [pos_eq, freq_eq m c _ (by omega)]
    exact sinLow_of _ _ _ (by omega) (by omega)
  rw [dif_neg h3]
  after_reads_at
  rw [pos_eq, freq_eq m c _ (by omega)]
  exact sinHigh_of _ _ _ (by omega) (by omega)

end Cert.Proof.InprojTables
end
-- ==== Proof.InprojValue.lean ====
module

public import proofs.«01_k».proof.Proof.InprojTables2
public import proofs.«01_k».proof.Proof.InprojPoint
public import Idealize.ShloMosaic.Lib.Pointwise
public import Idealize.ShloMosaic.Lib.IdealHost
public import Idealize.ShloMosaic.Lib.Pipeline.ValueKit

/-! What the input projection leaves in its result array: row by row, the projected and finished columns of the
normalised row, in the groups' own row orders. -/

@[expose] public section

set_option maxRecDepth 16384

noncomputable section

namespace Cert.Proof.InprojValue

open Cert.InprojIdeal Cert.InprojIdeal.Gen Cert.InprojIdeal.Value Cert.Proof.InprojBody Cert.Proof.InprojPoint Cert.Proof.InprojTables
open Cert.Proof.Inproj Cert.Proof.Swiglu Idealize.ShloMosaic
open Idealize.ShloMosaic.TcCoe Idealize.ShloMosaic.Tactic Idealize.SL.Sem

/-- The tile of the tables that a point takes. -/
def tile (t : Nat) : Nat := if t < 128 then t % 32 else 32
/-- The tables have 33 tiles. -/
theorem tile_le (t : Nat) : tile t ≤ 32 := by
  unfold tile
  split <;> omega

/-- The tables' row for a row of the array is at that row's position. -/
theorem pos_seen (g : Fin 3) (t r : Nat) (ht : t < 129) (hr : r < 256) :
    posW (tabRow g (256 * tile t + r)) = posOf (seen g (256 * t + r)) := by
  have hs := src_lt g r hr
  unfold tile
  by_cases h : t < 128
  · rw [if_pos h]
    unfold tabRow seen
    rw [if_pos (by omega), if_pos (by omega), show (256 * (t % 32) + r) % 256 = r by omega, show (256 * t + r) % 256 = r by omega]
    unfold posW posOf
    rw [if_pos (by omega), if_pos (by omega)]
    exact congrArg (BitVec.ofNat 32) (by omega)
  · rw [if_neg h]
    unfold tabRow seen
    rw [if_neg (by omega), if_neg (by omega)]
    unfold posW posOf
    rw [if_neg (by omega), if_neg (by omega)]
    exact congrArg (fun n => 16384#32 + BitVec.ofNat 32 n) (by omega)
/-- In the plain order a row of the tables is at the row's own position. -/
theorem pos_plain (t r : Nat) (ht : t < 129) (hr : r < 256) : posW (256 * tile t + r) = posOf (256 * t + r) := by
  have h := pos_seen 0 t r ht hr
  have e (n : Nat) : tabRow 0 n = n := by
    unfold tabRow src
    split
    · rw [if_pos (show (0 : Fin 3).val = 0 from rfl)]; omega
    · rfl
  have e' (n : Nat) : seen 0 n = n := by
    unfold seen src
    split
    · rw [if_pos (show (0 : Fin 3).val = 0 from rfl)]; omega
    · rfl
  rwa [e, e'] at h

/-- Choosing a row by a row of ones and zeros. -/
theorem pick (s : Nat) (hs : s < 256) (p f : Fin 256 → EReal) (hp : ∀ j, p j = if s = j.val then 1 else 0) :
    ∑ j : Fin 256, p j * f j = f ⟨s, hs⟩ := by
  rw [Finset.sum_eq_single ⟨s, hs⟩]
  · rw [hp, if_pos rfl, one_mul]
  · intro b _ hb
    rw [hp, if_neg (fun h => hb (Fin.ext h.symm)), zero_mul]
  · intro h
    exact absurd (Finset.mem_univ _) h

/-- The rows a group sees, at a point of the prompt. -/
theorem slot_A (i : grid0.Coords) (hi : (i 0).val < 128) (xa xb : Rows) (g1 : Gain) (p : Perm)
    (hp : ∀ (k : Fin 2) (r j : Fin 256), p (ix3 k r j) = if src ⟨k.val + 1, by omega⟩ r.val = j.val then 1 else 0)
    (g : Fin 3) (r : Fin 256) (k : Fin 1024) :
    slot (heldA i xa xb g1 p) g (ix3 0 r k)
      = normed (fun k => xa (ix2 ⟨src g r.val, src_lt g r.val r.isLt⟩ k)) (fun k => g1 (ix2 0 k)) k := by
  have e (r : Fin 256) (k : Fin 1024) : k0_pay1 i xa xb g1 (ix2 r k) = normed (fun k => xa (ix2 r k)) (fun k => g1 (ix2 0 k)) k := by
    rw [rows_apply, if_pos hi]
  unfold heldA
  rw [wRows_eq, wRows_eq, wG1_eq]
  match g with
  | ⟨0, _⟩ =>
    refine (congrFun (slot_cons_other _ 0 2 _ (by decide)) _).trans ?_
    refine (congrFun (slot_cons_other _ 0 1 _ (by decide)) _).trans ?_
    refine (congrFun (slot_cons_same _ 0 _) _).trans ?_
    rw [plain_apply, e]
    rfl
  | ⟨1, _⟩ =>
    refine (congrFun (slot_cons_other _ 1 2 _ (by decide)) _).trans ?_
    refine (congrFun (slot_cons_same _ 1 _) _).trans ?_
    rw [perm1_apply]
    refine (pick (src 1 r.val) (src_lt 1 r.val r.isLt) _ (fun j => k0_pay1 i xa xb g1 (ix2 j k)) fun j => ?_).trans (e _ _)
    exact (permOf_apply p 0 r j).trans (hp 0 r j)
  | ⟨2, _⟩ =>
    refine (congrFun (slot_cons_same _ 2 _) _).trans ?_
    rw [perm2_apply]
    refine (pick (src 2 r.val) (src_lt 2 r.val r.isLt) _ (fun j => k0_pay1 i xa xb g1 (ix2 j k)) fun j => ?_).trans (e _ _)
    exact (permOf_apply p 1 r j).trans (hp 1 r j)

/-- The rows a group sees, at the point past the prompt. -/
theorem slot_B (i : grid0.Coords) (hi : ¬(i 0).val < 128) (xa xb : Rows) (g1 : Gain) (g : Fin 3) (r : Fin 256) (k : Fin 1024) :
    slot (heldB i xa xb g1) g (ix3 0 r k) = normed (fun k => xb (ix2 r k)) (fun k => g1 (ix2 0 k)) k := by
  have e : k0_pay2 i xa xb g1 (ix3 0 r k) = normed (fun k => xb (ix2 r k)) (fun k => g1 (ix2 0 k)) k := by
    rw [plain_apply, rows_apply, if_neg hi]
  unfold heldB
  rw [wRows_eq, wRows_eq, wG1_eq]
  match g with
  | ⟨0, _⟩ =>
    refine (congrFun (slot_cons_other _ 0 2 _ (by decide)) _).trans ?_
    refine (congrFun (slot_cons_other _ 0 1 _ (by decide)) _).trans ?_
    exact (congrFun (slot_cons_same _ 0 _) _).trans e
  | ⟨1, _⟩ =>
    refine (congrFun (slot_cons_other _ 1 2 _ (by decide)) _).trans ?_
    exact (congrFun (slot_cons_same _ 1 _) _).trans e
  | ⟨2, _⟩ => exact (congrFun (slot_cons_same _ 2 _) _).trans e

/-- A row of a block is a row of the specification. -/
theorem rowOf_eq (L : List HPiece) (w : Wts) (x5 x6 : Tab3) (x7 x8 : Tab) (x9 : Vec Ideal S1x512 .f32) (x10 x11 : Vec Ideal S1x128 .f32)
    (x : Fin 33024 → Fin 1024 → EReal) (g1 : Fin 1024 → EReal) (r : Fin 256) (n : Fin 33024)
    (hs : ∀ g k, slot L g (ix3 0 r k) = normed (x ⟨seen g n.val, seen_lt g n.val n.isLt⟩) g1 k)
    (h5 : ∀ g d, x5 (ix3 g r d) = cosB (posOf (seen g n.val)) d.val) (h6 : ∀ g d, x6 (ix3 g r d) = sinB (posOf (seen g n.val)) d.val)
    (h7 : ∀ d, x7 (ix2 r d) = cosR (posOf n.val) d.val) (h8 : ∀ d, x8 (ix2 r d) = sinR (posOf n.val) d.val) :
    rowOf L w x5 x6 x7 x8 x9 x10 x11 r
      = rowSpec x g1 (fun k c => w (ix2 k c)) (fun d => x9 (ix2 0 d)) (fun d => x10 (ix2 0 d)) (fun d => x11 (ix2 0 d)) n := by
  unfold rowOf rowSpec
  simp only [hs, h5, h6, h7, h8]

variable (m : (ℓ : Loc nD τ sig) → Buf (Elt Ideal) ℓ)

/-- The prompt rows' block is the point's own. -/
theorem index0 : ∀ t : Fin cfg0.N, t.val < 128 → win0_0.index t = ![t.val, 0] :=
  (by decide +kernel : ∀ t : Fin grid0.N, t.val < 128 → win0_0.index t = ![t.val, 0])
/-- The sample rows' block is the last. -/
theorem index1 : ∀ t : Fin cfg0.N, win0_1.index t = ![128, 0] :=
  (by decide +kernel : ∀ t : Fin grid0.N, win0_1.index t = ![128, 0])
/-- The gains are one block. -/
theorem index2 : ∀ t : Fin cfg0.N, win0_2.index t = ![0, 0] :=
  (by decide +kernel : ∀ t : Fin grid0.N, win0_2.index t = ![0, 0])
/-- The weights are one block. -/
theorem index3 : ∀ t : Fin cfg0.N, win0_3.index t = ![0, 0] :=
  (by decide +kernel : ∀ t : Fin grid0.N, win0_3.index t = ![0, 0])
/-- The permutation matrices are one block. -/
theorem index4 : ∀ t : Fin cfg0.N, win0_4.index t = ![0, 0, 0] :=
  (by decide +kernel : ∀ t : Fin grid0.N, win0_4.index t = ![0, 0, 0])
/-- The cosines' block is the point's tile of the tables. -/
theorem index5 : ∀ t : Fin cfg0.N, win0_5.index t = ![0, tile t.val, 0] :=
  (by decide +kernel : ∀ t : Fin grid0.N, win0_5.index t = ![0, tile t.val, 0])
/-- The sines' block is the point's tile of the tables. -/
theorem index6 : ∀ t : Fin cfg0.N, win0_6.index t = ![0, tile t.val, 0] :=
  (by decide +kernel : ∀ t : Fin grid0.N, win0_6.index t = ![0, tile t.val, 0])
/-- The retention's cosines' block is the point's tile of the tables. -/
theorem index7 : ∀ t : Fin cfg0.N, win0_7.index t = ![tile t.val, 0] :=
  (by decide +kernel : ∀ t : Fin grid0.N, win0_7.index t = ![tile t.val, 0])
/-- The retention's sines' block is the point's tile of the tables. -/
theorem index8 : ∀ t : Fin cfg0.N, win0_8.index t = ![tile t.val, 0] :=
  (by decide +kernel : ∀ t : Fin grid0.N, win0_8.index t = ![tile t.val, 0])
/-- The gains of the gated values are one block. -/
theorem index9 : ∀ t : Fin cfg0.N, win0_9.index t = ![0, 0] :=
  (by decide +kernel : ∀ t : Fin grid0.N, win0_9.index t = ![0, 0])
/-- The queries' gains are one block. -/
theorem index10 : ∀ t : Fin cfg0.N, win0_10.index t = ![0, 0] :=
  (by decide +kernel : ∀ t : Fin grid0.N, win0_10.index t = ![0, 0])
/-- The keys' gains are one block. -/
theorem index11 : ∀ t : Fin cfg0.N, win0_11.index t = ![0, 0] :=
  (by decide +kernel : ∀ t : Fin grid0.N, win0_11.index t = ![0, 0])
/-- The result's block is the point's own. -/
theorem index12 : ∀ t : Fin cfg0.N, win0_12.index t = ![t.val, 0] :=
  (by decide +kernel : ∀ t : Fin grid0.N, win0_12.index t = ![t.val, 0])

/-- Every point reads all the first norm's gains. -/
theorem gain_eq (c : Dev nD) (t : Fin cfg0.N) : iblk m c 2 t = V m c main_arg1 := by
  funext j
  unfold iblk
  rw [View.read_apply]
  refine congrArg (V m c main_arg1) (funext fun a => Fin.ext ?_)
  match a with
  | ⟨0, _⟩ => blk_simp [index2]
  | ⟨1, _⟩ => blk_simp [index2]
/-- Every point reads all the weights. -/
theorem weights_eq (c : Dev nD) (t : Fin cfg0.N) : iblk m c 3 t = V m c main_arg2 := by
  funext j
  unfold iblk
  rw [View.read_apply]
  refine congrArg (V m c main_arg2) (funext fun a => Fin.ext ?_)
  match a with
  | ⟨0, _⟩ => blk_simp [index3]
  | ⟨1, _⟩ => blk_simp [index3]
/-- Every point reads both permutation matrices. -/
theorem perm_eq (c : Dev nD) (t : Fin cfg0.N) : iblk m c 4 t = V m c main_v22 := by
  funext j
  unfold iblk
  rw [View.read_apply]
  refine congrArg (V m c main_v22) (funext fun a => Fin.ext ?_)
  match a with
  | ⟨0, _⟩ => blk_simp [index4]
  | ⟨1, _⟩ => blk_simp [index4]
  | ⟨2, _⟩ => blk_simp [index4]
/-- Every point reads all the gains of the gated values. -/
theorem nvg_eq (c : Dev nD) (t : Fin cfg0.N) : iblk m c 9 t = V m c main_arg3 := by
  funext j
  unfold iblk
  rw [View.read_apply]
  refine congrArg (V m c main_arg3) (funext fun a => Fin.ext ?_)
  match a with
  | ⟨0, _⟩ => blk_simp [index9]
  | ⟨1, _⟩ => blk_simp [index9]
/-- Every point reads all the queries' gains. -/
theorem qg_eq (c : Dev nD) (t : Fin cfg0.N) : iblk m c 10 t = V m c main_arg4 := by
  funext j
  unfold iblk
  rw [View.read_apply]
  refine congrArg (V m c main_arg4) (funext fun a => Fin.ext ?_)
  match a with
  | ⟨0, _⟩ => blk_simp [index10]
  | ⟨1, _⟩ => blk_simp [index10]
/-- Every point reads all the keys' gains. -/
theorem kg_eq (c : Dev nD) (t : Fin cfg0.N) : iblk m c 11 t = V m c main_arg5 := by
  funext j
  unfold iblk
  rw [View.read_apply]
  refine congrArg (V m c main_arg5) (funext fun a => Fin.ext ?_)
  match a with
  | ⟨0, _⟩ => blk_simp [index11]
  | ⟨1, _⟩ => blk_simp [index11]

/-- The attention's cosines that a point reads. -/
theorem cos_eq (c : Dev nD) (t : Fin cfg0.N) (g : Fin 3) (r : Fin 256) (d : Fin 128) :
    iblk m c 5 t (ix3 g r d) = cosB (posOf (seen g (256 * t.val + r.val))) d.val := by
  have hk : tile t.val ≤ 32 := tile_le t.val
  refine Eq.trans (b := V m c main_v70 (ix3 g ⟨256 * tile t.val + r.val, by omega⟩ d)) ?_ ?_
  · unfold iblk
    rw [View.read_apply]
    refine congrArg (V m c main_v70) ((eq_ix3 _).trans ?_)
    refine congr (congr (congrArg ix3 (Fin.ext ?_)) (Fin.ext ?_)) (Fin.ext ?_) <;> blk_simp [index5]
    exact congrArg (· + r.val) (Nat.mul_comm _ _)
  · refine (cosG_apply m c g _ d).trans ?_
    rw [pos_seen g t.val r.val t.isLt r.isLt]
/-- The attention's signed sines that a point reads. -/
theorem sin_eq (c : Dev nD) (t : Fin cfg0.N) (g : Fin 3) (r : Fin 256) (d : Fin 128) :
    iblk m c 6 t (ix3 g r d) = sinB (posOf (seen g (256 * t.val + r.val))) d.val := by
  have hk : tile t.val ≤ 32 := tile_le t.val
  refine Eq.trans (b := V m c main_v92 (ix3 g ⟨256 * tile t.val + r.val, by omega⟩ d)) ?_ ?_
  · unfold iblk
    rw [View.read_apply]
    refine congrArg (V m c main_v92) ((eq_ix3 _).trans ?_)
    refine congr (congr (congrArg ix3 (Fin.ext ?_)) (Fin.ext ?_)) (Fin.ext ?_) <;> blk_simp [index6]
    exact congrArg (· + r.val) (Nat.mul_comm _ _)
  · refine (sinG_apply m c g _ d).trans ?_
    rw [pos_seen g t.val r.val t.isLt r.isLt]
/-- The retention's cosines that a point reads. -/
theorem cosC_eq (c : Dev nD) (t : Fin cfg0.N) (r : Fin 256) (d : Fin 128) :
    iblk m c 7 t (ix2 r d) = cosR (posOf (256 * t.val + r.val)) d.val := by
  have hk : tile t.val ≤ 32 := tile_le t.val
  refine Eq.trans (b := V m c main_v101 (ix2 ⟨256 * tile t.val + r.val, by omega⟩ d)) ?_ ?_
  · unfold iblk
    rw [View.read_apply]
    refine congrArg (V m c main_v101) ((eq_ix2 _).trans ?_)
    refine congr (congrArg ix2 (Fin.ext ?_)) (Fin.ext ?_) <;> blk_simp [index7]
    exact congrArg (· + r.val) (Nat.mul_comm _ _)
  · refine (cosC_apply m c _ d).trans ?_
    rw [pos_plain t.val r.val t.isLt r.isLt]
/-- The retention's signed sines that a point reads. -/
theorem sinC_eq (c : Dev nD) (t : Fin cfg0.N) (r : Fin 256) (d : Fin 128) :
    iblk m c 8 t (ix2 r d) = sinR (posOf (256 * t.val + r.val)) d.val := by
  have hk : tile t.val ≤ 32 := tile_le t.val
  refine Eq.trans (b := V m c main_v104 (ix2 ⟨256 * tile t.val + r.val, by omega⟩ d)) ?_ ?_
  · unfold iblk
    rw [View.read_apply]
    refine congrArg (V m c main_v104) ((eq_ix2 _).trans ?_)
    refine congr (congrArg ix2 (Fin.ext ?_)) (Fin.ext ?_) <;> blk_simp [index8]
    exact congrArg (· + r.val) (Nat.mul_comm _ _)
  · refine (sinC_apply m c _ d).trans ?_
    rw [pos_plain t.val r.val t.isLt r.isLt]

/-- The rows of a point's block. -/
theorem rows_eq (c : Dev nD) (t : Fin cfg0.N) (ht : t.val < 128) (r : Fin 256) (k : Fin 1024) :
    iblk m c 0 t (ix2 r k) = V m c main_arg0 (ix2 ⟨256 * t.val + r.val, by omega⟩ k) := by
  unfold iblk
  rw [View.read_apply]
  refine congrArg (V m c main_arg0) ((eq_ix2 _).trans ?_)
  refine congr (congrArg ix2 (Fin.ext ?_)) (Fin.ext ?_) <;> blk_simp [index0 t ht]
  exact congrArg (· + r.val) (Nat.mul_comm _ _)
/-- The last tile's rows, as a point reads them. -/
theorem last_eq (c : Dev nD) (t : Fin cfg0.N) (r : Fin 256) (k : Fin 1024) :
    iblk m c 1 t (ix2 r k) = V m c main_arg0 (ix2 ⟨32768 + r.val, by omega⟩ k) := by
  unfold iblk
  rw [View.read_apply]
  refine congrArg (V m c main_arg0) ((eq_ix2 _).trans ?_)
  refine congr (congrArg ix2 (Fin.ext ?_)) (Fin.ext ?_) <;> blk_simp [index1]

/-- The whole result as a function of the arguments. -/
def result (x : S33024x1024.Idx → EReal) (g1 : Gain) (w : Wts) (nvg : Vec Ideal S1x512 .f32) (qg kg : Vec Ideal S1x128 .f32) :
    S33024x10240.Idx → EReal := fun i =>
  (rowSpec (fun n k => x (ix2 n k)) (fun k => g1 (ix2 0 k)) (fun k c => w (ix2 k c)) (fun d => nvg (ix2 0 d)) (fun d => qg (ix2 0 d))
    (fun d => kg (ix2 0 d)) (i 0)).value (i 1)

/-- A point's coordinate is its number. -/
theorem coord : ∀ t : Fin cfg0.N, (grid0.coords t 0).val = t.val :=
  (by decide +kernel : ∀ t : Fin grid0.N, (grid0.coords t 0).val = t.val)

/-- The result for the arrays that the call is given. -/
abbrev whole (c : Dev nD) : S33024x10240.Idx → EReal :=
  result (V m c main_arg0) (V m c main_arg1) (V m c main_arg2) (V m c main_arg3) (V m c main_arg4) (V m c main_arg5)

/-- A point's block is its part of the result, in the prompt and past it. -/
theorem point_A (c : Dev nD) (t : Fin cfg0.N) (h0 : t.val < 128) (r : Fin 256) (d : Fin 10240) :
    G (heldA (grid0.coords t) (iblk m c 0 t) (iblk m c 1 t) (iblk m c 2 t) (iblk m c 4 t)) (iblk m c 3 t) (iblk m c 5 t) (iblk m c 6 t) (iblk m c 7 t) (iblk m c 8 t) (iblk m c 9 t) (iblk m c 10 t) (iblk m c 11 t) (ix2 r d)
      = whole m c (ix2 ⟨256 * t.val + r.val, by omega⟩ d) := by
  rw [gain_eq, weights_eq, perm_eq, nvg_eq, qg_eq, kg_eq]
  refine congrArg (fun R : Row => R.value d) (rowOf_eq _ _ _ _ _ _ _ _ _ (fun n k => V m c main_arg0 (ix2 n k)) (fun k => V m c main_arg1 (ix2 0 k)) r
    ⟨256 * t.val + r.val, by omega⟩ (fun g k => ?_) (fun g d => cos_eq m c t g r d) (fun g d => sin_eq m c t g r d) (fun d => cosC_eq m c t r d)
    (fun d => sinC_eq m c t r d))
  refine (slot_A _ (by rw [coord]; exact h0) _ _ _ _ (perm_apply m c) g r k).trans ?_
  simp only [rows_eq m c t h0]
  have e : seen g (256 * t.val + r.val) = 256 * t.val + src g r.val := by
    unfold seen
    rw [if_pos (by omega), show (256 * t.val + r.val) % 256 = r.val by omega]
    omega
  simp only [e]
/-- At the last tile the block is the result's rows. -/
theorem point_B (c : Dev nD) (t : Fin cfg0.N) (h0 : ¬t.val < 128) (r : Fin 256) (d : Fin 10240) :
    G (heldB (grid0.coords t) (iblk m c 0 t) (iblk m c 1 t) (iblk m c 2 t)) (iblk m c 3 t) (iblk m c 5 t) (iblk m c 6 t) (iblk m c 7 t) (iblk m c 8 t) (iblk m c 9 t) (iblk m c 10 t) (iblk m c 11 t) (ix2 r d)
      = whole m c (ix2 ⟨256 * t.val + r.val, by have : t.val < 129 := t.isLt; omega⟩ d) := by
  have ht : t.val < 129 := t.isLt
  rw [gain_eq, weights_eq, nvg_eq, qg_eq, kg_eq]
  refine congrArg (fun R : Row => R.value d) (rowOf_eq _ _ _ _ _ _ _ _ _ (fun n k => V m c main_arg0 (ix2 n k)) (fun k => V m c main_arg1 (ix2 0 k)) r
    ⟨256 * t.val + r.val, by omega⟩ (fun g k => ?_) (fun g d => cos_eq m c t g r d) (fun g d => sin_eq m c t g r d) (fun d => cosC_eq m c t r d)
    (fun d => sinC_eq m c t r d))
  refine (slot_B _ (by rw [coord]; exact h0) _ _ _ g r k).trans ?_
  simp only [last_eq m c t]
  have e : seen g (256 * t.val + r.val) = 32768 + r.val := by
    unfold seen
    rw [if_neg (by omega)]
    omega
  simp only [e]

/-- The same at indices of the block and of the array. -/
theorem at_index (c : Dev nD) (t : Fin cfg0.N) (f : S256x10240.Idx → EReal)
    (hf : ∀ (r : Fin 256) (d : Fin 10240), f (ix2 r d) = whole m c (ix2 ⟨256 * t.val + r.val, by have : t.val < 129 := t.isLt; omega⟩ d))
    (y : S256x10240.Idx) (i : S33024x10240.Idx) (e0 : (i 0).val = 256 * t.val + (y 0).val) (e1 : (i 1).val = (y 1).val) : f y = whole m c i := by
  rw [eq_ix2 y]
  refine (hf (y 0) (y 1)).trans (congrArg (whole m c) ?_)
  refine Eq.trans ?_ (eq_ix2 i).symm
  exact congr (congrArg ix2 (Fin.ext e0.symm)) (Fin.ext e1.symm)

/-- The kernel's result. -/
theorem final (c : Dev nD) : (dats m 0 c).arrAt 12 cfg0.N = whole m c := by
  refine (dats m 0 c).arrAt_eq_of_covers 12 _ (by decide +kernel) fun t hf y => ?_
  by_cases h0 : t.val < 128
  · refine (congrFun (flushed12_A m c t h0 (by omega)) y).trans ?_
    unfold Pipeline.Window.cut
    refine (congrFun (out_A_eq _ _ _ _ _ _ _ _ _ _ _ _ _ _ _ _ _ _ _ _ _ _ _ _ _ _ _ _ _ _ _ _ _ _ _ _ _ _ _ _ _ _
      (G (heldA (grid0.coords t) (iblk m c 0 t) (iblk m c 1 t) (iblk m c 2 t) (iblk m c 4 t)) (iblk m c 3 t) (iblk m c 5 t) (iblk m c 6 t) (iblk m c 7 t) (iblk m c 8 t) (iblk m c 9 t) (iblk m c 10 t) (iblk m c 11 t)) fun p hp => by
        have := pieces_ok _ _ _ _ _ _ _ _ _ p hp
        unfold Ok at this
        exact this) _).trans ?_
    refine at_index m c t _ (point_A m c t h0) _ _ ?_ ?_ <;> blk_simp [index12]
    exact congrArg (· + (y 0).val) (Nat.mul_comm _ _)
  · have ht : t.val < 129 := t.isLt
    refine (congrFun (flushed12_B m c t h0 (by omega)) y).trans ?_
    unfold Pipeline.Window.cut
    refine (congrFun (out_B_eq _ _ _ _ _ _ _ _ _ _ _ _ _ _ _ _ _ _ _ _ _ _ _ _ _ _ _ _ _ _ _ _ _ _ _ _ _ _ _ _ _ _
      (G (heldB (grid0.coords t) (iblk m c 0 t) (iblk m c 1 t) (iblk m c 2 t)) (iblk m c 3 t) (iblk m c 5 t) (iblk m c 6 t) (iblk m c 7 t) (iblk m c 8 t) (iblk m c 9 t) (iblk m c 10 t) (iblk m c 11 t)) fun p hp => by
        have := pieces_ok _ _ _ _ _ _ _ _ _ p hp
        unfold Ok at this
        exact this) _).trans ?_
    refine at_index m c t _ (point_B m c t h0) _ _ ?_ ?_ <;> blk_simp [index12]
    exact congrArg (· + (y 0).val) (Nat.mul_comm _ _)

end Cert.Proof.InprojValue
end
-- ==== Proof.InprojRef.lean ====
module

public import proofs.«01_k».proof.Proof.Gen.RefInprojIdeal.Read
public import proofs.«01_k».proof.Proof.InprojSpec
public import Idealize.ShloMosaic.Lib.Pointwise
public import Idealize.ShloMosaic.Lib.IdealHost

/-! The input projection of the reference, column group by column group: the projected rows, the gelu and the normed
columns, the positions and their angles, and the normed heads. -/

@[expose] public section

set_option maxRecDepth 16384

noncomputable section

namespace Cert.Proof.InprojRef

open Cert.RefInprojIdeal Cert.RefInprojIdeal.Gen Cert.RefInprojIdeal.Value Cert.RefInprojIdeal.Read Cert.Proof.Inproj Cert.Proof.Swiglu
open Idealize.ShloMosaic Idealize.ShloMosaic.TcCoe Idealize.SL.Sem Idealize.ShloMosaic.StableHlo

variable (x0 : (⟨S33024x1024, .f32⟩ : BufTy).Contents (Elt Ideal)) (x1 : (⟨S1x1024, .f32⟩ : BufTy).Contents (Elt Ideal))
  (x2 : (⟨S1024x10240, .bf16⟩ : BufTy).Contents (Elt Ideal)) (x3 : (⟨S1x512, .f32⟩ : BufTy).Contents (Elt Ideal))
  (x4 x5 : (⟨S1x128, .f32⟩ : BufTy).Contents (Elt Ideal))

/-- The reference's normalised rows. -/
theorem normed_apply (n : Fin 33024) (k : Fin 1024) :
    val_main_v25 (F := Ideal) x0 x1 (ix2 n k) = normed (fun k => x0 (ix2 n k)) (fun k => x1 (ix2 0 k)) k := by
  unfold normed scale
  pointwise [val_main_v12, val_main_v13, val_main_cst, val_main_v14, val_main_v15, val_main_cst_0, val_main_v16, val_main_v17, val_main_cst_1,
    val_main_v18, val_main_v19, val_main_v20, val_main_v21, val_main_v22, val_main_v23, val_main_v24, val_main_v25]
  try simp only [Ideal.ofBits_zero_f32, zero_add]

/-- The reference's projected numbers. -/
theorem proj_apply (n : Fin 33024) (c : Fin 10240) :
    val_main_v27 (F := Ideal) x0 x1 x2 (ix2 n c) = proj (normed (fun k => x0 (ix2 n k)) (fun k => x1 (ix2 0 k))) (fun k => x2 (ix2 k c)) := by
  unfold proj
  pointwise [val_main_v26, val_main_v27]
  simp only [normed_apply]

/-- The specification of a row, from the reference's arguments. -/
abbrev spec (n : Fin 33024) : Row :=
  rowSpec (fun n k => x0 (ix2 n k)) (fun k => x1 (ix2 0 k)) (fun k c => x2 (ix2 k c)) (fun d => x3 (ix2 0 d)) (fun d => x4 (ix2 0 d))
    (fun d => x5 (ix2 0 d)) n

/-- The specification's projected number is the reference's, at the row that the group sees. -/
theorem P_eq (n : Fin 33024) (g : Fin 3) (c : Nat) (hc : c < 10240) :
    (spec x0 x1 x2 x3 x4 x5 n).P g c hc = val_main_v27 (F := Ideal) x0 x1 x2 (ix2 ⟨seen g n.val, seen_lt g n.val n.isLt⟩ ⟨c, hc⟩) := by
  rw [proj_apply]
  rfl
/-- The first group sees every row in its own place. -/
theorem seen_first (n : Nat) : seen 0 n = n := by
  unfold seen src
  split
  · rw [if_pos (show (0 : Fin 3).val = 0 from rfl)]; omega
  · rfl
/-- The first group's projected number is the reference's at the row itself. -/
theorem P_first (n : Fin 33024) (c : Nat) (hc : c < 10240) :
    (spec x0 x1 x2 x3 x4 x5 n).P 0 c hc = val_main_v27 (F := Ideal) x0 x1 x2 (ix2 n ⟨c, hc⟩) := by
  rw [P_eq]
  simp only [seen_first]

/-- The gelu by the complementary error function is the gelu by the error function. -/
theorem half_erfc (y : EReal) : Ideal.ofBits .f32 0x3F000000#32 * y * Ideal.erfc (-y * Ideal.ofBits .f32 0x3F3504F3#32) = gelu y := by
  unfold gelu
  rw [EReal.neg_mul, Ideal.erfc_neg]

/-- The reference's first part. -/
theorem gate_apply (n : Fin 33024) (d : Fin 512) :
    val_main_v44 (F := Ideal) x0 x1 x2 (ix2 n d) = gelu (val_main_v27 (F := Ideal) x0 x1 x2 (ix2 n ⟨d.val, by omega⟩)) := by
  pointwise [val_main_v28, val_main_cst_2, val_main_v38, val_main_v39, val_main_v40, val_main_cst_3, val_main_v41, val_main_v42, val_main_v43, val_main_v44]
  exact half_erfc _
/-- The reference's gelu of the second part. -/
theorem act_apply (n : Fin 33024) (d : Fin 512) :
    val_main_v51 (F := Ideal) x0 x1 x2 (ix2 n d) = gelu (val_main_v27 (F := Ideal) x0 x1 x2 (ix2 n ⟨512 + d.val, by omega⟩)) := by
  pointwise [val_main_v29, val_main_cst_4, val_main_v45, val_main_v46, val_main_v47, val_main_cst_5, val_main_v48, val_main_v49, val_main_v50, val_main_v51]
  exact half_erfc _
/-- The reference's second part. -/
theorem vnorm_apply (n : Fin 33024) (d : Fin 512) :
    val_main_v65 (F := Ideal) x0 x1 x2 x3 (ix2 n d)
      = rnorm 0x44000000#32 (fun k : Fin 512 => gelu (val_main_v27 (F := Ideal) x0 x1 x2 (ix2 n ⟨512 + k.val, by omega⟩))) (fun k => x3 (ix2 0 k)) d := by
  unfold rnorm rscale
  pointwise [val_main_v52, val_main_v53, val_main_cst_6, val_main_v54, val_main_v55, val_main_cst_7, val_main_v56, val_main_v57, val_main_cst_8,
    val_main_v58, val_main_v59, val_main_v60, val_main_v61, val_main_v62, val_main_v63, val_main_v64, val_main_v65]
  simp only [act_apply, Ideal.ofBits_zero_f32, zero_add]

/-- The positions of the prompt rows. -/
theorem prompt_pos (n : Fin 32768) : val_main_v3 (F := Ideal) (ix1 n) = BitVec.ofNat 32 (n.val % 8192) := by
  rw [val_main_v3_apply, val_main_v2_apply, val_main_v1_apply, val_main_v0_apply]
  show BitVec.ofNat 32 (0 * 8192 + n.val % 8192) = _
  rw [Nat.zero_mul, Nat.zero_add]
/-- The positions of the sample rows. -/
theorem later_pos (n : Fin 256) : val_main_v9 (F := Ideal) (ix1 n) = 16384#32 + BitVec.ofNat 32 (n.val % 8) := by
  rw [val_main_v9_apply, val_main_v8_apply, val_main_v7_apply, val_main_v6_apply, val_main_v5_apply, val_main_v4_apply, val_main_c_apply]
  show 16384#32 + BitVec.ofNat 32 (0 * 8 + n.val % 8) = _
  rw [Nat.zero_mul, Nat.zero_add]
/-- The positions of all rows. -/
theorem pos_apply (n : Fin 33024) : val_main_v10 (F := Ideal) (ix1 n) = posOf n.val := by
  unfold posOf
  have e : val_main_v10 (F := Ideal) (ix1 n) = if h : n.val < 32768 then val_main_v3 (F := Ideal) (ix1 ⟨n.val, h⟩) else val_main_v9 (F := Ideal) (ix1 ⟨n.val - 32768, by omega⟩) := by
    pointwise [val_main_v10]
  rw [e]
  by_cases h : n.val < 32768
  · rw [dif_pos h, if_pos h, prompt_pos]
  · rw [dif_neg h, if_neg h, later_pos]

/-- The attention's angles. -/
theorem angle_apply (n : Fin 33024) (d : Fin 64) : val_main_v80 (F := Ideal) (ix2 n d) = num (posOf n.val) * freqB d.val := by
  unfold freqB
  pointwise [val_main_v11, val_main_v66, val_main_v67, val_main_cst_9, val_main_v68, val_main_v69, val_main_cst_10, val_main_v70, val_main_v71, val_main_v72,
    val_main_cst_11, val_main_v73, val_main_v74, val_main_cst_12, val_main_v75, val_main_v76, val_main_v77, val_main_v78, val_main_v79, val_main_v80]
  simp only [pos_apply, Ideal.ofBits_zero_f32, zero_add]
  rfl

/-- The retention's angles. -/
theorem angle'_apply (n : Fin 33024) (d : Fin 32) : val_main_v156 (F := Ideal) (ix2 n d) = num (posOf n.val) * freqR d.val := by
  unfold freqR step
  pointwise [val_main_v11, val_main_v147, val_main_cst_20, val_main_cst_21, val_main_call0_v0, val_main_call0_v1, val_main_call0_v2, val_main_call0_cst, val_main_call0_v3,
    val_main_call0_v4, val_main_call0_cst_0, val_main_call0_v5, val_main_call0_v6, val_main_call0_v7, val_main_call0_cst_1, val_main_call0_v8,
    val_main_call0_v9, val_main_call0_v10, val_main_call0_v11, val_main_call0_v12, val_main_call0_v13, val_main_call0_v14, val_main_call0_v15, val_main_call0_v16,
    val_main_v148, val_main_cst_22, val_main_v149, val_main_v150, val_main_cst_23, val_main_v151, val_main_v152, val_main_v153, val_main_v154, val_main_v155, val_main_v156]
  simp only [pos_apply, Ideal.ofBits_one_f32]
  by_cases h : d.val < 31
  · rw [dif_pos h, if_pos h]
    show _ * Ideal.div 1 (Ideal.pow _ (Ideal.ofBits .f32 0x00000000#32 * _ + Ideal.ofBits .f32 0x3F800000#32 * _)) = _
    rw [Ideal.ofBits_zero_f32, Ideal.ofBits_one_f32, one_mul]
    rfl
  · rw [dif_neg h, if_neg h]
    show _ * Ideal.div 1 (Ideal.pow _ (Ideal.ofBits .f32 0x3F800000#32)) = _
    rw [Ideal.ofBits_one_f32]
    rfl

/-- The reference's normalised queries. -/
theorem qnorm_apply (n : Fin 33024) (g : Fin 3) (u : Fin 4) (d : Fin 128) :
    val_main_v95 (F := Ideal) x0 x1 x2 x4 (ix4 n g u d)
      = rnorm 0x43000000#32 (fun k : Fin 128 => val_main_v27 (F := Ideal) x0 x1 x2 (ix2 n ⟨1024 + 512 * g.val + 128 * u.val + k.val, by omega⟩))
          (fun k => x4 (ix2 0 k)) d := by
  have e (k : Fin 128) : val_main_v81 (F := Ideal) x0 x1 x2 (ix4 n g u k)
      = val_main_v27 (F := Ideal) x0 x1 x2 (ix2 n ⟨1024 + 512 * g.val + 128 * u.val + k.val, by omega⟩) := by
    pointwise [val_main_v30, val_main_v81]
    exact congrArg (fun c => val_main_v27 (F := Ideal) x0 x1 x2 (ix2 n c)) (Fin.ext (by show 1024 + (g.val * 512 + u.val * 128 + k.val) = 1024 + 512 * g.val + 128 * u.val + k.val; omega))
  unfold rnorm rscale
  pointwise [val_main_v82, val_main_v83, val_main_cst_13, val_main_v84, val_main_v85, val_main_cst_14, val_main_v86, val_main_v87, val_main_cst_15,
    val_main_v88, val_main_v89, val_main_v90, val_main_v91, val_main_v92, val_main_v93, val_main_v94, val_main_v95]
  simp only [e, Ideal.ofBits_zero_f32, zero_add]

/-- The reference's normalised keys. -/
theorem knorm_apply (n : Fin 33024) (g : Fin 3) (u : Fin 4) (d : Fin 128) :
    val_main_v129 (F := Ideal) x0 x1 x2 x5 (ix4 n g u d)
      = rnorm 0x43000000#32 (fun k : Fin 128 => val_main_v27 (F := Ideal) x0 x1 x2 (ix2 n ⟨2560 + 512 * g.val + 128 * u.val + k.val, by omega⟩))
          (fun k => x5 (ix2 0 k)) d := by
  have e (k : Fin 128) : val_main_v115 (F := Ideal) x0 x1 x2 (ix4 n g u k)
      = val_main_v27 (F := Ideal) x0 x1 x2 (ix2 n ⟨2560 + 512 * g.val + 128 * u.val + k.val, by omega⟩) := by
    pointwise [val_main_v31, val_main_v115]
    exact congrArg (fun c => val_main_v27 (F := Ideal) x0 x1 x2 (ix2 n c)) (Fin.ext (by show 2560 + (g.val * 512 + u.val * 128 + k.val) = 2560 + 512 * g.val + 128 * u.val + k.val; omega))
  unfold rnorm rscale
  pointwise [val_main_v116, val_main_v117, val_main_cst_17, val_main_v118, val_main_v119, val_main_cst_18, val_main_v120, val_main_v121, val_main_cst_19,
    val_main_v122, val_main_v123, val_main_v124, val_main_v125, val_main_v126, val_main_v127, val_main_v128, val_main_v129]
  simp only [e, Ideal.ofBits_zero_f32, zero_add]

end Cert.Proof.InprojRef
end
-- ==== Proof.InprojRef2.lean ====
module

public import proofs.«01_k».proof.Proof.Gen.RefInprojIdeal.Read
public import proofs.«01_k».proof.Proof.InprojRef
public import proofs.«01_k».proof.Proof.InprojValue
public import Idealize.ShloMosaic.Lib.Pointwise
public import Idealize.ShloMosaic.Lib.IdealHost

/-! The input projection of the reference, put together: the rotated heads, the row order by phase, and the whole
result, row by row. -/

@[expose] public section

set_option maxRecDepth 16384

noncomputable section

namespace Cert.Proof.InprojRef

open Cert.RefInprojIdeal Cert.RefInprojIdeal.Gen Cert.RefInprojIdeal.Value Cert.RefInprojIdeal.Read Cert.Proof.Inproj Cert.Proof.Swiglu
open Idealize.ShloMosaic Idealize.ShloMosaic.TcCoe Idealize.SL.Sem Idealize.ShloMosaic.StableHlo

variable (x0 : (⟨S33024x1024, .f32⟩ : BufTy).Contents (Elt Ideal)) (x1 : (⟨S1x1024, .f32⟩ : BufTy).Contents (Elt Ideal))
  (x2 : (⟨S1024x10240, .bf16⟩ : BufTy).Contents (Elt Ideal)) (x3 : (⟨S1x512, .f32⟩ : BufTy).Contents (Elt Ideal))
  (x4 x5 : (⟨S1x128, .f32⟩ : BufTy).Contents (Elt Ideal))

/-- The halves of a rotated head of 128. -/
theorem turn_big (y : Fin 128 → EReal) (p : BitVec 32) (d : Fin 128) :
    (if h : d.val < 64 then y ⟨d.val, by omega⟩ * Ideal.cos (num p * freqB d.val) - y ⟨64 + d.val, by omega⟩ * Ideal.sin (num p * freqB d.val)
      else y ⟨d.val - 64, by omega⟩ * Ideal.sin (num p * freqB (d.val - 64)) + y ⟨64 + (d.val - 64), by omega⟩ * Ideal.cos (num p * freqB (d.val - 64)))
      = turn across y (fun d => cosB p d.val) (fun d => sinB p d.val) d := by
  unfold turn across cosB sinB
  beta_reduce
  by_cases h : d.val < 64
  · rw [dif_pos h, if_pos h, mul_neg, ← sub_eq_add_neg]
    simp only [show d.val % 64 = d.val by omega, show (d.val + 64) % 128 = 64 + d.val by omega]
  · rw [dif_neg h, if_neg h, add_comm]
    simp only [show d.val % 64 = d.val - 64 by omega, show (d.val + 64) % 128 = d.val - 64 by omega, show 64 + (d.val - 64) = d.val by omega]

/-- The reference's rotated queries. -/
theorem qrot_apply (n : Fin 33024) (g : Fin 3) (u : Fin 4) (d : Fin 128) :
    val_main_v112 (F := Ideal) x0 x1 x2 x4 (ix4 n g u d)
      = turn across (fun d => val_main_v95 (F := Ideal) x0 x1 x2 x4 (ix4 n g u d)) (fun d => cosB (posOf n.val) d.val) (fun d => sinB (posOf n.val) d.val) d := by
  pointwise [val_main_v96, val_main_v97, val_main_v98, val_main_v99, val_main_v100, val_main_v101, val_main_v102, val_main_v103, val_main_v104, val_main_v105, val_main_v106, val_main_v107, val_main_v108, val_main_v109, val_main_v110, val_main_v111, val_main_v112]
  simp only [angle_apply]
  exact turn_big (fun d => val_main_v95 (F := Ideal) x0 x1 x2 x4 (ix4 n g u d)) _ d
/-- The reference's rotated keys. -/
theorem krot_apply (n : Fin 33024) (g : Fin 3) (u : Fin 4) (d : Fin 128) :
    val_main_v146 (F := Ideal) x0 x1 x2 x5 (ix4 n g u d)
      = turn across (fun d => val_main_v129 (F := Ideal) x0 x1 x2 x5 (ix4 n g u d)) (fun d => cosB (posOf n.val) d.val) (fun d => sinB (posOf n.val) d.val) d := by
  pointwise [val_main_v130, val_main_v131, val_main_v132, val_main_v133, val_main_v134, val_main_v135, val_main_v136, val_main_v137, val_main_v138, val_main_v139, val_main_v140, val_main_v141, val_main_v142, val_main_v143, val_main_v144, val_main_v145, val_main_v146]
  simp only [angle_apply]
  exact turn_big (fun d => val_main_v129 (F := Ideal) x0 x1 x2 x5 (ix4 n g u d)) _ d

/-- The halves of a rotated head of 64, two heads side by side. -/
theorem turn_small (y : Fin 128 → EReal) (p : BitVec 32) (d : Fin 128) :
    (if h : d.val % 64 < 32 then y ⟨d.val, by omega⟩ * Ideal.cos (num p * freqR (d.val % 64)) - y ⟨d.val / 64 * 64 + (32 + d.val % 64), by omega⟩ * Ideal.sin (num p * freqR (d.val % 64))
      else y ⟨d.val / 64 * 64 + (d.val % 64 - 32), by omega⟩ * Ideal.sin (num p * freqR (d.val % 64 - 32)) + y ⟨d.val / 64 * 64 + (32 + (d.val % 64 - 32)), by omega⟩ * Ideal.cos (num p * freqR (d.val % 64 - 32)))
      = turn across' y (fun d => cosR p d.val) (fun d => sinR p d.val) d := by
  unfold turn across' cosR sinR
  beta_reduce
  by_cases h : d.val % 64 < 32
  · rw [dif_pos h, if_pos h, if_pos h, mul_neg, ← sub_eq_add_neg]
    simp only [show d.val % 32 = d.val % 64 by omega, show (d.val + 32) % 128 = d.val / 64 * 64 + (32 + d.val % 64) by omega]
  · rw [dif_neg h, if_neg h, if_neg h, add_comm]
    simp only [show d.val % 32 = d.val % 64 - 32 by omega, show (d.val + 96) % 128 = d.val / 64 * 64 + (d.val % 64 - 32) by omega,
      show d.val / 64 * 64 + (32 + (d.val % 64 - 32)) = d.val by omega]

/-- The halves of a rotated head of 64, seen two heads at a time. -/
theorem rot_small (y : Nat → EReal) (p : BitVec 32) (u : Fin 2) (d : Fin 128) (j : Nat) (e : j = 128 * u.val + d.val) :
    (if h : j % 64 < 32 then y j * Ideal.cos (num p * freqR (j % 64)) - y (j / 64 * 64 + (32 + j % 64)) * Ideal.sin (num p * freqR (j % 64))
      else y (j / 64 * 64 + (j % 64 - 32)) * Ideal.sin (num p * freqR (j % 64 - 32)) + y (j / 64 * 64 + (32 + (j % 64 - 32))) * Ideal.cos (num p * freqR (j % 64 - 32)))
      = turn across' (fun k => y (128 * u.val + k.val)) (fun d => cosR p d.val) (fun d => sinR p d.val) d := by
  subst e
  refine Eq.trans ?_ (turn_small (fun k => y (128 * u.val + k.val)) p d)
  have e1 : (128 * u.val + d.val) % 64 = d.val % 64 := by omega
  have e2 : (128 * u.val + d.val) / 64 * 64 = 128 * u.val + d.val / 64 * 64 := by omega
  simp only [e1, e2, Nat.add_assoc]

/-- The projected number of a column, for a column given as a plain number. -/
def col (n : Fin 33024) (c : Nat) : EReal := if h : c < 10240 then val_main_v27 (F := Ideal) x0 x1 x2 (ix2 n ⟨c, h⟩) else 0
/-- The reference's projected number, by the number of its column. -/
theorem col_eq (n : Fin 33024) (c : Nat) (h : c < 10240) : val_main_v27 (F := Ideal) x0 x1 x2 (ix2 n ⟨c, h⟩) = col x0 x1 x2 n c := by
  unfold col
  rw [dif_pos h]

/-- The reference's rotated queries of the retention. -/
theorem rq_apply (n : Fin 33024) (u : Fin 2) (d : Fin 128) (j : Fin 256) (e : j.val = 128 * u.val + d.val) :
    val_main_v252 (F := Ideal) x0 x1 x2 (ix2 n j)
      = turn across' (fun k => col x0 x1 x2 n (5632 + (128 * u.val + k.val))) (fun d => cosR (posOf n.val) d.val) (fun d => sinR (posOf n.val) d.val) d := by
  pointwise [val_main_v33, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v252]
  simp only [angle'_apply, col_eq]
  exact rot_small (fun k => col x0 x1 x2 n (5632 + k)) _ u d j.val e
/-- The reference's rotated keys of the retention. -/
theorem rk_apply (n : Fin 33024) (u : Fin 2) (d : Fin 128) (j : Fin 256) (e : j.val = 128 * u.val + d.val) :
    val_main_v253 (F := Ideal) x0 x1 x2 (ix2 n j)
      = turn across' (fun k => col x0 x1 x2 n (5888 + (128 * u.val + k.val))) (fun d => cosR (posOf n.val) d.val) (fun d => sinR (posOf n.val) d.val) d
        * Ideal.ofBits .f32 0x3E000000#32 := by
  pointwise [val_main_v34, val_main_cst_24, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v253]
  simp only [angle'_apply, col_eq]
  exact congrArg (· * Ideal.ofBits .f32 0x3E000000#32) (rot_small (fun k => col x0 x1 x2 n (5888 + k)) _ u d j.val e)

/-- The rows of the second group: the prompt's tiles in four phases, then the rest. -/
theorem phase1_apply (y : S33024x512.Idx → EReal) (n : Fin 33024) (d : Fin 512) :
    (concatenate S33024x512 0 [⟨S32768x512, shapeCast S32768x512 (transpose S128x4x64x512 [0, 2, 1, 3] (shapeCast S128x64x4x512
      (extractStridedSlice S32768x512 ![0, 0] y slices_S33024x512_S32768x512_0_0) shapeCasts_S32768x512_S128x64x4x512)
      transposes_S128x64x4x512_S128x4x64x512_0_2_1_3) shapeCasts_S128x4x64x512_S32768x512⟩,
      ⟨S256x512, extractStridedSlice S256x512 ![32768, 0] y slices_S33024x512_S256x512_32768_0⟩] concatenates_S32768x512_S256x512_S33024x512_d0) (ix2 n d)
      = y (ix2 ⟨seen 1 n.val, seen_lt 1 n.val n.isLt⟩ d) := by
  rw [concatenate_pair_apply]
  by_cases h : n.val < 32768
  · refine (dif_pos h).trans ?_
    rw [show (Shape.Idx.norm (fun b => ⟨(ix2 n d (Fin.cast rfl b)).val, match b with | ⟨0, _⟩ => h | ⟨1, _⟩ => d.isLt⟩) : S32768x512.Idx)
      = ix2 (⟨n.val, h⟩ : Fin 32768) d from funext fun a => match a with | ⟨0, _⟩ => rfl | ⟨1, _⟩ => rfl]
    pointwise []
    refine congrArg (fun r => y (ix2 r d)) (Fin.ext ?_)
    show n.val / 256 * 256 + n.val % 64 * 4 + n.val / 64 % 4 = seen 1 n.val
    unfold seen src
    rw [if_pos h, if_neg (show ¬(1 : Fin 3).val = 0 by decide), if_pos (show (1 : Fin 3).val = 1 from rfl)]
    omega
  · refine (dif_neg h).trans ?_
    pointwise []
    refine congrArg (fun r => y (ix2 r d)) (Fin.ext ?_)
    show 32768 + (n.val - 32768) = seen 1 n.val
    unfold seen
    rw [if_neg h]
    omega
/-- The rows of the third group: in sixteen phases. -/
theorem phase2_apply (y : S33024x512.Idx → EReal) (n : Fin 33024) (d : Fin 512) :
    (concatenate S33024x512 0 [⟨S32768x512, shapeCast S32768x512 (transpose S128x16x16x512 [0, 2, 1, 3] (shapeCast S128x16x16x512
      (extractStridedSlice S32768x512 ![0, 0] y slices_S33024x512_S32768x512_0_0) shapeCasts_S32768x512_S128x16x16x512)
      transposes_S128x16x16x512_S128x16x16x512_0_2_1_3) shapeCasts_S128x16x16x512_S32768x512⟩,
      ⟨S256x512, extractStridedSlice S256x512 ![32768, 0] y slices_S33024x512_S256x512_32768_0⟩] concatenates_S32768x512_S256x512_S33024x512_d0) (ix2 n d)
      = y (ix2 ⟨seen 2 n.val, seen_lt 2 n.val n.isLt⟩ d) := by
  rw [concatenate_pair_apply]
  by_cases h : n.val < 32768
  · refine (dif_pos h).trans ?_
    rw [show (Shape.Idx.norm (fun b => ⟨(ix2 n d (Fin.cast rfl b)).val, match b with | ⟨0, _⟩ => h | ⟨1, _⟩ => d.isLt⟩) : S32768x512.Idx)
      = ix2 (⟨n.val, h⟩ : Fin 32768) d from funext fun a => match a with | ⟨0, _⟩ => rfl | ⟨1, _⟩ => rfl]
    pointwise []
    refine congrArg (fun r => y (ix2 r d)) (Fin.ext ?_)
    show n.val / 256 * 256 + n.val % 16 * 16 + n.val / 16 % 16 = seen 2 n.val
    unfold seen src
    rw [if_pos h, if_neg (show ¬(2 : Fin 3).val = 0 by decide), if_neg (show ¬(2 : Fin 3).val = 1 by decide)]
    omega
  · refine (dif_neg h).trans ?_
    pointwise []
    refine congrArg (fun r => y (ix2 r d)) (Fin.ext ?_)
    show 32768 + (n.val - 32768) = seen 2 n.val
    unfold seen
    rw [if_neg h]
    omega
/-- The first group's queries keep the row order. -/
theorem q0_apply (n : Fin 33024) (d : Fin 512) : val_main_v197 (F := Ideal) x0 x1 x2 x4 (ix2 n d) = val_main_v195 (F := Ideal) x0 x1 x2 x4 (ix3 n 0 d) := by
  pointwise [val_main_v196, val_main_v197]
/-- The second group's queries are in the order of four phases. -/
theorem q1_apply (n : Fin 33024) (d : Fin 512) :
    val_main_v205 (F := Ideal) x0 x1 x2 x4 (ix2 n d) = val_main_v195 (F := Ideal) x0 x1 x2 x4 (ix3 ⟨seen 1 n.val, seen_lt 1 n.val n.isLt⟩ 1 d) := by
  have hy (n : Fin 33024) (d : Fin 512) : val_main_v199 (F := Ideal) x0 x1 x2 x4 (ix2 n d) = val_main_v195 (F := Ideal) x0 x1 x2 x4 (ix3 n 1 d) := by
    pointwise [val_main_v198, val_main_v199]
  rw [← hy]
  exact phase1_apply (val_main_v199 (F := Ideal) x0 x1 x2 x4) n d
/-- The third group's queries are in the order of sixteen phases. -/
theorem q2_apply (n : Fin 33024) (d : Fin 512) :
    val_main_v213 (F := Ideal) x0 x1 x2 x4 (ix2 n d) = val_main_v195 (F := Ideal) x0 x1 x2 x4 (ix3 ⟨seen 2 n.val, seen_lt 2 n.val n.isLt⟩ 2 d) := by
  have hy (n : Fin 33024) (d : Fin 512) : val_main_v207 (F := Ideal) x0 x1 x2 x4 (ix2 n d) = val_main_v195 (F := Ideal) x0 x1 x2 x4 (ix3 n 2 d) := by
    pointwise [val_main_v206, val_main_v207]
  rw [← hy]
  exact phase2_apply (val_main_v207 (F := Ideal) x0 x1 x2 x4) n d
/-- The first group's keys keep the row order. -/
theorem k0_apply (n : Fin 33024) (d : Fin 512) : val_main_v216 (F := Ideal) x0 x1 x2 x5 (ix2 n d) = val_main_v214 (F := Ideal) x0 x1 x2 x5 (ix3 n 0 d) := by
  pointwise [val_main_v215, val_main_v216]
/-- The second group's keys are in the order of four phases. -/
theorem k1_apply (n : Fin 33024) (d : Fin 512) :
    val_main_v224 (F := Ideal) x0 x1 x2 x5 (ix2 n d) = val_main_v214 (F := Ideal) x0 x1 x2 x5 (ix3 ⟨seen 1 n.val, seen_lt 1 n.val n.isLt⟩ 1 d) := by
  have hy (n : Fin 33024) (d : Fin 512) : val_main_v218 (F := Ideal) x0 x1 x2 x5 (ix2 n d) = val_main_v214 (F := Ideal) x0 x1 x2 x5 (ix3 n 1 d) := by
    pointwise [val_main_v217, val_main_v218]
  rw [← hy]
  exact phase1_apply (val_main_v218 (F := Ideal) x0 x1 x2 x5) n d
/-- The third group's keys are in the order of sixteen phases. -/
theorem k2_apply (n : Fin 33024) (d : Fin 512) :
    val_main_v232 (F := Ideal) x0 x1 x2 x5 (ix2 n d) = val_main_v214 (F := Ideal) x0 x1 x2 x5 (ix3 ⟨seen 2 n.val, seen_lt 2 n.val n.isLt⟩ 2 d) := by
  have hy (n : Fin 33024) (d : Fin 512) : val_main_v226 (F := Ideal) x0 x1 x2 x5 (ix2 n d) = val_main_v214 (F := Ideal) x0 x1 x2 x5 (ix3 n 2 d) := by
    pointwise [val_main_v225, val_main_v226]
  rw [← hy]
  exact phase2_apply (val_main_v226 (F := Ideal) x0 x1 x2 x5) n d
/-- The first group's values keep the row order. -/
theorem v0_apply (n : Fin 33024) (d : Fin 512) : val_main_v235 (F := Ideal) x0 x1 x2 (ix2 n d) = val_main_v233 (F := Ideal) x0 x1 x2 (ix3 n 0 d) := by
  pointwise [val_main_v234, val_main_v235]
/-- The second group's values are in the order of four phases. -/
theorem v1_apply (n : Fin 33024) (d : Fin 512) :
    val_main_v243 (F := Ideal) x0 x1 x2 (ix2 n d) = val_main_v233 (F := Ideal) x0 x1 x2 (ix3 ⟨seen 1 n.val, seen_lt 1 n.val n.isLt⟩ 1 d) := by
  have hy (n : Fin 33024) (d : Fin 512) : val_main_v237 (F := Ideal) x0 x1 x2 (ix2 n d) = val_main_v233 (F := Ideal) x0 x1 x2 (ix3 n 1 d) := by
    pointwise [val_main_v236, val_main_v237]
  rw [← hy]
  exact phase1_apply (val_main_v237 (F := Ideal) x0 x1 x2) n d
/-- The third group's values are in the order of sixteen phases. -/
theorem v2_apply (n : Fin 33024) (d : Fin 512) :
    val_main_v251 (F := Ideal) x0 x1 x2 (ix2 n d) = val_main_v233 (F := Ideal) x0 x1 x2 (ix3 ⟨seen 2 n.val, seen_lt 2 n.val n.isLt⟩ 2 d) := by
  have hy (n : Fin 33024) (d : Fin 512) : val_main_v245 (F := Ideal) x0 x1 x2 (ix2 n d) = val_main_v233 (F := Ideal) x0 x1 x2 (ix3 n 2 d) := by
    pointwise [val_main_v244, val_main_v245]
  rw [← hy]
  exact phase2_apply (val_main_v245 (F := Ideal) x0 x1 x2) n d

/-- The columns of the queries, keys and values, as the specification has them. -/
theorem q_value (n : Fin 33024) (g : Fin 3) (d : Fin 512) (c : Fin 10240) (e : c.val = 1024 + 512 * g.val + d.val) :
    val_main_v195 (F := Ideal) x0 x1 x2 x4 (ix3 ⟨seen g n.val, seen_lt g n.val n.isLt⟩ g d) = (spec x0 x1 x2 x3 x4 x5 n).value c := by
  rw [Row.value_qhead _ g ⟨d.val / 128, by omega⟩ ⟨d.val % 128, by omega⟩ c (by rw [e]; show _ = 1024 + 512 * g.val + 128 * (d.val / 128) + d.val % 128; omega)]
  unfold Row.qhead
  simp only [P_eq]
  generalize hm : (⟨seen g n.val, seen_lt g n.val n.isLt⟩ : Fin 33024) = q
  have hq : seen g n.val = q.val := congrArg Fin.val hm
  pointwise [val_main_cst_16, val_main_v113, val_main_v114, val_main_v195]
  rw [qrot_apply]
  simp only [qnorm_apply]
  show _ = turn across _ (fun d : Fin 128 => cosB (posOf (seen g n.val)) d.val) (fun d : Fin 128 => sinB (posOf (seen g n.val)) d.val) _ * _
  rw [hq]
  rfl
/-- The keys of a group, at the row that the group sees, are the specification's. -/
theorem k_value (n : Fin 33024) (g : Fin 3) (d : Fin 512) (c : Fin 10240) (e : c.val = 2560 + 512 * g.val + d.val) :
    val_main_v214 (F := Ideal) x0 x1 x2 x5 (ix3 ⟨seen g n.val, seen_lt g n.val n.isLt⟩ g d) = (spec x0 x1 x2 x3 x4 x5 n).value c := by
  rw [Row.value_khead _ g ⟨d.val / 128, by omega⟩ ⟨d.val % 128, by omega⟩ c (by rw [e]; show _ = 2560 + 512 * g.val + 128 * (d.val / 128) + d.val % 128; omega)]
  unfold Row.khead
  simp only [P_eq]
  generalize hm : (⟨seen g n.val, seen_lt g n.val n.isLt⟩ : Fin 33024) = q
  have hq : seen g n.val = q.val := congrArg Fin.val hm
  pointwise [val_main_v214]
  rw [krot_apply]
  simp only [knorm_apply]
  show _ = turn across _ (fun d : Fin 128 => cosB (posOf (seen g n.val)) d.val) (fun d : Fin 128 => sinB (posOf (seen g n.val)) d.val) _
  rw [hq]
  rfl
/-- The values of a group, at the row that the group sees, are the specification's. -/
theorem v_value (n : Fin 33024) (g : Fin 3) (d : Fin 512) (c : Fin 10240) (e : c.val = 4096 + 512 * g.val + d.val) :
    val_main_v233 (F := Ideal) x0 x1 x2 (ix3 ⟨seen g n.val, seen_lt g n.val n.isLt⟩ g d) = (spec x0 x1 x2 x3 x4 x5 n).value c := by
  rw [Row.value_values _ g d c e]
  unfold Row.values
  rw [P_eq]
  pointwise [val_main_v32, val_main_v233]
  exact congrArg (fun c => val_main_v27 (F := Ideal) x0 x1 x2 (ix2 _ c)) (Fin.ext (by show 4096 + (g.val * 512 + d.val) = 4096 + 512 * g.val + d.val; omega))

/-- Likewise the other columns. -/
theorem gate_value (n : Fin 33024) (d : Fin 512) (c : Fin 10240) (e : c.val = d.val) :
    val_main_v44 (F := Ideal) x0 x1 x2 (ix2 n d) = (spec x0 x1 x2 x3 x4 x5 n).value c := by
  rw [Row.value_gate _ d c e, gate_apply]
  unfold Row.gate
  rw [P_first]
/-- The normalised gelu is the specification's. -/
theorem vnorm_value (n : Fin 33024) (d : Fin 512) (c : Fin 10240) (e : c.val = 512 + d.val) :
    val_main_v65 (F := Ideal) x0 x1 x2 x3 (ix2 n d) = (spec x0 x1 x2 x3 x4 x5 n).value c := by
  rw [Row.value_vnorm _ d c e, vnorm_apply]
  unfold Row.vnorm
  simp only [P_first]
  rfl
/-- The retention's queries are the specification's. -/
theorem rq_value (n : Fin 33024) (j : Fin 256) (c : Fin 10240) (e : c.val = 5632 + j.val) :
    val_main_v252 (F := Ideal) x0 x1 x2 (ix2 n j) = (spec x0 x1 x2 x3 x4 x5 n).value c := by
  rw [Row.value_ret _ ⟨j.val / 128, by omega⟩ ⟨j.val % 128, by omega⟩ c (by rw [e]; show _ = 5632 + 128 * (j.val / 128) + j.val % 128; omega),
    rq_apply x0 x1 x2 n ⟨j.val / 128, by omega⟩ ⟨j.val % 128, by omega⟩ j (by show _ = 128 * (j.val / 128) + j.val % 128; omega)]
  unfold Row.ret
  rw [if_pos (by show j.val / 128 < 2; omega), mul_one]
  simp only [P_first, col_eq]
  simp only [Nat.add_assoc]
  rfl
/-- The retention's keys are the specification's. -/
theorem rk_value (n : Fin 33024) (j : Fin 256) (c : Fin 10240) (e : c.val = 5888 + j.val) :
    val_main_v253 (F := Ideal) x0 x1 x2 (ix2 n j) = (spec x0 x1 x2 x3 x4 x5 n).value c := by
  rw [Row.value_ret _ ⟨2 + j.val / 128, by omega⟩ ⟨j.val % 128, by omega⟩ c (by rw [e]; show _ = 5632 + 128 * (2 + j.val / 128) + j.val % 128; omega),
    rk_apply x0 x1 x2 n ⟨j.val / 128, by omega⟩ ⟨j.val % 128, by omega⟩ j (by show _ = 128 * (j.val / 128) + j.val % 128; omega)]
  unfold Row.ret
  rw [if_neg (by show ¬2 + j.val / 128 < 2; omega)]
  simp only [P_first, col_eq]
  have e (k : Fin 128) : 5632 + 128 * (2 + j.val / 128) + k.val = 5888 + (128 * (j.val / 128) + k.val) := by omega
  simp only [e]
  rfl
/-- The retention's values are the specification's. -/
theorem retv_value (n : Fin 33024) (d : Fin 512) (c : Fin 10240) (e : c.val = 6144 + d.val) :
    val_main_v35 (F := Ideal) x0 x1 x2 (ix2 n d) = (spec x0 x1 x2 x3 x4 x5 n).value c := by
  rw [Row.value_retv _ d c e]
  unfold Row.retv
  rw [P_first]
  pointwise [val_main_v35]
/-- The retention's gate is the specification's. -/
theorem retg_value (n : Fin 33024) (d : Fin 512) (c : Fin 10240) (e : c.val = 6656 + d.val) :
    val_main_v254 (F := Ideal) x0 x1 x2 (ix2 n d) = (spec x0 x1 x2 x3 x4 x5 n).value c := by
  rw [Row.value_retg _ d c e]
  unfold Row.retg logi
  rw [P_first]
  pointwise [val_main_v36, val_main_call1_v0, val_main_call1_v1, val_main_call1_cst, val_main_call1_v2, val_main_call1_v3, val_main_call1_cst_0,
    val_main_call1_v4, val_main_call1_v5, val_main_v254]
  try simp only [Ideal.ofBits_one_f32]
/-- The branch gates are the specification's. -/
theorem gates_value (n : Fin 33024) (d : Fin 3072) (c : Fin 10240) (e : c.val = 7168 + d.val) :
    val_main_v260 (F := Ideal) x0 x1 x2 (ix2 n d) = (spec x0 x1 x2 x3 x4 x5 n).value c := by
  rw [Row.value_gates _ d c e]
  unfold Row.gates logi
  rw [P_first]
  pointwise [val_main_v37, val_main_v255, val_main_v256, val_main_cst_25, val_main_v257, val_main_v258, val_main_cst_26, val_main_v259, val_main_v260]
  try simp only [Ideal.ofBits_one_f32]
/-- The first group's queries are the specification's. -/
theorem q_first (n : Fin 33024) (d : Fin 512) (c : Fin 10240) (e : c.val = 1024 + d.val) :
    val_main_v195 (F := Ideal) x0 x1 x2 x4 (ix3 n 0 d) = (spec x0 x1 x2 x3 x4 x5 n).value c := by
  have h := q_value x0 x1 x2 x3 x4 x5 n 0 d c (by show c.val = 1024 + 512 * 0 + d.val; omega)
  simp only [seen_first] at h
  exact h
/-- The first group's keys are the specification's. -/
theorem k_first (n : Fin 33024) (d : Fin 512) (c : Fin 10240) (e : c.val = 2560 + d.val) :
    val_main_v214 (F := Ideal) x0 x1 x2 x5 (ix3 n 0 d) = (spec x0 x1 x2 x3 x4 x5 n).value c := by
  have h := k_value x0 x1 x2 x3 x4 x5 n 0 d c (by show c.val = 2560 + 512 * 0 + d.val; omega)
  simp only [seen_first] at h
  exact h
/-- The first group's values are the specification's. -/
theorem v_first (n : Fin 33024) (d : Fin 512) (c : Fin 10240) (e : c.val = 4096 + d.val) :
    val_main_v233 (F := Ideal) x0 x1 x2 (ix3 n 0 d) = (spec x0 x1 x2 x3 x4 x5 n).value c := by
  have h := v_value x0 x1 x2 x3 x4 x5 n 0 d c (by show c.val = 4096 + 512 * 0 + d.val; omega)
  simp only [seen_first] at h
  exact h

/-- A concatenation along the columns, one piece at a time. -/
theorem cat_step (w : Nat) (x : (⟨2, ![33024, w]⟩ : Shape).Idx → EReal) (q : (s : Shape) × (s.Idx → EReal)) (xs : List ((s : Shape) × (s.Idx → EReal)))
    (n : Fin 33024) (c : Fin 10240) (e : Nat) (T : EReal) (hs) (he) (h0 : ∀ d : Fin w, d.val = e → x (ix2 n d) = T)
    (h1 : ¬e < w → ∀ hs he, concatenateAt S33024x10240 1 (ix2 n c) (q :: xs) hs (e - w) he = T) :
    concatenateAt S33024x10240 1 (ix2 n c) (⟨⟨2, ![33024, w]⟩, x⟩ :: q :: xs) hs e he = T := by
  rw [concatenateAt_cons]
  by_cases h : e < w
  · refine (dif_pos h).trans (Eq.trans (congrArg x ?_) (h0 ⟨e, h⟩ rfl))
    exact funext fun a => match a with | ⟨0, _⟩ => rfl | ⟨1, _⟩ => rfl
  · exact (dif_neg h).trans (h1 h _ _)

/-- The last piece of a concatenation along the columns. -/
theorem cat_last (w : Nat) (x : (⟨2, ![33024, w]⟩ : Shape).Idx → EReal) (n : Fin 33024) (c : Fin 10240) (e : Nat) (T : EReal) (hs) (he)
    (h : e < w) (h0 : ∀ d : Fin w, d.val = e → x (ix2 n d) = T) :
    concatenateAt S33024x10240 1 (ix2 n c) [⟨⟨2, ![33024, w]⟩, x⟩] hs e he = T := by
  rw [concatenateAt_singleton]
  refine Eq.trans (congrArg x ?_) (h0 ⟨e, h⟩ rfl)
  exact funext fun a => match a with | ⟨0, _⟩ => rfl | ⟨1, _⟩ => rfl

/-- The reference's result is the specification's, row by row. -/
theorem result_apply (n : Fin 33024) (c : Fin 10240) :
    val_main_v262 (F := Ideal) x0 x1 x2 x3 x4 x5 (ix2 n c) = (spec x0 x1 x2 x3 x4 x5 n).value c := by
  show val_main_v261 (F := Ideal) x0 x1 x2 x3 x4 x5 (ix2 n c) = _
  unfold val_main_v261
  rw [concatenate_cons_apply]
  show concatenateAt _ _ _ _ _ c.val _ = _
  refine cat_step 512 _ _ _ n c _ _ _ _ (fun d e => gate_value x0 x1 x2 x3 x4 x5 n d c (by omega)) fun h0 hs he => ?_
  refine cat_step 512 _ _ _ n c _ _ _ _ (fun d e => vnorm_value x0 x1 x2 x3 x4 x5 n d c (by omega)) fun h1 hs he => ?_
  refine cat_step 512 _ _ _ n c _ _ _ _ (fun d e => ((q0_apply x0 x1 x2 x4 n d).trans (q_first x0 x1 x2 x3 x4 x5 n d c (by omega)))) fun h2 hs he => ?_
  refine cat_step 512 _ _ _ n c _ _ _ _ (fun d e => (q1_apply x0 x1 x2 x4 n d).trans (q_value x0 x1 x2 x3 x4 x5 n 1 d c (by show c.val = 1024 + 512 * 1 + d.val; omega))) fun h3 hs he => ?_
  refine cat_step 512 _ _ _ n c _ _ _ _ (fun d e => (q2_apply x0 x1 x2 x4 n d).trans (q_value x0 x1 x2 x3 x4 x5 n 2 d c (by show c.val = 1024 + 512 * 2 + d.val; omega))) fun h4 hs he => ?_
  refine cat_step 512 _ _ _ n c _ _ _ _ (fun d e => ((k0_apply x0 x1 x2 x5 n d).trans (k_first x0 x1 x2 x3 x4 x5 n d c (by omega)))) fun h5 hs he => ?_
  refine cat_step 512 _ _ _ n c _ _ _ _ (fun d e => (k1_apply x0 x1 x2 x5 n d).trans (k_value x0 x1 x2 x3 x4 x5 n 1 d c (by show c.val = 2560 + 512 * 1 + d.val; omega))) fun h6 hs he => ?_
  refine cat_step 512 _ _ _ n c _ _ _ _ (fun d e => (k2_apply x0 x1 x2 x5 n d).trans (k_value x0 x1 x2 x3 x4 x5 n 2 d c (by show c.val = 2560 + 512 * 2 + d.val; omega))) fun h7 hs he => ?_
  refine cat_step 512 _ _ _ n c _ _ _ _ (fun d e => ((v0_apply x0 x1 x2 n d).trans (v_first x0 x1 x2 x3 x4 x5 n d c (by omega)))) fun h8 hs he => ?_
  refine cat_step 512 _ _ _ n c _ _ _ _ (fun d e => (v1_apply x0 x1 x2 n d).trans (v_value x0 x1 x2 x3 x4 x5 n 1 d c (by show c.val = 4096 + 512 * 1 + d.val; omega))) fun h9 hs he => ?_
  refine cat_step 512 _ _ _ n c _ _ _ _ (fun d e => (v2_apply x0 x1 x2 n d).trans (v_value x0 x1 x2 x3 x4 x5 n 2 d c (by show c.val = 4096 + 512 * 2 + d.val; omega))) fun h10 hs he => ?_
  refine cat_step 256 _ _ _ n c _ _ _ _ (fun d e => rq_value x0 x1 x2 x3 x4 x5 n d c (by omega)) fun h11 hs he => ?_
  refine cat_step 256 _ _ _ n c _ _ _ _ (fun d e => rk_value x0 x1 x2 x3 x4 x5 n d c (by omega)) fun h12 hs he => ?_
  refine cat_step 512 _ _ _ n c _ _ _ _ (fun d e => retv_value x0 x1 x2 x3 x4 x5 n d c (by omega)) fun h13 hs he => ?_
  refine cat_step 512 _ _ _ n c _ _ _ _ (fun d e => retg_value x0 x1 x2 x3 x4 x5 n d c (by omega)) fun h14 hs he => ?_
  exact cat_last 3072 _ n c _ _ _ _ (by omega) fun d e => gates_value x0 x1 x2 x3 x4 x5 n d c (by omega)

/-- The reference's result is the array that the kernel leaves for the same arguments. -/
theorem result_eq : val_main_v262 (F := Ideal) x0 x1 x2 x3 x4 x5 = InprojValue.result x0 x1 x2 x3 x4 x5 := by
  funext i
  rw [eq_ix2 i]
  exact result_apply x0 x1 x2 x3 x4 x5 (i 0) (i 1)

end Cert.Proof.InprojRef
end
-- ==== Proof.lean ====
/- The claims of this directory, assembled from the modules under proof/Proof/. -/
module

public import proofs.«01_k».proof.Defs
public import proofs.«01_k».proof.Proof.Gen.Swa2
public import proofs.«01_k».proof.Proof.Gen.Swa2.Skeleton
public import proofs.«01_k».proof.Proof.Gen.Swa2.Launch
public import proofs.«01_k».proof.Proof.Gen.Swa2.Points
public import proofs.«01_k».proof.Proof.Gen.Swa2.Frame
public import proofs.«01_k».proof.Proof.Gen.Swa2Ideal
public import proofs.«01_k».proof.Proof.Gen.Swa2Ideal.Skeleton
public import proofs.«01_k».proof.Proof.Gen.Swa2Ideal.Launch
public import proofs.«01_k».proof.Proof.Gen.Swa2Ideal.Points
public import proofs.«01_k».proof.Proof.Gen.Swa2Ideal.Frame
public import proofs.«01_k».proof.Proof.Gen.Swa2Ideal.Value
public import proofs.«01_k».proof.Proof.Gen.Ref2Ideal
public import proofs.«01_k».proof.Proof.Gen.Ref2Ideal.Run
public import proofs.«01_k».proof.Proof.Gen.Ref2Ideal.Read
public import proofs.«01_k».proof.Proof.Gen.Pre_finite_queries_keys
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.RefDenseIdeal
public import proofs.«01_k».proof.Proof.Gen.RefDenseIdeal.Run
public import proofs.«01_k».proof.Proof.Gen.RefDenseIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.RefExpertsIdeal
public import proofs.«01_k».proof.Proof.Gen.RefExpertsIdeal.Run
public import proofs.«01_k».proof.Proof.Gen.RefExpertsIdeal.Read
public import proofs.«01_k».proof.Proof.Gen.Pre_experts_exist
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.RefInprojIdeal
public import proofs.«01_k».proof.Proof.Gen.RefInprojIdeal.Run
public import proofs.«01_k».proof.Proof.Gen.RefInprojIdeal.Read
public import proofs.«01_k».proof.Proof.Precondition
public import proofs.«01_k».proof.Proof.DenseRef
public import proofs.«01_k».proof.Proof.ExpertsRef
public import proofs.«01_k».proof.Proof.ExpertsPre
public import proofs.«01_k».proof.Proof.InprojValue
public import proofs.«01_k».proof.Proof.InprojRef2
public import Idealize.ShloMosaic.Adequacy
public import Idealize.ShloMosaic.Init

@[expose] public section

noncomputable section

namespace Cert.Proof

open Idealize.ShloMosaic Idealize.SL.Sem Cert.Swa2

/-- Where the group's queries and keys are finite, the kernel and the reference leave the same attention and the same
    log-sum-exps. -/
theorem attention : Cert.algebraic_Swa2Ideal_Ref2Ideal_pre_finite_queries_keys (hSwa2Ideal := Cert.Swa2Ideal.Gen.facts)
    (hRef2Ideal := Cert.Ref2Ideal.Gen.facts) (hPre_finite_queries_keys := Cert.Pre_finite_queries_keys.Gen.facts) := by
  intro m g m' g' hpre hag
  refine ⟨fun c => Cert.Proof.ArrayValue.outArr (Cert.Proof.ArrayValue.arg m c),
    fun c => Cert.Proof.ArrayValue.lseArr (Cert.Proof.ArrayValue.arg m c), ?_, ?_⟩
  · refine (θ_run _ _ _).mono (fun r h c => ⟨(h c).1.trans ?_, (h c).2.1.trans ?_, (h c).2.2⟩) (Cert.Swa2Ideal.Value.run_blocks m g)
    · exact Cert.Proof.ArrayValue.out_final m c
    · exact Cert.Proof.ArrayValue.lse_final m c
  · refine (θ_run _ _ _).mono (fun r h c => ⟨(h c).1.trans ?_, (h c).2.1.trans ?_, (h c).2.2⟩) (Cert.Ref2Ideal.Value.run (F := Ideal) m' g')
    · rw [Cert.Ref2Ideal.Read.val_main_v95_eq, hag c]
      exact (Cert.Proof.Equation.out_eq (@Cert.Proof.Precondition.finite_of_pre Cert.Pre_finite_queries_keys.Gen.facts _ (hpre c))).symm
    · rw [Cert.Ref2Ideal.Read.val_main_v100_eq, hag c]
      exact Cert.Proof.Equation.lse_eq.symm

/-- The reference runs to its end, leaves its argument as it was, and declares no semaphore. -/
theorem reference_frame : Cert.quiescent_Ref2Ideal (hRef2Ideal := Cert.Ref2Ideal.Gen.facts) := fun m g _ =>
  (θ_run Cert.Ref2Ideal.defs _ _).mono
    (fun r h => ⟨fun c => (h c).2.2, Idealize.ShloMosaic.sem_eq_zero_of_no_sems (by decide) r.2⟩)
    (Cert.Ref2Ideal.Value.run (F := Ideal) m g)

/-- The dense feed-forward kernel and its reference leave the same rows. -/
theorem dense : Cert.algebraic_DenseIdeal_RefDenseIdeal (hDenseIdeal := Cert.DenseIdeal.Gen.facts)
    (hRefDenseIdeal := Cert.RefDenseIdeal.Gen.facts) := by
  intro m g m' g' _ hag
  refine ⟨fun c => DenseValue.result (DenseValue.argX m c) (DenseValue.argG m c) (DenseValue.argW1 m c) (DenseValue.argW3 m c)
    (DenseValue.argW2 m c), ?_, ?_⟩
  · exact (θ_run _ _ _).mono (fun r h c => ⟨(h c).1.trans (DenseValue.final m c), (h c).2⟩) (Cert.DenseIdeal.Value.run_blocks m g)
  · refine (θ_run _ _ _).mono (fun r h c => ⟨(h c).1.trans ?_, (h c).2⟩) (Cert.RefDenseIdeal.Value.run (F := Ideal) m' g')
    rw [Cert.RefDenseIdeal.Read.val_main_v22_eq, (hag c).1, (hag c).2.1, (hag c).2.2.1, (hag c).2.2.2.1, (hag c).2.2.2.2]
    exact DenseRef.result_eq _ _ _ _ _

/-- The dense reference runs to its end, leaves its arguments as they were, and declares no semaphore. -/
theorem dense_reference_frame : Cert.quiescent_RefDenseIdeal (hRefDenseIdeal := Cert.RefDenseIdeal.Gen.facts) := fun m g _ =>
  (θ_run Cert.RefDenseIdeal.defs _ _).mono
    (fun r h => ⟨fun c => (h c).2, Idealize.ShloMosaic.sem_eq_zero_of_no_sems (by decide) r.2⟩)
    (Cert.RefDenseIdeal.Value.run (F := Ideal) m g)

/-- Under the experts' precondition, the first argument names one of the eight experts for every tile. -/
theorem experts_named {m : (ℓ : Loc Cert.ExpertsIdeal.nD Cert.ExpertsIdeal.τ Cert.ExpertsIdeal.sig) → Buf (Elt Ideal) ℓ}
    (h : Cert.Pre_ExpertsIdeal (hPre_experts_exist := Cert.Pre_experts_exist.Gen.facts) m) (j : Cert.ExpertsIdeal.S152.Idx) :
    ((m (((0 : Dev Cert.ExpertsIdeal.nD).tc : Thread Cert.ExpertsIdeal.nD Cert.ExpertsIdeal.τ).loc Cert.ExpertsIdeal.main_arg0)
      : Cert.ExpertsIdeal.S152.Idx → BitVec 32) j).toNat < 8 :=
  @ExpertsPre.named_of_pre Cert.Pre_experts_exist.Gen.facts Ideal _ _ _ _ _ _ _ (h 0) j

/-- Where every tile's expert exists, the experts' kernel and its reference leave the same rows. -/
theorem experts : Cert.algebraic_ExpertsIdeal_RefExpertsIdeal (hExpertsIdeal := Cert.ExpertsIdeal.Gen.facts)
    (hRefExpertsIdeal := Cert.RefExpertsIdeal.Gen.facts) (hPre_experts_exist := Cert.Pre_experts_exist.Gen.facts) := by
  intro m g m' g' hpre hag
  have hh := experts_named hpre
  refine ⟨fun c => ExpertsValue.result (ExpertsFrame.T0 (ExpertsFrame.tablesOf m hh)) (ExpertsValue.count (ExpertsFrame.tablesOf m hh))
    (ExpertsValue.argX m c) (ExpertsValue.argW1 m c) (ExpertsValue.argW3 m c) (ExpertsValue.argW2 m c), ?_, ?_⟩
  · exact (θ_run _ _ _).mono (fun r h c => ⟨((h.1 c).1 4).trans (ExpertsValue.final (ExpertsFrame.tablesOf m hh) m g hh c),
      ExpertsFrame.unchanged (ExpertsFrame.tablesOf m hh) m g (ExpertsFrame.tablesOf_spec m hh) h.1 c⟩)
      (ExpertsFrame.run (ExpertsFrame.tablesOf m hh) m g (ExpertsFrame.tablesOf_spec m hh))
  · refine (θ_run _ _ _).mono (fun r h c => ⟨(h c).1.trans ?_, (h c).2⟩) (Cert.RefExpertsIdeal.Value.run (F := Ideal) m' g')
    rw [Cert.RefExpertsIdeal.Read.val_main_v36_eq, (hag c).1, (hag c).2.1, (hag c).2.2.1, (hag c).2.2.2.1, (hag c).2.2.2.2.1,
      (hag c).2.2.2.2.2]
    obtain rfl : c = 0 := Subsingleton.elim _ _
    exact ExpertsRef.result_eq _ hh _ _ _ _ _

/-- The experts' reference runs to its end, leaves its arguments as they were, and declares no semaphore. -/
theorem experts_reference_frame : Cert.quiescent_RefExpertsIdeal (hRefExpertsIdeal := Cert.RefExpertsIdeal.Gen.facts) := fun m g _ =>
  (θ_run Cert.RefExpertsIdeal.defs _ _).mono
    (fun r h => ⟨fun c => (h c).2, Idealize.ShloMosaic.sem_eq_zero_of_no_sems (by decide) r.2⟩)
    (Cert.RefExpertsIdeal.Value.run (F := Ideal) m g)

/-- The input projection's kernel and its reference leave the same rows. -/
theorem inproj : Cert.algebraic_InprojIdeal_RefInprojIdeal (hInprojIdeal := Cert.InprojIdeal.Gen.facts)
    (hRefInprojIdeal := Cert.RefInprojIdeal.Gen.facts) := by
  intro m g m' g' _ hag
  refine ⟨fun c => InprojValue.whole m c, ?_, ?_⟩
  · exact (θ_run _ _ _).mono (fun r h c => ⟨(h c).1.trans (InprojValue.final m c), (h c).2⟩) (Cert.InprojIdeal.Value.run_blocks m g)
  · refine (θ_run _ _ _).mono (fun r h c => ⟨(h c).1.trans ?_, (h c).2⟩) (Cert.RefInprojIdeal.Value.run (F := Ideal) m' g')
    rw [Cert.RefInprojIdeal.Read.val_main_v262_eq]
    refine (InprojRef.result_eq _ _ _ _ _ _).trans ?_
    show InprojValue.result (m' ((c.tc : Thread Cert.RefInprojIdeal.nD Cert.RefInprojIdeal.τ).loc Cert.RefInprojIdeal.main_arg0))
      (m' ((c.tc : Thread Cert.RefInprojIdeal.nD Cert.RefInprojIdeal.τ).loc Cert.RefInprojIdeal.main_arg1))
      (m' ((c.tc : Thread Cert.RefInprojIdeal.nD Cert.RefInprojIdeal.τ).loc Cert.RefInprojIdeal.main_arg2))
      (m' ((c.tc : Thread Cert.RefInprojIdeal.nD Cert.RefInprojIdeal.τ).loc Cert.RefInprojIdeal.main_arg3))
      (m' ((c.tc : Thread Cert.RefInprojIdeal.nD Cert.RefInprojIdeal.τ).loc Cert.RefInprojIdeal.main_arg4))
      (m' ((c.tc : Thread Cert.RefInprojIdeal.nD Cert.RefInprojIdeal.τ).loc Cert.RefInprojIdeal.main_arg5)) = InprojValue.whole m c
    rw [(hag c).1, (hag c).2.1, (hag c).2.2.1, (hag c).2.2.2.1, (hag c).2.2.2.2.1, (hag c).2.2.2.2.2]
    unfold InprojValue.whole
    rw [Cert.InprojIdeal.Gen.V_main_arg0, Cert.InprojIdeal.Gen.V_main_arg1, Cert.InprojIdeal.Gen.V_main_arg2,
      Cert.InprojIdeal.Gen.V_main_arg3, Cert.InprojIdeal.Gen.V_main_arg4, Cert.InprojIdeal.Gen.V_main_arg5]

/-- The input projection's reference runs to its end, leaves its arguments as they were, and declares no semaphore. -/
theorem inproj_reference_frame : Cert.quiescent_RefInprojIdeal (hRefInprojIdeal := Cert.RefInprojIdeal.Gen.facts) := fun m g _ =>
  (θ_run Cert.RefInprojIdeal.defs _ _).mono
    (fun r h => ⟨fun c => (h c).2, Idealize.ShloMosaic.sem_eq_zero_of_no_sems (by decide) r.2⟩)
    (Cert.RefInprojIdeal.Value.run (F := Ideal) m g)

/-- All the claims. -/
theorem claim : Cert.Claim := ⟨Cert.Swa2.Gen.facts, Cert.Swa2Ideal.Gen.facts, Cert.Ref2Ideal.Gen.facts,
  Cert.Dense.Gen.facts, Cert.DenseIdeal.Gen.facts, Cert.RefDenseIdeal.Gen.facts, Cert.Experts.Gen.facts, Cert.ExpertsIdeal.Gen.facts,
  Cert.RefExpertsIdeal.Gen.facts, Cert.Inproj.Gen.facts, Cert.InprojIdeal.Gen.facts, Cert.RefInprojIdeal.Gen.facts,
  Cert.Pre_finite_queries_keys.Gen.facts, Cert.Pre_experts_exist.Gen.facts,
  fun m g _ => Cert.Swa2.Gen.frame m g,
  fun m g _ => Cert.Swa2Ideal.Gen.frame m g,
  fun m g _ => Cert.Swa2Ideal.Gen.frame m g,
  reference_frame,
  fun m g _ => reference_frame m g trivial,
  fun m g _ => Cert.Dense.Gen.frame m g,
  fun m g _ => Cert.DenseIdeal.Gen.frame m g,
  dense_reference_frame,
  fun m g h => ExpertsPre.frame_bits m g (@ExpertsPre.named_of_pre Cert.Pre_experts_exist.Gen.facts Bits _ _ _ _ _ _ _ (h 0)),
  fun m g h => ExpertsPre.frame m g (experts_named h),
  experts_reference_frame,
  fun m g _ => experts_reference_frame m g trivial,
  fun m g _ => Cert.Inproj.Gen.frame m g,
  fun m g _ => Cert.InprojIdeal.Gen.frame m g,
  inproj_reference_frame,
  IdealRules.named_const.statement Cert.Swa2Ideal.κ "mask" .f32 0xF149F2CA#32 ⊥ rfl,
  attention,
  trivial,
  dense,
  trivial,
  experts,
  trivial,
  inproj⟩

end Cert.Proof

end
